-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_KernelUp (m : (ℓ : Loc Cert.KernelUp.nD Cert.KernelUp.τ Cert.KernelUp.sig) → Buf (Elt Bits) ℓ) : Prop :=
  True

def Pre_KernelUpIdeal (m : (ℓ : Loc Cert.KernelUpIdeal.nD Cert.KernelUpIdeal.τ Cert.KernelUpIdeal.sig) → Buf (Elt Ideal) ℓ) : Prop :=
  True

def Pre_ReferenceUpIdeal (m : (ℓ : Loc Cert.ReferenceUpIdeal.nD Cert.ReferenceUpIdeal.τ Cert.ReferenceUpIdeal.sig) → Buf (Elt Ideal) ℓ) : Prop :=
  True

def Pre_KernelDown (m : (ℓ : Loc Cert.KernelDown.nD Cert.KernelDown.τ Cert.KernelDown.sig) → Buf (Elt Bits) ℓ) : Prop :=
  True

def Pre_KernelDownIdeal (m : (ℓ : Loc Cert.KernelDownIdeal.nD Cert.KernelDownIdeal.τ Cert.KernelDownIdeal.sig) → Buf (Elt Ideal) ℓ) : Prop :=
  True

def Pre_ReferenceDownIdeal (m : (ℓ : Loc Cert.ReferenceDownIdeal.nD Cert.ReferenceDownIdeal.τ Cert.ReferenceDownIdeal.sig) → Buf (Elt Ideal) ℓ) : Prop :=
  True

def Pre_KernelProj (m : (ℓ : Loc Cert.KernelProj.nD Cert.KernelProj.τ Cert.KernelProj.sig) → Buf (Elt Bits) ℓ) : Prop :=
  True

def Pre_KernelProjIdeal (m : (ℓ : Loc Cert.KernelProjIdeal.nD Cert.KernelProjIdeal.τ Cert.KernelProjIdeal.sig) → Buf (Elt Ideal) ℓ) : Prop :=
  True

def Pre_ReferenceProjIdeal (m : (ℓ : Loc Cert.ReferenceProjIdeal.nD Cert.ReferenceProjIdeal.τ Cert.ReferenceProjIdeal.sig) → Buf (Elt Ideal) ℓ) : Prop :=
  True

def Pre_KernelMerge (m : (ℓ : Loc Cert.KernelMerge.nD Cert.KernelMerge.τ Cert.KernelMerge.sig) → Buf (Elt Bits) ℓ) : Prop :=
  True

def Pre_KernelMergeIdeal (m : (ℓ : Loc Cert.KernelMergeIdeal.nD Cert.KernelMergeIdeal.τ Cert.KernelMergeIdeal.sig) → Buf (Elt Ideal) ℓ) : Prop :=
  True

def Pre_ReferenceMergeIdeal (m : (ℓ : Loc Cert.ReferenceMergeIdeal.nD Cert.ReferenceMergeIdeal.τ Cert.ReferenceMergeIdeal.sig) → Buf (Elt Ideal) ℓ) : Prop :=
  True

def Pre_KernelOut (m : (ℓ : Loc Cert.KernelOut.nD Cert.KernelOut.τ Cert.KernelOut.sig) → Buf (Elt Bits) ℓ) : Prop :=
  True

def Pre_KernelOutIdeal (m : (ℓ : Loc Cert.KernelOutIdeal.nD Cert.KernelOutIdeal.τ Cert.KernelOutIdeal.sig) → Buf (Elt Ideal) ℓ) : Prop :=
  True

def Pre_ReferenceOutIdeal (m : (ℓ : Loc Cert.ReferenceOutIdeal.nD Cert.ReferenceOutIdeal.τ Cert.ReferenceOutIdeal.sig) → Buf (Elt Ideal) ℓ) : Prop :=
  True

def Pre_KernelConv (m : (ℓ : Loc Cert.KernelConv.nD Cert.KernelConv.τ Cert.KernelConv.sig) → Buf (Elt Bits) ℓ) : Prop :=
  True

def Pre_KernelConvIdeal (m : (ℓ : Loc Cert.KernelConvIdeal.nD Cert.KernelConvIdeal.τ Cert.KernelConvIdeal.sig) → Buf (Elt Ideal) ℓ) : Prop :=
  True

def Pre_ReferenceConvIdeal (m : (ℓ : Loc Cert.ReferenceConvIdeal.nD Cert.ReferenceConvIdeal.τ Cert.ReferenceConvIdeal.sig) → Buf (Elt Ideal) ℓ) : Prop :=
  True

def Pre_KernelQuery (m : (ℓ : Loc Cert.KernelQuery.nD Cert.KernelQuery.τ Cert.KernelQuery.sig) → Buf (Elt Bits) ℓ) : Prop :=
  True

def Pre_KernelQueryIdeal (m : (ℓ : Loc Cert.KernelQueryIdeal.nD Cert.KernelQueryIdeal.τ Cert.KernelQueryIdeal.sig) → Buf (Elt Ideal) ℓ) : Prop :=
  True

def Pre_ReferenceQueryIdeal (m : (ℓ : Loc Cert.ReferenceQueryIdeal.nD Cert.ReferenceQueryIdeal.τ Cert.ReferenceQueryIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_KernelUp [hKernelUp : Cert.KernelUp.Facts] : Prop :=
  ∀ (m : (ℓ : Loc Cert.KernelUp.nD Cert.KernelUp.τ Cert.KernelUp.sig) → Buf (Elt Bits) ℓ) (g : Dev Cert.KernelUp.nD → PrngReg), Pre_KernelUp m →
    θ_run (Cert.KernelUp.defs (F := Bits)) (onTc (τ := Cert.KernelUp.τ) (Cert.KernelUp.main (F := Bits))) ⟨m, fun _ => 0, g⟩ (fun r => (∀ c : Dev Cert.KernelUp.nD,
      r.2.mem ((c.tc : Thread Cert.KernelUp.nD Cert.KernelUp.τ).loc Cert.KernelUp.main_arg0) = m ((c.tc : Thread Cert.KernelUp.nD Cert.KernelUp.τ).loc Cert.KernelUp.main_arg0)
      ∧ r.2.mem ((c.tc : Thread Cert.KernelUp.nD Cert.KernelUp.τ).loc Cert.KernelUp.main_arg1) = m ((c.tc : Thread Cert.KernelUp.nD Cert.KernelUp.τ).loc Cert.KernelUp.main_arg1))
      ∧ r.2.sem = fun _ => 0)

def quiescent_KernelUpIdeal [hKernelUpIdeal : Cert.KernelUpIdeal.Facts] : Prop :=
  ∀ (m : (ℓ : Loc Cert.KernelUpIdeal.nD Cert.KernelUpIdeal.τ Cert.KernelUpIdeal.sig) → Buf (Elt Ideal) ℓ) (g : Dev Cert.KernelUpIdeal.nD → PrngReg), Pre_KernelUpIdeal m →
    θ_run (Cert.KernelUpIdeal.defs (F := Ideal)) (onTc (τ := Cert.KernelUpIdeal.τ) (Cert.KernelUpIdeal.main (F := Ideal))) ⟨m, fun _ => 0, g⟩ (fun r => (∀ c : Dev Cert.KernelUpIdeal.nD,
      r.2.mem ((c.tc : Thread Cert.KernelUpIdeal.nD Cert.KernelUpIdeal.τ).loc Cert.KernelUpIdeal.main_arg0) = m ((c.tc : Thread Cert.KernelUpIdeal.nD Cert.KernelUpIdeal.τ).loc Cert.KernelUpIdeal.main_arg0)
      ∧ r.2.mem ((c.tc : Thread Cert.KernelUpIdeal.nD Cert.KernelUpIdeal.τ).loc Cert.KernelUpIdeal.main_arg1) = m ((c.tc : Thread Cert.KernelUpIdeal.nD Cert.KernelUpIdeal.τ).loc Cert.KernelUpIdeal.main_arg1))
      ∧ r.2.sem = fun _ => 0)

def quiescent_ReferenceUpIdeal [hReferenceUpIdeal : Cert.ReferenceUpIdeal.Facts] : Prop :=
  ∀ (m : (ℓ : Loc Cert.ReferenceUpIdeal.nD Cert.ReferenceUpIdeal.τ Cert.ReferenceUpIdeal.sig) → Buf (Elt Ideal) ℓ) (g : Dev Cert.ReferenceUpIdeal.nD → PrngReg), Pre_ReferenceUpIdeal m →
    θ_run (Cert.ReferenceUpIdeal.defs (F := Ideal)) (onTc (τ := Cert.ReferenceUpIdeal.τ) (Cert.ReferenceUpIdeal.main (F := Ideal))) ⟨m, fun _ => 0, g⟩ (fun r => (∀ c : Dev Cert.ReferenceUpIdeal.nD,
      r.2.mem ((c.tc : Thread Cert.ReferenceUpIdeal.nD Cert.ReferenceUpIdeal.τ).loc Cert.ReferenceUpIdeal.main_arg0) = m ((c.tc : Thread Cert.ReferenceUpIdeal.nD Cert.ReferenceUpIdeal.τ).loc Cert.ReferenceUpIdeal.main_arg0)
      ∧ r.2.mem ((c.tc : Thread Cert.ReferenceUpIdeal.nD Cert.ReferenceUpIdeal.τ).loc Cert.ReferenceUpIdeal.main_arg1) = m ((c.tc : Thread Cert.ReferenceUpIdeal.nD Cert.ReferenceUpIdeal.τ).loc Cert.ReferenceUpIdeal.main_arg1))
      ∧ r.2.sem = fun _ => 0)

def quiescent_KernelDown [hKernelDown : Cert.KernelDown.Facts] : Prop :=
  ∀ (m : (ℓ : Loc Cert.KernelDown.nD Cert.KernelDown.τ Cert.KernelDown.sig) → Buf (Elt Bits) ℓ) (g : Dev Cert.KernelDown.nD → PrngReg), Pre_KernelDown m →
    θ_run (Cert.KernelDown.defs (F := Bits)) (onTc (τ := Cert.KernelDown.τ) (Cert.KernelDown.main (F := Bits))) ⟨m, fun _ => 0, g⟩ (fun r => (∀ c : Dev Cert.KernelDown.nD,
      r.2.mem ((c.tc : Thread Cert.KernelDown.nD Cert.KernelDown.τ).loc Cert.KernelDown.main_arg0) = m ((c.tc : Thread Cert.KernelDown.nD Cert.KernelDown.τ).loc Cert.KernelDown.main_arg0)
      ∧ r.2.mem ((c.tc : Thread Cert.KernelDown.nD Cert.KernelDown.τ).loc Cert.KernelDown.main_arg1) = m ((c.tc : Thread Cert.KernelDown.nD Cert.KernelDown.τ).loc Cert.KernelDown.main_arg1)
      ∧ r.2.mem ((c.tc : Thread Cert.KernelDown.nD Cert.KernelDown.τ).loc Cert.KernelDown.main_arg2) = m ((c.tc : Thread Cert.KernelDown.nD Cert.KernelDown.τ).loc Cert.KernelDown.main_arg2)
      ∧ r.2.mem ((c.tc : Thread Cert.KernelDown.nD Cert.KernelDown.τ).loc Cert.KernelDown.main_arg3) = m ((c.tc : Thread Cert.KernelDown.nD Cert.KernelDown.τ).loc Cert.KernelDown.main_arg3)
      ∧ r.2.mem ((c.tc : Thread Cert.KernelDown.nD Cert.KernelDown.τ).loc Cert.KernelDown.main_arg4) = m ((c.tc : Thread Cert.KernelDown.nD Cert.KernelDown.τ).loc Cert.KernelDown.main_arg4))
      ∧ r.2.sem = fun _ => 0)

def quiescent_KernelDownIdeal [hKernelDownIdeal : Cert.KernelDownIdeal.Facts] : Prop :=
  ∀ (m : (ℓ : Loc Cert.KernelDownIdeal.nD Cert.KernelDownIdeal.τ Cert.KernelDownIdeal.sig) → Buf (Elt Ideal) ℓ) (g : Dev Cert.KernelDownIdeal.nD → PrngReg), Pre_KernelDownIdeal m →
    θ_run (Cert.KernelDownIdeal.defs (F := Ideal)) (onTc (τ := Cert.KernelDownIdeal.τ) (Cert.KernelDownIdeal.main (F := Ideal))) ⟨m, fun _ => 0, g⟩ (fun r => (∀ c : Dev Cert.KernelDownIdeal.nD,
      r.2.mem ((c.tc : Thread Cert.KernelDownIdeal.nD Cert.KernelDownIdeal.τ).loc Cert.KernelDownIdeal.main_arg0) = m ((c.tc : Thread Cert.KernelDownIdeal.nD Cert.KernelDownIdeal.τ).loc Cert.KernelDownIdeal.main_arg0)
      ∧ r.2.mem ((c.tc : Thread Cert.KernelDownIdeal.nD Cert.KernelDownIdeal.τ).loc Cert.KernelDownIdeal.main_arg1) = m ((c.tc : Thread Cert.KernelDownIdeal.nD Cert.KernelDownIdeal.τ).loc Cert.KernelDownIdeal.main_arg1)
      ∧ r.2.mem ((c.tc : Thread Cert.KernelDownIdeal.nD Cert.KernelDownIdeal.τ).loc Cert.KernelDownIdeal.main_arg2) = m ((c.tc : Thread Cert.KernelDownIdeal.nD Cert.KernelDownIdeal.τ).loc Cert.KernelDownIdeal.main_arg2)
      ∧ r.2.mem ((c.tc : Thread Cert.KernelDownIdeal.nD Cert.KernelDownIdeal.τ).loc Cert.KernelDownIdeal.main_arg3) = m ((c.tc : Thread Cert.KernelDownIdeal.nD Cert.KernelDownIdeal.τ).loc Cert.KernelDownIdeal.main_arg3)
      ∧ r.2.mem ((c.tc : Thread Cert.KernelDownIdeal.nD Cert.KernelDownIdeal.τ).loc Cert.KernelDownIdeal.main_arg4) = m ((c.tc : Thread Cert.KernelDownIdeal.nD Cert.KernelDownIdeal.τ).loc Cert.KernelDownIdeal.main_arg4))
      ∧ r.2.sem = fun _ => 0)

def quiescent_ReferenceDownIdeal [hReferenceDownIdeal : Cert.ReferenceDownIdeal.Facts] : Prop :=
  ∀ (m : (ℓ : Loc Cert.ReferenceDownIdeal.nD Cert.ReferenceDownIdeal.τ Cert.ReferenceDownIdeal.sig) → Buf (Elt Ideal) ℓ) (g : Dev Cert.ReferenceDownIdeal.nD → PrngReg), Pre_ReferenceDownIdeal m →
    θ_run (Cert.ReferenceDownIdeal.defs (F := Ideal)) (onTc (τ := Cert.ReferenceDownIdeal.τ) (Cert.ReferenceDownIdeal.main (F := Ideal))) ⟨m, fun _ => 0, g⟩ (fun r => (∀ c : Dev Cert.ReferenceDownIdeal.nD,
      r.2.mem ((c.tc : Thread Cert.ReferenceDownIdeal.nD Cert.ReferenceDownIdeal.τ).loc Cert.ReferenceDownIdeal.main_arg0) = m ((c.tc : Thread Cert.ReferenceDownIdeal.nD Cert.ReferenceDownIdeal.τ).loc Cert.ReferenceDownIdeal.main_arg0)
      ∧ r.2.mem ((c.tc : Thread Cert.ReferenceDownIdeal.nD Cert.ReferenceDownIdeal.τ).loc Cert.ReferenceDownIdeal.main_arg1) = m ((c.tc : Thread Cert.ReferenceDownIdeal.nD Cert.ReferenceDownIdeal.τ).loc Cert.ReferenceDownIdeal.main_arg1)
      ∧ r.2.mem ((c.tc : Thread Cert.ReferenceDownIdeal.nD Cert.ReferenceDownIdeal.τ).loc Cert.ReferenceDownIdeal.main_arg2) = m ((c.tc : Thread Cert.ReferenceDownIdeal.nD Cert.ReferenceDownIdeal.τ).loc Cert.ReferenceDownIdeal.main_arg2)
      ∧ r.2.mem ((c.tc : Thread Cert.ReferenceDownIdeal.nD Cert.ReferenceDownIdeal.τ).loc Cert.ReferenceDownIdeal.main_arg3) = m ((c.tc : Thread Cert.ReferenceDownIdeal.nD Cert.ReferenceDownIdeal.τ).loc Cert.ReferenceDownIdeal.main_arg3)
      ∧ r.2.mem ((c.tc : Thread Cert.ReferenceDownIdeal.nD Cert.ReferenceDownIdeal.τ).loc Cert.ReferenceDownIdeal.main_arg4) = m ((c.tc : Thread Cert.ReferenceDownIdeal.nD Cert.ReferenceDownIdeal.τ).loc Cert.ReferenceDownIdeal.main_arg4))
      ∧ r.2.sem = fun _ => 0)

def quiescent_KernelProj [hKernelProj : Cert.KernelProj.Facts] : Prop :=
  ∀ (m : (ℓ : Loc Cert.KernelProj.nD Cert.KernelProj.τ Cert.KernelProj.sig) → Buf (Elt Bits) ℓ) (g : Dev Cert.KernelProj.nD → PrngReg), Pre_KernelProj m →
    θ_run (Cert.KernelProj.defs (F := Bits)) (onTc (τ := Cert.KernelProj.τ) (Cert.KernelProj.main (F := Bits))) ⟨m, fun _ => 0, g⟩ (fun r => (∀ c : Dev Cert.KernelProj.nD,
      r.2.mem ((c.tc : Thread Cert.KernelProj.nD Cert.KernelProj.τ).loc Cert.KernelProj.main_arg0) = m ((c.tc : Thread Cert.KernelProj.nD Cert.KernelProj.τ).loc Cert.KernelProj.main_arg0)
      ∧ r.2.mem ((c.tc : Thread Cert.KernelProj.nD Cert.KernelProj.τ).loc Cert.KernelProj.main_arg1) = m ((c.tc : Thread Cert.KernelProj.nD Cert.KernelProj.τ).loc Cert.KernelProj.main_arg1))
      ∧ r.2.sem = fun _ => 0)

def quiescent_KernelProjIdeal [hKernelProjIdeal : Cert.KernelProjIdeal.Facts] : Prop :=
  ∀ (m : (ℓ : Loc Cert.KernelProjIdeal.nD Cert.KernelProjIdeal.τ Cert.KernelProjIdeal.sig) → Buf (Elt Ideal) ℓ) (g : Dev Cert.KernelProjIdeal.nD → PrngReg), Pre_KernelProjIdeal m →
    θ_run (Cert.KernelProjIdeal.defs (F := Ideal)) (onTc (τ := Cert.KernelProjIdeal.τ) (Cert.KernelProjIdeal.main (F := Ideal))) ⟨m, fun _ => 0, g⟩ (fun r => (∀ c : Dev Cert.KernelProjIdeal.nD,
      r.2.mem ((c.tc : Thread Cert.KernelProjIdeal.nD Cert.KernelProjIdeal.τ).loc Cert.KernelProjIdeal.main_arg0) = m ((c.tc : Thread Cert.KernelProjIdeal.nD Cert.KernelProjIdeal.τ).loc Cert.KernelProjIdeal.main_arg0)
      ∧ r.2.mem ((c.tc : Thread Cert.KernelProjIdeal.nD Cert.KernelProjIdeal.τ).loc Cert.KernelProjIdeal.main_arg1) = m ((c.tc : Thread Cert.KernelProjIdeal.nD Cert.KernelProjIdeal.τ).loc Cert.KernelProjIdeal.main_arg1))
      ∧ r.2.sem = fun _ => 0)

def quiescent_ReferenceProjIdeal [hReferenceProjIdeal : Cert.ReferenceProjIdeal.Facts] : Prop :=
  ∀ (m : (ℓ : Loc Cert.ReferenceProjIdeal.nD Cert.ReferenceProjIdeal.τ Cert.ReferenceProjIdeal.sig) → Buf (Elt Ideal) ℓ) (g : Dev Cert.ReferenceProjIdeal.nD → PrngReg), Pre_ReferenceProjIdeal m →
    θ_run (Cert.ReferenceProjIdeal.defs (F := Ideal)) (onTc (τ := Cert.ReferenceProjIdeal.τ) (Cert.ReferenceProjIdeal.main (F := Ideal))) ⟨m, fun _ => 0, g⟩ (fun r => (∀ c : Dev Cert.ReferenceProjIdeal.nD,
      r.2.mem ((c.tc : Thread Cert.ReferenceProjIdeal.nD Cert.ReferenceProjIdeal.τ).loc Cert.ReferenceProjIdeal.main_arg0) = m ((c.tc : Thread Cert.ReferenceProjIdeal.nD Cert.ReferenceProjIdeal.τ).loc Cert.ReferenceProjIdeal.main_arg0)
      ∧ r.2.mem ((c.tc : Thread Cert.ReferenceProjIdeal.nD Cert.ReferenceProjIdeal.τ).loc Cert.ReferenceProjIdeal.main_arg1) = m ((c.tc : Thread Cert.ReferenceProjIdeal.nD Cert.ReferenceProjIdeal.τ).loc Cert.ReferenceProjIdeal.main_arg1))
      ∧ r.2.sem = fun _ => 0)

def quiescent_KernelMerge [hKernelMerge : Cert.KernelMerge.Facts] : Prop :=
  ∀ (m : (ℓ : Loc Cert.KernelMerge.nD Cert.KernelMerge.τ Cert.KernelMerge.sig) → Buf (Elt Bits) ℓ) (g : Dev Cert.KernelMerge.nD → PrngReg), Pre_KernelMerge m →
    θ_run (Cert.KernelMerge.defs (F := Bits)) (onTc (τ := Cert.KernelMerge.τ) (Cert.KernelMerge.main (F := Bits))) ⟨m, fun _ => 0, g⟩ (fun r => (∀ c : Dev Cert.KernelMerge.nD,
      r.2.mem ((c.tc : Thread Cert.KernelMerge.nD Cert.KernelMerge.τ).loc Cert.KernelMerge.main_arg0) = m ((c.tc : Thread Cert.KernelMerge.nD Cert.KernelMerge.τ).loc Cert.KernelMerge.main_arg0)
      ∧ r.2.mem ((c.tc : Thread Cert.KernelMerge.nD Cert.KernelMerge.τ).loc Cert.KernelMerge.main_arg1) = m ((c.tc : Thread Cert.KernelMerge.nD Cert.KernelMerge.τ).loc Cert.KernelMerge.main_arg1)
      ∧ r.2.mem ((c.tc : Thread Cert.KernelMerge.nD Cert.KernelMerge.τ).loc Cert.KernelMerge.main_arg2) = m ((c.tc : Thread Cert.KernelMerge.nD Cert.KernelMerge.τ).loc Cert.KernelMerge.main_arg2)
      ∧ r.2.mem ((c.tc : Thread Cert.KernelMerge.nD Cert.KernelMerge.τ).loc Cert.KernelMerge.main_arg3) = m ((c.tc : Thread Cert.KernelMerge.nD Cert.KernelMerge.τ).loc Cert.KernelMerge.main_arg3)
      ∧ r.2.mem ((c.tc : Thread Cert.KernelMerge.nD Cert.KernelMerge.τ).loc Cert.KernelMerge.main_arg4) = m ((c.tc : Thread Cert.KernelMerge.nD Cert.KernelMerge.τ).loc Cert.KernelMerge.main_arg4)
      ∧ r.2.mem ((c.tc : Thread Cert.KernelMerge.nD Cert.KernelMerge.τ).loc Cert.KernelMerge.main_arg5) = m ((c.tc : Thread Cert.KernelMerge.nD Cert.KernelMerge.τ).loc Cert.KernelMerge.main_arg5)
      ∧ r.2.mem ((c.tc : Thread Cert.KernelMerge.nD Cert.KernelMerge.τ).loc Cert.KernelMerge.main_arg6) = m ((c.tc : Thread Cert.KernelMerge.nD Cert.KernelMerge.τ).loc Cert.KernelMerge.main_arg6))
      ∧ r.2.sem = fun _ => 0)

def quiescent_KernelMergeIdeal [hKernelMergeIdeal : Cert.KernelMergeIdeal.Facts] : Prop :=
  ∀ (m : (ℓ : Loc Cert.KernelMergeIdeal.nD Cert.KernelMergeIdeal.τ Cert.KernelMergeIdeal.sig) → Buf (Elt Ideal) ℓ) (g : Dev Cert.KernelMergeIdeal.nD → PrngReg), Pre_KernelMergeIdeal m →
    θ_run (Cert.KernelMergeIdeal.defs (F := Ideal)) (onTc (τ := Cert.KernelMergeIdeal.τ) (Cert.KernelMergeIdeal.main (F := Ideal))) ⟨m, fun _ => 0, g⟩ (fun r => (∀ c : Dev Cert.KernelMergeIdeal.nD,
      r.2.mem ((c.tc : Thread Cert.KernelMergeIdeal.nD Cert.KernelMergeIdeal.τ).loc Cert.KernelMergeIdeal.main_arg0) = m ((c.tc : Thread Cert.KernelMergeIdeal.nD Cert.KernelMergeIdeal.τ).loc Cert.KernelMergeIdeal.main_arg0)
      ∧ r.2.mem ((c.tc : Thread Cert.KernelMergeIdeal.nD Cert.KernelMergeIdeal.τ).loc Cert.KernelMergeIdeal.main_arg1) = m ((c.tc : Thread Cert.KernelMergeIdeal.nD Cert.KernelMergeIdeal.τ).loc Cert.KernelMergeIdeal.main_arg1)
      ∧ r.2.mem ((c.tc : Thread Cert.KernelMergeIdeal.nD Cert.KernelMergeIdeal.τ).loc Cert.KernelMergeIdeal.main_arg2) = m ((c.tc : Thread Cert.KernelMergeIdeal.nD Cert.KernelMergeIdeal.τ).loc Cert.KernelMergeIdeal.main_arg2)
      ∧ r.2.mem ((c.tc : Thread Cert.KernelMergeIdeal.nD Cert.KernelMergeIdeal.τ).loc Cert.KernelMergeIdeal.main_arg3) = m ((c.tc : Thread Cert.KernelMergeIdeal.nD Cert.KernelMergeIdeal.τ).loc Cert.KernelMergeIdeal.main_arg3)
      ∧ r.2.mem ((c.tc : Thread Cert.KernelMergeIdeal.nD Cert.KernelMergeIdeal.τ).loc Cert.KernelMergeIdeal.main_arg4) = m ((c.tc : Thread Cert.KernelMergeIdeal.nD Cert.KernelMergeIdeal.τ).loc Cert.KernelMergeIdeal.main_arg4)
      ∧ r.2.mem ((c.tc : Thread Cert.KernelMergeIdeal.nD Cert.KernelMergeIdeal.τ).loc Cert.KernelMergeIdeal.main_arg5) = m ((c.tc : Thread Cert.KernelMergeIdeal.nD Cert.KernelMergeIdeal.τ).loc Cert.KernelMergeIdeal.main_arg5)
      ∧ r.2.mem ((c.tc : Thread Cert.KernelMergeIdeal.nD Cert.KernelMergeIdeal.τ).loc Cert.KernelMergeIdeal.main_arg6) = m ((c.tc : Thread Cert.KernelMergeIdeal.nD Cert.KernelMergeIdeal.τ).loc Cert.KernelMergeIdeal.main_arg6))
      ∧ r.2.sem = fun _ => 0)

def quiescent_ReferenceMergeIdeal [hReferenceMergeIdeal : Cert.ReferenceMergeIdeal.Facts] : Prop :=
  ∀ (m : (ℓ : Loc Cert.ReferenceMergeIdeal.nD Cert.ReferenceMergeIdeal.τ Cert.ReferenceMergeIdeal.sig) → Buf (Elt Ideal) ℓ) (g : Dev Cert.ReferenceMergeIdeal.nD → PrngReg), Pre_ReferenceMergeIdeal m →
    θ_run (Cert.ReferenceMergeIdeal.defs (F := Ideal)) (onTc (τ := Cert.ReferenceMergeIdeal.τ) (Cert.ReferenceMergeIdeal.main (F := Ideal))) ⟨m, fun _ => 0, g⟩ (fun r => (∀ c : Dev Cert.ReferenceMergeIdeal.nD,
      r.2.mem ((c.tc : Thread Cert.ReferenceMergeIdeal.nD Cert.ReferenceMergeIdeal.τ).loc Cert.ReferenceMergeIdeal.main_arg0) = m ((c.tc : Thread Cert.ReferenceMergeIdeal.nD Cert.ReferenceMergeIdeal.τ).loc Cert.ReferenceMergeIdeal.main_arg0)
      ∧ r.2.mem ((c.tc : Thread Cert.ReferenceMergeIdeal.nD Cert.ReferenceMergeIdeal.τ).loc Cert.ReferenceMergeIdeal.main_arg1) = m ((c.tc : Thread Cert.ReferenceMergeIdeal.nD Cert.ReferenceMergeIdeal.τ).loc Cert.ReferenceMergeIdeal.main_arg1)
      ∧ r.2.mem ((c.tc : Thread Cert.ReferenceMergeIdeal.nD Cert.ReferenceMergeIdeal.τ).loc Cert.ReferenceMergeIdeal.main_arg2) = m ((c.tc : Thread Cert.ReferenceMergeIdeal.nD Cert.ReferenceMergeIdeal.τ).loc Cert.ReferenceMergeIdeal.main_arg2)
      ∧ r.2.mem ((c.tc : Thread Cert.ReferenceMergeIdeal.nD Cert.ReferenceMergeIdeal.τ).loc Cert.ReferenceMergeIdeal.main_arg3) = m ((c.tc : Thread Cert.ReferenceMergeIdeal.nD Cert.ReferenceMergeIdeal.τ).loc Cert.ReferenceMergeIdeal.main_arg3)
      ∧ r.2.mem ((c.tc : Thread Cert.ReferenceMergeIdeal.nD Cert.ReferenceMergeIdeal.τ).loc Cert.ReferenceMergeIdeal.main_arg4) = m ((c.tc : Thread Cert.ReferenceMergeIdeal.nD Cert.ReferenceMergeIdeal.τ).loc Cert.ReferenceMergeIdeal.main_arg4)
      ∧ r.2.mem ((c.tc : Thread Cert.ReferenceMergeIdeal.nD Cert.ReferenceMergeIdeal.τ).loc Cert.ReferenceMergeIdeal.main_arg5) = m ((c.tc : Thread Cert.ReferenceMergeIdeal.nD Cert.ReferenceMergeIdeal.τ).loc Cert.ReferenceMergeIdeal.main_arg5)
      ∧ r.2.mem ((c.tc : Thread Cert.ReferenceMergeIdeal.nD Cert.ReferenceMergeIdeal.τ).loc Cert.ReferenceMergeIdeal.main_arg6) = m ((c.tc : Thread Cert.ReferenceMergeIdeal.nD Cert.ReferenceMergeIdeal.τ).loc Cert.ReferenceMergeIdeal.main_arg6))
      ∧ r.2.sem = fun _ => 0)

def quiescent_KernelOut [hKernelOut : Cert.KernelOut.Facts] : Prop :=
  ∀ (m : (ℓ : Loc Cert.KernelOut.nD Cert.KernelOut.τ Cert.KernelOut.sig) → Buf (Elt Bits) ℓ) (g : Dev Cert.KernelOut.nD → PrngReg), Pre_KernelOut m →
    θ_run (Cert.KernelOut.defs (F := Bits)) (onTc (τ := Cert.KernelOut.τ) (Cert.KernelOut.main (F := Bits))) ⟨m, fun _ => 0, g⟩ (fun r => (∀ c : Dev Cert.KernelOut.nD,
      r.2.mem ((c.tc : Thread Cert.KernelOut.nD Cert.KernelOut.τ).loc Cert.KernelOut.main_arg0) = m ((c.tc : Thread Cert.KernelOut.nD Cert.KernelOut.τ).loc Cert.KernelOut.main_arg0)
      ∧ r.2.mem ((c.tc : Thread Cert.KernelOut.nD Cert.KernelOut.τ).loc Cert.KernelOut.main_arg1) = m ((c.tc : Thread Cert.KernelOut.nD Cert.KernelOut.τ).loc Cert.KernelOut.main_arg1)
      ∧ r.2.mem ((c.tc : Thread Cert.KernelOut.nD Cert.KernelOut.τ).loc Cert.KernelOut.main_arg2) = m ((c.tc : Thread Cert.KernelOut.nD Cert.KernelOut.τ).loc Cert.KernelOut.main_arg2)
      ∧ r.2.mem ((c.tc : Thread Cert.KernelOut.nD Cert.KernelOut.τ).loc Cert.KernelOut.main_arg3) = m ((c.tc : Thread Cert.KernelOut.nD Cert.KernelOut.τ).loc Cert.KernelOut.main_arg3)
      ∧ r.2.mem ((c.tc : Thread Cert.KernelOut.nD Cert.KernelOut.τ).loc Cert.KernelOut.main_arg4) = m ((c.tc : Thread Cert.KernelOut.nD Cert.KernelOut.τ).loc Cert.KernelOut.main_arg4))
      ∧ r.2.sem = fun _ => 0)

def quiescent_KernelOutIdeal [hKernelOutIdeal : Cert.KernelOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg), Pre_KernelOutIdeal m →
    θ_run (Cert.KernelOutIdeal.defs (F := Ideal)) (onTc (τ := Cert.KernelOutIdeal.τ) (Cert.KernelOutIdeal.main (F := Ideal))) ⟨m, fun _ => 0, g⟩ (fun r => (∀ c : Dev Cert.KernelOutIdeal.nD,
      r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
      ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1)
      ∧ r.2.mem ((c.tc : Thread Cert.KernelOutIdeal.nD Cert.KernelOutIdeal.τ).loc Cert.KernelOutIdeal.main_arg2) = m ((c.tc : Thread Cert.KernelOutIdeal.nD Cert.KernelOutIdeal.τ).loc Cert.KernelOutIdeal.main_arg2)
      ∧ r.2.mem ((c.tc : Thread Cert.KernelOutIdeal.nD Cert.KernelOutIdeal.τ).loc Cert.KernelOutIdeal.main_arg3) = m ((c.tc : Thread Cert.KernelOutIdeal.nD Cert.KernelOutIdeal.τ).loc Cert.KernelOutIdeal.main_arg3)
      ∧ r.2.mem ((c.tc : Thread Cert.KernelOutIdeal.nD Cert.KernelOutIdeal.τ).loc Cert.KernelOutIdeal.main_arg4) = m ((c.tc : Thread Cert.KernelOutIdeal.nD Cert.KernelOutIdeal.τ).loc Cert.KernelOutIdeal.main_arg4))
      ∧ r.2.sem = fun _ => 0)

def quiescent_ReferenceOutIdeal [hReferenceOutIdeal : Cert.ReferenceOutIdeal.Facts] : Prop :=
  ∀ (m : (ℓ : Loc Cert.ReferenceOutIdeal.nD Cert.ReferenceOutIdeal.τ Cert.ReferenceOutIdeal.sig) → Buf (Elt Ideal) ℓ) (g : Dev Cert.ReferenceOutIdeal.nD → PrngReg), Pre_ReferenceOutIdeal m →
    θ_run (Cert.ReferenceOutIdeal.defs (F := Ideal)) (onTc (τ := Cert.ReferenceOutIdeal.τ) (Cert.ReferenceOutIdeal.main (F := Ideal))) ⟨m, fun _ => 0, g⟩ (fun r => (∀ c : Dev Cert.ReferenceOutIdeal.nD,
      r.2.mem ((c.tc : Thread Cert.ReferenceOutIdeal.nD Cert.ReferenceOutIdeal.τ).loc Cert.ReferenceOutIdeal.main_arg0) = m ((c.tc : Thread Cert.ReferenceOutIdeal.nD Cert.ReferenceOutIdeal.τ).loc Cert.ReferenceOutIdeal.main_arg0)
      ∧ r.2.mem ((c.tc : Thread Cert.ReferenceOutIdeal.nD Cert.ReferenceOutIdeal.τ).loc Cert.ReferenceOutIdeal.main_arg1) = m ((c.tc : Thread Cert.ReferenceOutIdeal.nD Cert.ReferenceOutIdeal.τ).loc Cert.ReferenceOutIdeal.main_arg1)
      ∧ r.2.mem ((c.tc : Thread Cert.ReferenceOutIdeal.nD Cert.ReferenceOutIdeal.τ).loc Cert.ReferenceOutIdeal.main_arg2) = m ((c.tc : Thread Cert.ReferenceOutIdeal.nD Cert.ReferenceOutIdeal.τ).loc Cert.ReferenceOutIdeal.main_arg2)
      ∧ r.2.mem ((c.tc : Thread Cert.ReferenceOutIdeal.nD Cert.ReferenceOutIdeal.τ).loc Cert.ReferenceOutIdeal.main_arg3) = m ((c.tc : Thread Cert.ReferenceOutIdeal.nD Cert.ReferenceOutIdeal.τ).loc Cert.ReferenceOutIdeal.main_arg3)
      ∧ r.2.mem ((c.tc : Thread Cert.ReferenceOutIdeal.nD Cert.ReferenceOutIdeal.τ).loc Cert.ReferenceOutIdeal.main_arg4) = m ((c.tc : Thread Cert.ReferenceOutIdeal.nD Cert.ReferenceOutIdeal.τ).loc Cert.ReferenceOutIdeal.main_arg4))
      ∧ r.2.sem = fun _ => 0)

def quiescent_KernelConv [hKernelConv : Cert.KernelConv.Facts] : Prop :=
  ∀ (m : (ℓ : Loc Cert.KernelConv.nD Cert.KernelConv.τ Cert.KernelConv.sig) → Buf (Elt Bits) ℓ) (g : Dev Cert.KernelConv.nD → PrngReg), Pre_KernelConv m →
    θ_run (Cert.KernelConv.defs (F := Bits)) (onTc (τ := Cert.KernelConv.τ) (Cert.KernelConv.main (F := Bits))) ⟨m, fun _ => 0, g⟩ (fun r => (∀ c : Dev Cert.KernelConv.nD,
      r.2.mem ((c.tc : Thread Cert.KernelConv.nD Cert.KernelConv.τ).loc Cert.KernelConv.main_arg0) = m ((c.tc : Thread Cert.KernelConv.nD Cert.KernelConv.τ).loc Cert.KernelConv.main_arg0)
      ∧ r.2.mem ((c.tc : Thread Cert.KernelConv.nD Cert.KernelConv.τ).loc Cert.KernelConv.main_arg1) = m ((c.tc : Thread Cert.KernelConv.nD Cert.KernelConv.τ).loc Cert.KernelConv.main_arg1))
      ∧ r.2.sem = fun _ => 0)

def quiescent_KernelConvIdeal [hKernelConvIdeal : Cert.KernelConvIdeal.Facts] : Prop :=
  ∀ (m : (ℓ : Loc Cert.KernelConvIdeal.nD Cert.KernelConvIdeal.τ Cert.KernelConvIdeal.sig) → Buf (Elt Ideal) ℓ) (g : Dev Cert.KernelConvIdeal.nD → PrngReg), Pre_KernelConvIdeal m →
    θ_run (Cert.KernelConvIdeal.defs (F := Ideal)) (onTc (τ := Cert.KernelConvIdeal.τ) (Cert.KernelConvIdeal.main (F := Ideal))) ⟨m, fun _ => 0, g⟩ (fun r => (∀ c : Dev Cert.KernelConvIdeal.nD,
      r.2.mem ((c.tc : Thread Cert.KernelConvIdeal.nD Cert.KernelConvIdeal.τ).loc Cert.KernelConvIdeal.main_arg0) = m ((c.tc : Thread Cert.KernelConvIdeal.nD Cert.KernelConvIdeal.τ).loc Cert.KernelConvIdeal.main_arg0)
      ∧ r.2.mem ((c.tc : Thread Cert.KernelConvIdeal.nD Cert.KernelConvIdeal.τ).loc Cert.KernelConvIdeal.main_arg1) = m ((c.tc : Thread Cert.KernelConvIdeal.nD Cert.KernelConvIdeal.τ).loc Cert.KernelConvIdeal.main_arg1))
      ∧ r.2.sem = fun _ => 0)

def quiescent_ReferenceConvIdeal [hReferenceConvIdeal : Cert.ReferenceConvIdeal.Facts] : Prop :=
  ∀ (m : (ℓ : Loc Cert.ReferenceConvIdeal.nD Cert.ReferenceConvIdeal.τ Cert.ReferenceConvIdeal.sig) → Buf (Elt Ideal) ℓ) (g : Dev Cert.ReferenceConvIdeal.nD → PrngReg), Pre_ReferenceConvIdeal m →
    θ_run (Cert.ReferenceConvIdeal.defs (F := Ideal)) (onTc (τ := Cert.ReferenceConvIdeal.τ) (Cert.ReferenceConvIdeal.main (F := Ideal))) ⟨m, fun _ => 0, g⟩ (fun r => (∀ c : Dev Cert.ReferenceConvIdeal.nD,
      r.2.mem ((c.tc : Thread Cert.ReferenceConvIdeal.nD Cert.ReferenceConvIdeal.τ).loc Cert.ReferenceConvIdeal.main_arg0) = m ((c.tc : Thread Cert.ReferenceConvIdeal.nD Cert.ReferenceConvIdeal.τ).loc Cert.ReferenceConvIdeal.main_arg0)
      ∧ r.2.mem ((c.tc : Thread Cert.ReferenceConvIdeal.nD Cert.ReferenceConvIdeal.τ).loc Cert.ReferenceConvIdeal.main_arg1) = m ((c.tc : Thread Cert.ReferenceConvIdeal.nD Cert.ReferenceConvIdeal.τ).loc Cert.ReferenceConvIdeal.main_arg1))
      ∧ r.2.sem = fun _ => 0)

def quiescent_KernelQuery [hKernelQuery : Cert.KernelQuery.Facts] : Prop :=
  ∀ (m : (ℓ : Loc Cert.KernelQuery.nD Cert.KernelQuery.τ Cert.KernelQuery.sig) → Buf (Elt Bits) ℓ) (g : Dev Cert.KernelQuery.nD → PrngReg), Pre_KernelQuery m →
    θ_run (Cert.KernelQuery.defs (F := Bits)) (onTc (τ := Cert.KernelQuery.τ) (Cert.KernelQuery.main (F := Bits))) ⟨m, fun _ => 0, g⟩ (fun r => (∀ c : Dev Cert.KernelQuery.nD,
      r.2.mem ((c.tc : Thread Cert.KernelQuery.nD Cert.KernelQuery.τ).loc Cert.KernelQuery.main_arg0) = m ((c.tc : Thread Cert.KernelQuery.nD Cert.KernelQuery.τ).loc Cert.KernelQuery.main_arg0)
      ∧ r.2.mem ((c.tc : Thread Cert.KernelQuery.nD Cert.KernelQuery.τ).loc Cert.KernelQuery.main_arg1) = m ((c.tc : Thread Cert.KernelQuery.nD Cert.KernelQuery.τ).loc Cert.KernelQuery.main_arg1))
      ∧ r.2.sem = fun _ => 0)

def quiescent_KernelQueryIdeal [hKernelQueryIdeal : Cert.KernelQueryIdeal.Facts] : Prop :=
  ∀ (m : (ℓ : Loc Cert.KernelQueryIdeal.nD Cert.KernelQueryIdeal.τ Cert.KernelQueryIdeal.sig) → Buf (Elt Ideal) ℓ) (g : Dev Cert.KernelQueryIdeal.nD → PrngReg), Pre_KernelQueryIdeal m →
    θ_run (Cert.KernelQueryIdeal.defs (F := Ideal)) (onTc (τ := Cert.KernelQueryIdeal.τ) (Cert.KernelQueryIdeal.main (F := Ideal))) ⟨m, fun _ => 0, g⟩ (fun r => (∀ c : Dev Cert.KernelQueryIdeal.nD,
      r.2.mem ((c.tc : Thread Cert.KernelQueryIdeal.nD Cert.KernelQueryIdeal.τ).loc Cert.KernelQueryIdeal.main_arg0) = m ((c.tc : Thread Cert.KernelQueryIdeal.nD Cert.KernelQueryIdeal.τ).loc Cert.KernelQueryIdeal.main_arg0)
      ∧ r.2.mem ((c.tc : Thread Cert.KernelQueryIdeal.nD Cert.KernelQueryIdeal.τ).loc Cert.KernelQueryIdeal.main_arg1) = m ((c.tc : Thread Cert.KernelQueryIdeal.nD Cert.KernelQueryIdeal.τ).loc Cert.KernelQueryIdeal.main_arg1))
      ∧ r.2.sem = fun _ => 0)

def quiescent_ReferenceQueryIdeal [hReferenceQueryIdeal : Cert.ReferenceQueryIdeal.Facts] : Prop :=
  ∀ (m : (ℓ : Loc Cert.ReferenceQueryIdeal.nD Cert.ReferenceQueryIdeal.τ Cert.ReferenceQueryIdeal.sig) → Buf (Elt Ideal) ℓ) (g : Dev Cert.ReferenceQueryIdeal.nD → PrngReg), Pre_ReferenceQueryIdeal m →
    θ_run (Cert.ReferenceQueryIdeal.defs (F := Ideal)) (onTc (τ := Cert.ReferenceQueryIdeal.τ) (Cert.ReferenceQueryIdeal.main (F := Ideal))) ⟨m, fun _ => 0, g⟩ (fun r => (∀ c : Dev Cert.ReferenceQueryIdeal.nD,
      r.2.mem ((c.tc : Thread Cert.ReferenceQueryIdeal.nD Cert.ReferenceQueryIdeal.τ).loc Cert.ReferenceQueryIdeal.main_arg0) = m ((c.tc : Thread Cert.ReferenceQueryIdeal.nD Cert.ReferenceQueryIdeal.τ).loc Cert.ReferenceQueryIdeal.main_arg0)
      ∧ r.2.mem ((c.tc : Thread Cert.ReferenceQueryIdeal.nD Cert.ReferenceQueryIdeal.τ).loc Cert.ReferenceQueryIdeal.main_arg1) = m ((c.tc : Thread Cert.ReferenceQueryIdeal.nD Cert.ReferenceQueryIdeal.τ).loc Cert.ReferenceQueryIdeal.main_arg1))
      ∧ r.2.sem = fun _ => 0)

def preserves_Kernel_KernelIdeal : Prop :=
  IdealRules.named_const.Statement Cert.KernelIdeal.κ "mask" .f32 0xF149F2CA#32 ⊥

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v17_0)) (v1 : (c : Dev Cert.KernelIdeal.nD) → Buf (Elt Ideal) ((c.tc : Thread Cert.KernelIdeal.nD Cert.KernelIdeal.τ).loc Cert.KernelIdeal.main_v17_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17_0) = v0 c
          ∧ r.2.mem ((c.tc : Thread Cert.KernelIdeal.nD Cert.KernelIdeal.τ).loc Cert.KernelIdeal.main_v17_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v95) = v0 c
          ∧ r.2.mem ((c.tc : Thread Cert.ReferenceIdeal.nD Cert.ReferenceIdeal.τ).loc Cert.ReferenceIdeal.main_v97) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_KernelUp_KernelUpIdeal : Prop :=
  True

def algebraic_KernelUpIdeal_ReferenceUpIdeal [hKernelUpIdeal : Cert.KernelUpIdeal.Facts] [hReferenceUpIdeal : Cert.ReferenceUpIdeal.Facts] : Prop :=
  ∀ (m : (ℓ : Loc Cert.KernelUpIdeal.nD Cert.KernelUpIdeal.τ Cert.KernelUpIdeal.sig) → Buf (Elt Ideal) ℓ) (g : Dev Cert.KernelUpIdeal.nD → PrngReg)
    (m' : (ℓ : Loc Cert.ReferenceUpIdeal.nD Cert.ReferenceUpIdeal.τ Cert.ReferenceUpIdeal.sig) → Buf (Elt Ideal) ℓ) (g' : Dev Cert.ReferenceUpIdeal.nD → PrngReg), Pre_KernelUpIdeal m →
    (∀ c : Dev Cert.KernelUpIdeal.nD,
      m' ((c.tc : Thread Cert.ReferenceUpIdeal.nD Cert.ReferenceUpIdeal.τ).loc Cert.ReferenceUpIdeal.main_arg0) = m ((c.tc : Thread Cert.KernelUpIdeal.nD Cert.KernelUpIdeal.τ).loc Cert.KernelUpIdeal.main_arg0)
      ∧ m' ((c.tc : Thread Cert.ReferenceUpIdeal.nD Cert.ReferenceUpIdeal.τ).loc Cert.ReferenceUpIdeal.main_arg1) = m ((c.tc : Thread Cert.KernelUpIdeal.nD Cert.KernelUpIdeal.τ).loc Cert.KernelUpIdeal.main_arg1)) →
    ∃ (v0 : (c : Dev Cert.KernelUpIdeal.nD) → Buf (Elt Ideal) ((c.tc : Thread Cert.KernelUpIdeal.nD Cert.KernelUpIdeal.τ).loc Cert.KernelUpIdeal.main_v1)),
      θ_run (Cert.KernelUpIdeal.defs (F := Ideal)) (onTc (τ := Cert.KernelUpIdeal.τ) (Cert.KernelUpIdeal.main (F := Ideal))) ⟨m, fun _ => 0, g⟩ (fun r => ∀ c : Dev Cert.KernelUpIdeal.nD,
          r.2.mem ((c.tc : Thread Cert.KernelUpIdeal.nD Cert.KernelUpIdeal.τ).loc Cert.KernelUpIdeal.main_v1) = v0 c
          ∧ r.2.mem ((c.tc : Thread Cert.KernelUpIdeal.nD Cert.KernelUpIdeal.τ).loc Cert.KernelUpIdeal.main_arg0) = m ((c.tc : Thread Cert.KernelUpIdeal.nD Cert.KernelUpIdeal.τ).loc Cert.KernelUpIdeal.main_arg0)
          ∧ r.2.mem ((c.tc : Thread Cert.KernelUpIdeal.nD Cert.KernelUpIdeal.τ).loc Cert.KernelUpIdeal.main_arg1) = m ((c.tc : Thread Cert.KernelUpIdeal.nD Cert.KernelUpIdeal.τ).loc Cert.KernelUpIdeal.main_arg1))
      ∧ θ_run (Cert.ReferenceUpIdeal.defs (F := Ideal)) (onTc (τ := Cert.ReferenceUpIdeal.τ) (Cert.ReferenceUpIdeal.main (F := Ideal))) ⟨m', fun _ => 0, g'⟩ (fun r => ∀ c : Dev Cert.ReferenceUpIdeal.nD,
          r.2.mem ((c.tc : Thread Cert.ReferenceUpIdeal.nD Cert.ReferenceUpIdeal.τ).loc Cert.ReferenceUpIdeal.main_v8) = v0 c
          ∧ r.2.mem ((c.tc : Thread Cert.ReferenceUpIdeal.nD Cert.ReferenceUpIdeal.τ).loc Cert.ReferenceUpIdeal.main_arg0) = m' ((c.tc : Thread Cert.ReferenceUpIdeal.nD Cert.ReferenceUpIdeal.τ).loc Cert.ReferenceUpIdeal.main_arg0)
          ∧ r.2.mem ((c.tc : Thread Cert.ReferenceUpIdeal.nD Cert.ReferenceUpIdeal.τ).loc Cert.ReferenceUpIdeal.main_arg1) = m' ((c.tc : Thread Cert.ReferenceUpIdeal.nD Cert.ReferenceUpIdeal.τ).loc Cert.ReferenceUpIdeal.main_arg1))

def preserves_KernelDown_KernelDownIdeal : Prop :=
  True

def algebraic_KernelDownIdeal_ReferenceDownIdeal [hKernelDownIdeal : Cert.KernelDownIdeal.Facts] [hReferenceDownIdeal : Cert.ReferenceDownIdeal.Facts] : Prop :=
  ∀ (m : (ℓ : Loc Cert.KernelDownIdeal.nD Cert.KernelDownIdeal.τ Cert.KernelDownIdeal.sig) → Buf (Elt Ideal) ℓ) (g : Dev Cert.KernelDownIdeal.nD → PrngReg)
    (m' : (ℓ : Loc Cert.ReferenceDownIdeal.nD Cert.ReferenceDownIdeal.τ Cert.ReferenceDownIdeal.sig) → Buf (Elt Ideal) ℓ) (g' : Dev Cert.ReferenceDownIdeal.nD → PrngReg), Pre_KernelDownIdeal m →
    (∀ c : Dev Cert.KernelDownIdeal.nD,
      m' ((c.tc : Thread Cert.ReferenceDownIdeal.nD Cert.ReferenceDownIdeal.τ).loc Cert.ReferenceDownIdeal.main_arg0) = m ((c.tc : Thread Cert.KernelDownIdeal.nD Cert.KernelDownIdeal.τ).loc Cert.KernelDownIdeal.main_arg0)
      ∧ m' ((c.tc : Thread Cert.ReferenceDownIdeal.nD Cert.ReferenceDownIdeal.τ).loc Cert.ReferenceDownIdeal.main_arg1) = m ((c.tc : Thread Cert.KernelDownIdeal.nD Cert.KernelDownIdeal.τ).loc Cert.KernelDownIdeal.main_arg1)
      ∧ m' ((c.tc : Thread Cert.ReferenceDownIdeal.nD Cert.ReferenceDownIdeal.τ).loc Cert.ReferenceDownIdeal.main_arg2) = m ((c.tc : Thread Cert.KernelDownIdeal.nD Cert.KernelDownIdeal.τ).loc Cert.KernelDownIdeal.main_arg2)
      ∧ m' ((c.tc : Thread Cert.ReferenceDownIdeal.nD Cert.ReferenceDownIdeal.τ).loc Cert.ReferenceDownIdeal.main_arg3) = m ((c.tc : Thread Cert.KernelDownIdeal.nD Cert.KernelDownIdeal.τ).loc Cert.KernelDownIdeal.main_arg3)
      ∧ m' ((c.tc : Thread Cert.ReferenceDownIdeal.nD Cert.ReferenceDownIdeal.τ).loc Cert.ReferenceDownIdeal.main_arg4) = m ((c.tc : Thread Cert.KernelDownIdeal.nD Cert.KernelDownIdeal.τ).loc Cert.KernelDownIdeal.main_arg4)) →
    ∃ (v0 : (c : Dev Cert.KernelDownIdeal.nD) → Buf (Elt Ideal) ((c.tc : Thread Cert.KernelDownIdeal.nD Cert.KernelDownIdeal.τ).loc Cert.KernelDownIdeal.main_v3_0)) (v1 : (c : Dev Cert.KernelDownIdeal.nD) → Buf (Elt Ideal) ((c.tc : Thread Cert.KernelDownIdeal.nD Cert.KernelDownIdeal.τ).loc Cert.KernelDownIdeal.main_v3_1)),
      θ_run (Cert.KernelDownIdeal.defs (F := Ideal)) (onTc (τ := Cert.KernelDownIdeal.τ) (Cert.KernelDownIdeal.main (F := Ideal))) ⟨m, fun _ => 0, g⟩ (fun r => ∀ c : Dev Cert.KernelDownIdeal.nD,
          r.2.mem ((c.tc : Thread Cert.KernelDownIdeal.nD Cert.KernelDownIdeal.τ).loc Cert.KernelDownIdeal.main_v3_0) = v0 c
          ∧ r.2.mem ((c.tc : Thread Cert.KernelDownIdeal.nD Cert.KernelDownIdeal.τ).loc Cert.KernelDownIdeal.main_v3_1) = v1 c
          ∧ r.2.mem ((c.tc : Thread Cert.KernelDownIdeal.nD Cert.KernelDownIdeal.τ).loc Cert.KernelDownIdeal.main_arg0) = m ((c.tc : Thread Cert.KernelDownIdeal.nD Cert.KernelDownIdeal.τ).loc Cert.KernelDownIdeal.main_arg0)
          ∧ r.2.mem ((c.tc : Thread Cert.KernelDownIdeal.nD Cert.KernelDownIdeal.τ).loc Cert.KernelDownIdeal.main_arg1) = m ((c.tc : Thread Cert.KernelDownIdeal.nD Cert.KernelDownIdeal.τ).loc Cert.KernelDownIdeal.main_arg1)
          ∧ r.2.mem ((c.tc : Thread Cert.KernelDownIdeal.nD Cert.KernelDownIdeal.τ).loc Cert.KernelDownIdeal.main_arg2) = m ((c.tc : Thread Cert.KernelDownIdeal.nD Cert.KernelDownIdeal.τ).loc Cert.KernelDownIdeal.main_arg2)
          ∧ r.2.mem ((c.tc : Thread Cert.KernelDownIdeal.nD Cert.KernelDownIdeal.τ).loc Cert.KernelDownIdeal.main_arg3) = m ((c.tc : Thread Cert.KernelDownIdeal.nD Cert.KernelDownIdeal.τ).loc Cert.KernelDownIdeal.main_arg3)
          ∧ r.2.mem ((c.tc : Thread Cert.KernelDownIdeal.nD Cert.KernelDownIdeal.τ).loc Cert.KernelDownIdeal.main_arg4) = m ((c.tc : Thread Cert.KernelDownIdeal.nD Cert.KernelDownIdeal.τ).loc Cert.KernelDownIdeal.main_arg4))
      ∧ θ_run (Cert.ReferenceDownIdeal.defs (F := Ideal)) (onTc (τ := Cert.ReferenceDownIdeal.τ) (Cert.ReferenceDownIdeal.main (F := Ideal))) ⟨m', fun _ => 0, g'⟩ (fun r => ∀ c : Dev Cert.ReferenceDownIdeal.nD,
          r.2.mem ((c.tc : Thread Cert.ReferenceDownIdeal.nD Cert.ReferenceDownIdeal.τ).loc Cert.ReferenceDownIdeal.main_v17) = v0 c
          ∧ r.2.mem ((c.tc : Thread Cert.ReferenceDownIdeal.nD Cert.ReferenceDownIdeal.τ).loc Cert.ReferenceDownIdeal.main_v31) = v1 c
          ∧ r.2.mem ((c.tc : Thread Cert.ReferenceDownIdeal.nD Cert.ReferenceDownIdeal.τ).loc Cert.ReferenceDownIdeal.main_arg0) = m' ((c.tc : Thread Cert.ReferenceDownIdeal.nD Cert.ReferenceDownIdeal.τ).loc Cert.ReferenceDownIdeal.main_arg0)
          ∧ r.2.mem ((c.tc : Thread Cert.ReferenceDownIdeal.nD Cert.ReferenceDownIdeal.τ).loc Cert.ReferenceDownIdeal.main_arg1) = m' ((c.tc : Thread Cert.ReferenceDownIdeal.nD Cert.ReferenceDownIdeal.τ).loc Cert.ReferenceDownIdeal.main_arg1)
          ∧ r.2.mem ((c.tc : Thread Cert.ReferenceDownIdeal.nD Cert.ReferenceDownIdeal.τ).loc Cert.ReferenceDownIdeal.main_arg2) = m' ((c.tc : Thread Cert.ReferenceDownIdeal.nD Cert.ReferenceDownIdeal.τ).loc Cert.ReferenceDownIdeal.main_arg2)
          ∧ r.2.mem ((c.tc : Thread Cert.ReferenceDownIdeal.nD Cert.ReferenceDownIdeal.τ).loc Cert.ReferenceDownIdeal.main_arg3) = m' ((c.tc : Thread Cert.ReferenceDownIdeal.nD Cert.ReferenceDownIdeal.τ).loc Cert.ReferenceDownIdeal.main_arg3)
          ∧ r.2.mem ((c.tc : Thread Cert.ReferenceDownIdeal.nD Cert.ReferenceDownIdeal.τ).loc Cert.ReferenceDownIdeal.main_arg4) = m' ((c.tc : Thread Cert.ReferenceDownIdeal.nD Cert.ReferenceDownIdeal.τ).loc Cert.ReferenceDownIdeal.main_arg4))

def preserves_KernelProj_KernelProjIdeal : Prop :=
  True

def algebraic_KernelProjIdeal_ReferenceProjIdeal [hKernelProjIdeal : Cert.KernelProjIdeal.Facts] [hReferenceProjIdeal : Cert.ReferenceProjIdeal.Facts] : Prop :=
  ∀ (m : (ℓ : Loc Cert.KernelProjIdeal.nD Cert.KernelProjIdeal.τ Cert.KernelProjIdeal.sig) → Buf (Elt Ideal) ℓ) (g : Dev Cert.KernelProjIdeal.nD → PrngReg)
    (m' : (ℓ : Loc Cert.ReferenceProjIdeal.nD Cert.ReferenceProjIdeal.τ Cert.ReferenceProjIdeal.sig) → Buf (Elt Ideal) ℓ) (g' : Dev Cert.ReferenceProjIdeal.nD → PrngReg), Pre_KernelProjIdeal m →
    (∀ c : Dev Cert.KernelProjIdeal.nD,
      m' ((c.tc : Thread Cert.ReferenceProjIdeal.nD Cert.ReferenceProjIdeal.τ).loc Cert.ReferenceProjIdeal.main_arg0) = m ((c.tc : Thread Cert.KernelProjIdeal.nD Cert.KernelProjIdeal.τ).loc Cert.KernelProjIdeal.main_arg0)
      ∧ m' ((c.tc : Thread Cert.ReferenceProjIdeal.nD Cert.ReferenceProjIdeal.τ).loc Cert.ReferenceProjIdeal.main_arg1) = m ((c.tc : Thread Cert.KernelProjIdeal.nD Cert.KernelProjIdeal.τ).loc Cert.KernelProjIdeal.main_arg1)) →
    ∃ (v0 : (c : Dev Cert.KernelProjIdeal.nD) → Buf (Elt Ideal) ((c.tc : Thread Cert.KernelProjIdeal.nD Cert.KernelProjIdeal.τ).loc Cert.KernelProjIdeal.main_v24)),
      θ_run (Cert.KernelProjIdeal.defs (F := Ideal)) (onTc (τ := Cert.KernelProjIdeal.τ) (Cert.KernelProjIdeal.main (F := Ideal))) ⟨m, fun _ => 0, g⟩ (fun r => ∀ c : Dev Cert.KernelProjIdeal.nD,
          r.2.mem ((c.tc : Thread Cert.KernelProjIdeal.nD Cert.KernelProjIdeal.τ).loc Cert.KernelProjIdeal.main_v24) = v0 c
          ∧ r.2.mem ((c.tc : Thread Cert.KernelProjIdeal.nD Cert.KernelProjIdeal.τ).loc Cert.KernelProjIdeal.main_arg0) = m ((c.tc : Thread Cert.KernelProjIdeal.nD Cert.KernelProjIdeal.τ).loc Cert.KernelProjIdeal.main_arg0)
          ∧ r.2.mem ((c.tc : Thread Cert.KernelProjIdeal.nD Cert.KernelProjIdeal.τ).loc Cert.KernelProjIdeal.main_arg1) = m ((c.tc : Thread Cert.KernelProjIdeal.nD Cert.KernelProjIdeal.τ).loc Cert.KernelProjIdeal.main_arg1))
      ∧ θ_run (Cert.ReferenceProjIdeal.defs (F := Ideal)) (onTc (τ := Cert.ReferenceProjIdeal.τ) (Cert.ReferenceProjIdeal.main (F := Ideal))) ⟨m', fun _ => 0, g'⟩ (fun r => ∀ c : Dev Cert.ReferenceProjIdeal.nD,
          r.2.mem ((c.tc : Thread Cert.ReferenceProjIdeal.nD Cert.ReferenceProjIdeal.τ).loc Cert.ReferenceProjIdeal.main_v7) = v0 c
          ∧ r.2.mem ((c.tc : Thread Cert.ReferenceProjIdeal.nD Cert.ReferenceProjIdeal.τ).loc Cert.ReferenceProjIdeal.main_arg0) = m' ((c.tc : Thread Cert.ReferenceProjIdeal.nD Cert.ReferenceProjIdeal.τ).loc Cert.ReferenceProjIdeal.main_arg0)
          ∧ r.2.mem ((c.tc : Thread Cert.ReferenceProjIdeal.nD Cert.ReferenceProjIdeal.τ).loc Cert.ReferenceProjIdeal.main_arg1) = m' ((c.tc : Thread Cert.ReferenceProjIdeal.nD Cert.ReferenceProjIdeal.τ).loc Cert.ReferenceProjIdeal.main_arg1))

def preserves_KernelMerge_KernelMergeIdeal : Prop :=
  True

def algebraic_KernelMergeIdeal_ReferenceMergeIdeal [hKernelMergeIdeal : Cert.KernelMergeIdeal.Facts] [hReferenceMergeIdeal : Cert.ReferenceMergeIdeal.Facts] : Prop :=
  ∀ (m : (ℓ : Loc Cert.KernelMergeIdeal.nD Cert.KernelMergeIdeal.τ Cert.KernelMergeIdeal.sig) → Buf (Elt Ideal) ℓ) (g : Dev Cert.KernelMergeIdeal.nD → PrngReg)
    (m' : (ℓ : Loc Cert.ReferenceMergeIdeal.nD Cert.ReferenceMergeIdeal.τ Cert.ReferenceMergeIdeal.sig) → Buf (Elt Ideal) ℓ) (g' : Dev Cert.ReferenceMergeIdeal.nD → PrngReg), Pre_KernelMergeIdeal m →
    (∀ c : Dev Cert.KernelMergeIdeal.nD,
      m' ((c.tc : Thread Cert.ReferenceMergeIdeal.nD Cert.ReferenceMergeIdeal.τ).loc Cert.ReferenceMergeIdeal.main_arg0) = m ((c.tc : Thread Cert.KernelMergeIdeal.nD Cert.KernelMergeIdeal.τ).loc Cert.KernelMergeIdeal.main_arg0)
      ∧ m' ((c.tc : Thread Cert.ReferenceMergeIdeal.nD Cert.ReferenceMergeIdeal.τ).loc Cert.ReferenceMergeIdeal.main_arg1) = m ((c.tc : Thread Cert.KernelMergeIdeal.nD Cert.KernelMergeIdeal.τ).loc Cert.KernelMergeIdeal.main_arg1)
      ∧ m' ((c.tc : Thread Cert.ReferenceMergeIdeal.nD Cert.ReferenceMergeIdeal.τ).loc Cert.ReferenceMergeIdeal.main_arg2) = m ((c.tc : Thread Cert.KernelMergeIdeal.nD Cert.KernelMergeIdeal.τ).loc Cert.KernelMergeIdeal.main_arg2)
      ∧ m' ((c.tc : Thread Cert.ReferenceMergeIdeal.nD Cert.ReferenceMergeIdeal.τ).loc Cert.ReferenceMergeIdeal.main_arg3) = m ((c.tc : Thread Cert.KernelMergeIdeal.nD Cert.KernelMergeIdeal.τ).loc Cert.KernelMergeIdeal.main_arg3)
      ∧ m' ((c.tc : Thread Cert.ReferenceMergeIdeal.nD Cert.ReferenceMergeIdeal.τ).loc Cert.ReferenceMergeIdeal.main_arg4) = m ((c.tc : Thread Cert.KernelMergeIdeal.nD Cert.KernelMergeIdeal.τ).loc Cert.KernelMergeIdeal.main_arg4)
      ∧ m' ((c.tc : Thread Cert.ReferenceMergeIdeal.nD Cert.ReferenceMergeIdeal.τ).loc Cert.ReferenceMergeIdeal.main_arg5) = m ((c.tc : Thread Cert.KernelMergeIdeal.nD Cert.KernelMergeIdeal.τ).loc Cert.KernelMergeIdeal.main_arg5)
      ∧ m' ((c.tc : Thread Cert.ReferenceMergeIdeal.nD Cert.ReferenceMergeIdeal.τ).loc Cert.ReferenceMergeIdeal.main_arg6) = m ((c.tc : Thread Cert.KernelMergeIdeal.nD Cert.KernelMergeIdeal.τ).loc Cert.KernelMergeIdeal.main_arg6)) →
    ∃ (v0 : (c : Dev Cert.KernelMergeIdeal.nD) → Buf (Elt Ideal) ((c.tc : Thread Cert.KernelMergeIdeal.nD Cert.KernelMergeIdeal.τ).loc Cert.KernelMergeIdeal.main_v1)),
      θ_run (Cert.KernelMergeIdeal.defs (F := Ideal)) (onTc (τ := Cert.KernelMergeIdeal.τ) (Cert.KernelMergeIdeal.main (F := Ideal))) ⟨m, fun _ => 0, g⟩ (fun r => ∀ c : Dev Cert.KernelMergeIdeal.nD,
          r.2.mem ((c.tc : Thread Cert.KernelMergeIdeal.nD Cert.KernelMergeIdeal.τ).loc Cert.KernelMergeIdeal.main_v1) = v0 c
          ∧ r.2.mem ((c.tc : Thread Cert.KernelMergeIdeal.nD Cert.KernelMergeIdeal.τ).loc Cert.KernelMergeIdeal.main_arg0) = m ((c.tc : Thread Cert.KernelMergeIdeal.nD Cert.KernelMergeIdeal.τ).loc Cert.KernelMergeIdeal.main_arg0)
          ∧ r.2.mem ((c.tc : Thread Cert.KernelMergeIdeal.nD Cert.KernelMergeIdeal.τ).loc Cert.KernelMergeIdeal.main_arg1) = m ((c.tc : Thread Cert.KernelMergeIdeal.nD Cert.KernelMergeIdeal.τ).loc Cert.KernelMergeIdeal.main_arg1)
          ∧ r.2.mem ((c.tc : Thread Cert.KernelMergeIdeal.nD Cert.KernelMergeIdeal.τ).loc Cert.KernelMergeIdeal.main_arg2) = m ((c.tc : Thread Cert.KernelMergeIdeal.nD Cert.KernelMergeIdeal.τ).loc Cert.KernelMergeIdeal.main_arg2)
          ∧ r.2.mem ((c.tc : Thread Cert.KernelMergeIdeal.nD Cert.KernelMergeIdeal.τ).loc Cert.KernelMergeIdeal.main_arg3) = m ((c.tc : Thread Cert.KernelMergeIdeal.nD Cert.KernelMergeIdeal.τ).loc Cert.KernelMergeIdeal.main_arg3)
          ∧ r.2.mem ((c.tc : Thread Cert.KernelMergeIdeal.nD Cert.KernelMergeIdeal.τ).loc Cert.KernelMergeIdeal.main_arg4) = m ((c.tc : Thread Cert.KernelMergeIdeal.nD Cert.KernelMergeIdeal.τ).loc Cert.KernelMergeIdeal.main_arg4)
          ∧ r.2.mem ((c.tc : Thread Cert.KernelMergeIdeal.nD Cert.KernelMergeIdeal.τ).loc Cert.KernelMergeIdeal.main_arg5) = m ((c.tc : Thread Cert.KernelMergeIdeal.nD Cert.KernelMergeIdeal.τ).loc Cert.KernelMergeIdeal.main_arg5)
          ∧ r.2.mem ((c.tc : Thread Cert.KernelMergeIdeal.nD Cert.KernelMergeIdeal.τ).loc Cert.KernelMergeIdeal.main_arg6) = m ((c.tc : Thread Cert.KernelMergeIdeal.nD Cert.KernelMergeIdeal.τ).loc Cert.KernelMergeIdeal.main_arg6))
      ∧ θ_run (Cert.ReferenceMergeIdeal.defs (F := Ideal)) (onTc (τ := Cert.ReferenceMergeIdeal.τ) (Cert.ReferenceMergeIdeal.main (F := Ideal))) ⟨m', fun _ => 0, g'⟩ (fun r => ∀ c : Dev Cert.ReferenceMergeIdeal.nD,
          r.2.mem ((c.tc : Thread Cert.ReferenceMergeIdeal.nD Cert.ReferenceMergeIdeal.τ).loc Cert.ReferenceMergeIdeal.main_v33) = v0 c
          ∧ r.2.mem ((c.tc : Thread Cert.ReferenceMergeIdeal.nD Cert.ReferenceMergeIdeal.τ).loc Cert.ReferenceMergeIdeal.main_arg0) = m' ((c.tc : Thread Cert.ReferenceMergeIdeal.nD Cert.ReferenceMergeIdeal.τ).loc Cert.ReferenceMergeIdeal.main_arg0)
          ∧ r.2.mem ((c.tc : Thread Cert.ReferenceMergeIdeal.nD Cert.ReferenceMergeIdeal.τ).loc Cert.ReferenceMergeIdeal.main_arg1) = m' ((c.tc : Thread Cert.ReferenceMergeIdeal.nD Cert.ReferenceMergeIdeal.τ).loc Cert.ReferenceMergeIdeal.main_arg1)
          ∧ r.2.mem ((c.tc : Thread Cert.ReferenceMergeIdeal.nD Cert.ReferenceMergeIdeal.τ).loc Cert.ReferenceMergeIdeal.main_arg2) = m' ((c.tc : Thread Cert.ReferenceMergeIdeal.nD Cert.ReferenceMergeIdeal.τ).loc Cert.ReferenceMergeIdeal.main_arg2)
          ∧ r.2.mem ((c.tc : Thread Cert.ReferenceMergeIdeal.nD Cert.ReferenceMergeIdeal.τ).loc Cert.ReferenceMergeIdeal.main_arg3) = m' ((c.tc : Thread Cert.ReferenceMergeIdeal.nD Cert.ReferenceMergeIdeal.τ).loc Cert.ReferenceMergeIdeal.main_arg3)
          ∧ r.2.mem ((c.tc : Thread Cert.ReferenceMergeIdeal.nD Cert.ReferenceMergeIdeal.τ).loc Cert.ReferenceMergeIdeal.main_arg4) = m' ((c.tc : Thread Cert.ReferenceMergeIdeal.nD Cert.ReferenceMergeIdeal.τ).loc Cert.ReferenceMergeIdeal.main_arg4)
          ∧ r.2.mem ((c.tc : Thread Cert.ReferenceMergeIdeal.nD Cert.ReferenceMergeIdeal.τ).loc Cert.ReferenceMergeIdeal.main_arg5) = m' ((c.tc : Thread Cert.ReferenceMergeIdeal.nD Cert.ReferenceMergeIdeal.τ).loc Cert.ReferenceMergeIdeal.main_arg5)
          ∧ r.2.mem ((c.tc : Thread Cert.ReferenceMergeIdeal.nD Cert.ReferenceMergeIdeal.τ).loc Cert.ReferenceMergeIdeal.main_arg6) = m' ((c.tc : Thread Cert.ReferenceMergeIdeal.nD Cert.ReferenceMergeIdeal.τ).loc Cert.ReferenceMergeIdeal.main_arg6))

def preserves_KernelOut_KernelOutIdeal : Prop :=
  True

def algebraic_KernelOutIdeal_ReferenceOutIdeal [hKernelOutIdeal : Cert.KernelOutIdeal.Facts] [hReferenceOutIdeal : Cert.ReferenceOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg)
    (m' : (ℓ : Loc Cert.ReferenceOutIdeal.nD Cert.ReferenceOutIdeal.τ Cert.ReferenceOutIdeal.sig) → Buf (Elt Ideal) ℓ) (g' : Dev Cert.ReferenceOutIdeal.nD → PrngReg), Pre_KernelOutIdeal m →
    (∀ c : Dev Cert.KernelOutIdeal.nD,
      m' ((c.tc : Thread Cert.ReferenceOutIdeal.nD Cert.ReferenceOutIdeal.τ).loc Cert.ReferenceOutIdeal.main_arg0) = m ((c.tc : Thread Cert.KernelOutIdeal.nD Cert.KernelOutIdeal.τ).loc Cert.KernelOutIdeal.main_arg0)
      ∧ m' ((c.tc : Thread Cert.ReferenceOutIdeal.nD Cert.ReferenceOutIdeal.τ).loc Cert.ReferenceOutIdeal.main_arg1) = m ((c.tc : Thread Cert.KernelOutIdeal.nD Cert.KernelOutIdeal.τ).loc Cert.KernelOutIdeal.main_arg1)
      ∧ m' ((c.tc : Thread Cert.ReferenceOutIdeal.nD Cert.ReferenceOutIdeal.τ).loc Cert.ReferenceOutIdeal.main_arg2) = m ((c.tc : Thread Cert.KernelOutIdeal.nD Cert.KernelOutIdeal.τ).loc Cert.KernelOutIdeal.main_arg2)
      ∧ m' ((c.tc : Thread Cert.ReferenceOutIdeal.nD Cert.ReferenceOutIdeal.τ).loc Cert.ReferenceOutIdeal.main_arg3) = m ((c.tc : Thread Cert.KernelOutIdeal.nD Cert.KernelOutIdeal.τ).loc Cert.KernelOutIdeal.main_arg3)
      ∧ m' ((c.tc : Thread Cert.ReferenceOutIdeal.nD Cert.ReferenceOutIdeal.τ).loc Cert.ReferenceOutIdeal.main_arg4) = m ((c.tc : Thread Cert.KernelOutIdeal.nD Cert.KernelOutIdeal.τ).loc Cert.KernelOutIdeal.main_arg4)) →
    ∃ (v0 : (c : Dev Cert.KernelOutIdeal.nD) → Buf (Elt Ideal) ((c.tc : Thread Cert.KernelOutIdeal.nD Cert.KernelOutIdeal.τ).loc Cert.KernelOutIdeal.main_v3_0)) (v1 : (c : Dev Cert.KernelOutIdeal.nD) → Buf (Elt Ideal) ((c.tc : Thread Cert.KernelOutIdeal.nD Cert.KernelOutIdeal.τ).loc Cert.KernelOutIdeal.main_v3_1)),
      θ_run (Cert.KernelOutIdeal.defs (F := Ideal)) (onTc (τ := Cert.KernelOutIdeal.τ) (Cert.KernelOutIdeal.main (F := Ideal))) ⟨m, fun _ => 0, g⟩ (fun r => ∀ c : Dev Cert.KernelOutIdeal.nD,
          r.2.mem ((c.tc : Thread Cert.KernelOutIdeal.nD Cert.KernelOutIdeal.τ).loc Cert.KernelOutIdeal.main_v3_0) = v0 c
          ∧ r.2.mem ((c.tc : Thread Cert.KernelOutIdeal.nD Cert.KernelOutIdeal.τ).loc Cert.KernelOutIdeal.main_v3_1) = v1 c
          ∧ r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
          ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1)
          ∧ r.2.mem ((c.tc : Thread Cert.KernelOutIdeal.nD Cert.KernelOutIdeal.τ).loc Cert.KernelOutIdeal.main_arg2) = m ((c.tc : Thread Cert.KernelOutIdeal.nD Cert.KernelOutIdeal.τ).loc Cert.KernelOutIdeal.main_arg2)
          ∧ r.2.mem ((c.tc : Thread Cert.KernelOutIdeal.nD Cert.KernelOutIdeal.τ).loc Cert.KernelOutIdeal.main_arg3) = m ((c.tc : Thread Cert.KernelOutIdeal.nD Cert.KernelOutIdeal.τ).loc Cert.KernelOutIdeal.main_arg3)
          ∧ r.2.mem ((c.tc : Thread Cert.KernelOutIdeal.nD Cert.KernelOutIdeal.τ).loc Cert.KernelOutIdeal.main_arg4) = m ((c.tc : Thread Cert.KernelOutIdeal.nD Cert.KernelOutIdeal.τ).loc Cert.KernelOutIdeal.main_arg4))
      ∧ θ_run (Cert.ReferenceOutIdeal.defs (F := Ideal)) (onTc (τ := Cert.ReferenceOutIdeal.τ) (Cert.ReferenceOutIdeal.main (F := Ideal))) ⟨m', fun _ => 0, g'⟩ (fun r => ∀ c : Dev Cert.ReferenceOutIdeal.nD,
          r.2.mem ((c.tc : Thread Cert.ReferenceOutIdeal.nD Cert.ReferenceOutIdeal.τ).loc Cert.ReferenceOutIdeal.main_v17) = v0 c
          ∧ r.2.mem ((c.tc : Thread Cert.ReferenceOutIdeal.nD Cert.ReferenceOutIdeal.τ).loc Cert.ReferenceOutIdeal.main_v31) = v1 c
          ∧ r.2.mem ((c.tc : Thread Cert.ReferenceOutIdeal.nD Cert.ReferenceOutIdeal.τ).loc Cert.ReferenceOutIdeal.main_arg0) = m' ((c.tc : Thread Cert.ReferenceOutIdeal.nD Cert.ReferenceOutIdeal.τ).loc Cert.ReferenceOutIdeal.main_arg0)
          ∧ r.2.mem ((c.tc : Thread Cert.ReferenceOutIdeal.nD Cert.ReferenceOutIdeal.τ).loc Cert.ReferenceOutIdeal.main_arg1) = m' ((c.tc : Thread Cert.ReferenceOutIdeal.nD Cert.ReferenceOutIdeal.τ).loc Cert.ReferenceOutIdeal.main_arg1)
          ∧ r.2.mem ((c.tc : Thread Cert.ReferenceOutIdeal.nD Cert.ReferenceOutIdeal.τ).loc Cert.ReferenceOutIdeal.main_arg2) = m' ((c.tc : Thread Cert.ReferenceOutIdeal.nD Cert.ReferenceOutIdeal.τ).loc Cert.ReferenceOutIdeal.main_arg2)
          ∧ r.2.mem ((c.tc : Thread Cert.ReferenceOutIdeal.nD Cert.ReferenceOutIdeal.τ).loc Cert.ReferenceOutIdeal.main_arg3) = m' ((c.tc : Thread Cert.ReferenceOutIdeal.nD Cert.ReferenceOutIdeal.τ).loc Cert.ReferenceOutIdeal.main_arg3)
          ∧ r.2.mem ((c.tc : Thread Cert.ReferenceOutIdeal.nD Cert.ReferenceOutIdeal.τ).loc Cert.ReferenceOutIdeal.main_arg4) = m' ((c.tc : Thread Cert.ReferenceOutIdeal.nD Cert.ReferenceOutIdeal.τ).loc Cert.ReferenceOutIdeal.main_arg4))

def preserves_KernelConv_KernelConvIdeal : Prop :=
  True

def algebraic_KernelConvIdeal_ReferenceConvIdeal [hKernelConvIdeal : Cert.KernelConvIdeal.Facts] [hReferenceConvIdeal : Cert.ReferenceConvIdeal.Facts] : Prop :=
  ∀ (m : (ℓ : Loc Cert.KernelConvIdeal.nD Cert.KernelConvIdeal.τ Cert.KernelConvIdeal.sig) → Buf (Elt Ideal) ℓ) (g : Dev Cert.KernelConvIdeal.nD → PrngReg)
    (m' : (ℓ : Loc Cert.ReferenceConvIdeal.nD Cert.ReferenceConvIdeal.τ Cert.ReferenceConvIdeal.sig) → Buf (Elt Ideal) ℓ) (g' : Dev Cert.ReferenceConvIdeal.nD → PrngReg), Pre_KernelConvIdeal m →
    (∀ c : Dev Cert.KernelConvIdeal.nD,
      m' ((c.tc : Thread Cert.ReferenceConvIdeal.nD Cert.ReferenceConvIdeal.τ).loc Cert.ReferenceConvIdeal.main_arg0) = m ((c.tc : Thread Cert.KernelConvIdeal.nD Cert.KernelConvIdeal.τ).loc Cert.KernelConvIdeal.main_arg0)
      ∧ m' ((c.tc : Thread Cert.ReferenceConvIdeal.nD Cert.ReferenceConvIdeal.τ).loc Cert.ReferenceConvIdeal.main_arg1) = m ((c.tc : Thread Cert.KernelConvIdeal.nD Cert.KernelConvIdeal.τ).loc Cert.KernelConvIdeal.main_arg1)) →
    ∃ (v0 : (c : Dev Cert.KernelConvIdeal.nD) → Buf (Elt Ideal) ((c.tc : Thread Cert.KernelConvIdeal.nD Cert.KernelConvIdeal.τ).loc Cert.KernelConvIdeal.main_v2_0)) (v1 : (c : Dev Cert.KernelConvIdeal.nD) → Buf (Elt Ideal) ((c.tc : Thread Cert.KernelConvIdeal.nD Cert.KernelConvIdeal.τ).loc Cert.KernelConvIdeal.main_v2_1)),
      θ_run (Cert.KernelConvIdeal.defs (F := Ideal)) (onTc (τ := Cert.KernelConvIdeal.τ) (Cert.KernelConvIdeal.main (F := Ideal))) ⟨m, fun _ => 0, g⟩ (fun r => ∀ c : Dev Cert.KernelConvIdeal.nD,
          r.2.mem ((c.tc : Thread Cert.KernelConvIdeal.nD Cert.KernelConvIdeal.τ).loc Cert.KernelConvIdeal.main_v2_0) = v0 c
          ∧ r.2.mem ((c.tc : Thread Cert.KernelConvIdeal.nD Cert.KernelConvIdeal.τ).loc Cert.KernelConvIdeal.main_v2_1) = v1 c
          ∧ r.2.mem ((c.tc : Thread Cert.KernelConvIdeal.nD Cert.KernelConvIdeal.τ).loc Cert.KernelConvIdeal.main_arg0) = m ((c.tc : Thread Cert.KernelConvIdeal.nD Cert.KernelConvIdeal.τ).loc Cert.KernelConvIdeal.main_arg0)
          ∧ r.2.mem ((c.tc : Thread Cert.KernelConvIdeal.nD Cert.KernelConvIdeal.τ).loc Cert.KernelConvIdeal.main_arg1) = m ((c.tc : Thread Cert.KernelConvIdeal.nD Cert.KernelConvIdeal.τ).loc Cert.KernelConvIdeal.main_arg1))
      ∧ θ_run (Cert.ReferenceConvIdeal.defs (F := Ideal)) (onTc (τ := Cert.ReferenceConvIdeal.τ) (Cert.ReferenceConvIdeal.main (F := Ideal))) ⟨m', fun _ => 0, g'⟩ (fun r => ∀ c : Dev Cert.ReferenceConvIdeal.nD,
          r.2.mem ((c.tc : Thread Cert.ReferenceConvIdeal.nD Cert.ReferenceConvIdeal.τ).loc Cert.ReferenceConvIdeal.main_v32) = v0 c
          ∧ r.2.mem ((c.tc : Thread Cert.ReferenceConvIdeal.nD Cert.ReferenceConvIdeal.τ).loc Cert.ReferenceConvIdeal.main_v33) = v1 c
          ∧ r.2.mem ((c.tc : Thread Cert.ReferenceConvIdeal.nD Cert.ReferenceConvIdeal.τ).loc Cert.ReferenceConvIdeal.main_arg0) = m' ((c.tc : Thread Cert.ReferenceConvIdeal.nD Cert.ReferenceConvIdeal.τ).loc Cert.ReferenceConvIdeal.main_arg0)
          ∧ r.2.mem ((c.tc : Thread Cert.ReferenceConvIdeal.nD Cert.ReferenceConvIdeal.τ).loc Cert.ReferenceConvIdeal.main_arg1) = m' ((c.tc : Thread Cert.ReferenceConvIdeal.nD Cert.ReferenceConvIdeal.τ).loc Cert.ReferenceConvIdeal.main_arg1))

def preserves_KernelQuery_KernelQueryIdeal : Prop :=
  True

def algebraic_KernelQueryIdeal_ReferenceQueryIdeal [hKernelQueryIdeal : Cert.KernelQueryIdeal.Facts] [hReferenceQueryIdeal : Cert.ReferenceQueryIdeal.Facts] : Prop :=
  ∀ (m : (ℓ : Loc Cert.KernelQueryIdeal.nD Cert.KernelQueryIdeal.τ Cert.KernelQueryIdeal.sig) → Buf (Elt Ideal) ℓ) (g : Dev Cert.KernelQueryIdeal.nD → PrngReg)
    (m' : (ℓ : Loc Cert.ReferenceQueryIdeal.nD Cert.ReferenceQueryIdeal.τ Cert.ReferenceQueryIdeal.sig) → Buf (Elt Ideal) ℓ) (g' : Dev Cert.ReferenceQueryIdeal.nD → PrngReg), Pre_KernelQueryIdeal m →
    (∀ c : Dev Cert.KernelQueryIdeal.nD,
      m' ((c.tc : Thread Cert.ReferenceQueryIdeal.nD Cert.ReferenceQueryIdeal.τ).loc Cert.ReferenceQueryIdeal.main_arg0) = m ((c.tc : Thread Cert.KernelQueryIdeal.nD Cert.KernelQueryIdeal.τ).loc Cert.KernelQueryIdeal.main_arg0)
      ∧ m' ((c.tc : Thread Cert.ReferenceQueryIdeal.nD Cert.ReferenceQueryIdeal.τ).loc Cert.ReferenceQueryIdeal.main_arg1) = m ((c.tc : Thread Cert.KernelQueryIdeal.nD Cert.KernelQueryIdeal.τ).loc Cert.KernelQueryIdeal.main_arg1)) →
    ∃ (v0 : (c : Dev Cert.KernelQueryIdeal.nD) → Buf (Elt Ideal) ((c.tc : Thread Cert.KernelQueryIdeal.nD Cert.KernelQueryIdeal.τ).loc Cert.KernelQueryIdeal.main_v59)),
      θ_run (Cert.KernelQueryIdeal.defs (F := Ideal)) (onTc (τ := Cert.KernelQueryIdeal.τ) (Cert.KernelQueryIdeal.main (F := Ideal))) ⟨m, fun _ => 0, g⟩ (fun r => ∀ c : Dev Cert.KernelQueryIdeal.nD,
          r.2.mem ((c.tc : Thread Cert.KernelQueryIdeal.nD Cert.KernelQueryIdeal.τ).loc Cert.KernelQueryIdeal.main_v59) = v0 c
          ∧ r.2.mem ((c.tc : Thread Cert.KernelQueryIdeal.nD Cert.KernelQueryIdeal.τ).loc Cert.KernelQueryIdeal.main_arg0) = m ((c.tc : Thread Cert.KernelQueryIdeal.nD Cert.KernelQueryIdeal.τ).loc Cert.KernelQueryIdeal.main_arg0)
          ∧ r.2.mem ((c.tc : Thread Cert.KernelQueryIdeal.nD Cert.KernelQueryIdeal.τ).loc Cert.KernelQueryIdeal.main_arg1) = m ((c.tc : Thread Cert.KernelQueryIdeal.nD Cert.KernelQueryIdeal.τ).loc Cert.KernelQueryIdeal.main_arg1))
      ∧ θ_run (Cert.ReferenceQueryIdeal.defs (F := Ideal)) (onTc (τ := Cert.ReferenceQueryIdeal.τ) (Cert.ReferenceQueryIdeal.main (F := Ideal))) ⟨m', fun _ => 0, g'⟩ (fun r => ∀ c : Dev Cert.ReferenceQueryIdeal.nD,
          r.2.mem ((c.tc : Thread Cert.ReferenceQueryIdeal.nD Cert.ReferenceQueryIdeal.τ).loc Cert.ReferenceQueryIdeal.main_v66) = v0 c
          ∧ r.2.mem ((c.tc : Thread Cert.ReferenceQueryIdeal.nD Cert.ReferenceQueryIdeal.τ).loc Cert.ReferenceQueryIdeal.main_arg0) = m' ((c.tc : Thread Cert.ReferenceQueryIdeal.nD Cert.ReferenceQueryIdeal.τ).loc Cert.ReferenceQueryIdeal.main_arg0)
          ∧ r.2.mem ((c.tc : Thread Cert.ReferenceQueryIdeal.nD Cert.ReferenceQueryIdeal.τ).loc Cert.ReferenceQueryIdeal.main_arg1) = m' ((c.tc : Thread Cert.ReferenceQueryIdeal.nD Cert.ReferenceQueryIdeal.τ).loc Cert.ReferenceQueryIdeal.main_arg1))

def Claim : Prop :=
  ∃ (hKernel : Cert.Kernel.Facts) (hKernelIdeal : Cert.KernelIdeal.Facts) (hReferenceIdeal : Cert.ReferenceIdeal.Facts) (hKernelUp : Cert.KernelUp.Facts) (hKernelUpIdeal : Cert.KernelUpIdeal.Facts) (hReferenceUpIdeal : Cert.ReferenceUpIdeal.Facts) (hKernelDown : Cert.KernelDown.Facts) (hKernelDownIdeal : Cert.KernelDownIdeal.Facts) (hReferenceDownIdeal : Cert.ReferenceDownIdeal.Facts) (hKernelProj : Cert.KernelProj.Facts) (hKernelProjIdeal : Cert.KernelProjIdeal.Facts) (hReferenceProjIdeal : Cert.ReferenceProjIdeal.Facts) (hKernelMerge : Cert.KernelMerge.Facts) (hKernelMergeIdeal : Cert.KernelMergeIdeal.Facts) (hReferenceMergeIdeal : Cert.ReferenceMergeIdeal.Facts) (hKernelOut : Cert.KernelOut.Facts) (hKernelOutIdeal : Cert.KernelOutIdeal.Facts) (hReferenceOutIdeal : Cert.ReferenceOutIdeal.Facts) (hKernelConv : Cert.KernelConv.Facts) (hKernelConvIdeal : Cert.KernelConvIdeal.Facts) (hReferenceConvIdeal : Cert.ReferenceConvIdeal.Facts) (hKernelQuery : Cert.KernelQuery.Facts) (hKernelQueryIdeal : Cert.KernelQueryIdeal.Facts) (hReferenceQueryIdeal : Cert.ReferenceQueryIdeal.Facts),
    quiescent_Kernel (hKernel := hKernel)
    ∧ quiescent_KernelIdeal (hKernelIdeal := hKernelIdeal)
    ∧ quiescent_ReferenceIdeal (hReferenceIdeal := hReferenceIdeal)
    ∧ quiescent_KernelUp (hKernelUp := hKernelUp)
    ∧ quiescent_KernelUpIdeal (hKernelUpIdeal := hKernelUpIdeal)
    ∧ quiescent_ReferenceUpIdeal (hReferenceUpIdeal := hReferenceUpIdeal)
    ∧ quiescent_KernelDown (hKernelDown := hKernelDown)
    ∧ quiescent_KernelDownIdeal (hKernelDownIdeal := hKernelDownIdeal)
    ∧ quiescent_ReferenceDownIdeal (hReferenceDownIdeal := hReferenceDownIdeal)
    ∧ quiescent_KernelProj (hKernelProj := hKernelProj)
    ∧ quiescent_KernelProjIdeal (hKernelProjIdeal := hKernelProjIdeal)
    ∧ quiescent_ReferenceProjIdeal (hReferenceProjIdeal := hReferenceProjIdeal)
    ∧ quiescent_KernelMerge (hKernelMerge := hKernelMerge)
    ∧ quiescent_KernelMergeIdeal (hKernelMergeIdeal := hKernelMergeIdeal)
    ∧ quiescent_ReferenceMergeIdeal (hReferenceMergeIdeal := hReferenceMergeIdeal)
    ∧ quiescent_KernelOut (hKernelOut := hKernelOut)
    ∧ quiescent_KernelOutIdeal (hKernelOutIdeal := hKernelOutIdeal)
    ∧ quiescent_ReferenceOutIdeal (hReferenceOutIdeal := hReferenceOutIdeal)
    ∧ quiescent_KernelConv (hKernelConv := hKernelConv)
    ∧ quiescent_KernelConvIdeal (hKernelConvIdeal := hKernelConvIdeal)
    ∧ quiescent_ReferenceConvIdeal (hReferenceConvIdeal := hReferenceConvIdeal)
    ∧ quiescent_KernelQuery (hKernelQuery := hKernelQuery)
    ∧ quiescent_KernelQueryIdeal (hKernelQueryIdeal := hKernelQueryIdeal)
    ∧ quiescent_ReferenceQueryIdeal (hReferenceQueryIdeal := hReferenceQueryIdeal)
    ∧ preserves_Kernel_KernelIdeal
    ∧ algebraic_KernelIdeal_ReferenceIdeal (hKernelIdeal := hKernelIdeal) (hReferenceIdeal := hReferenceIdeal)
    ∧ preserves_KernelUp_KernelUpIdeal
    ∧ algebraic_KernelUpIdeal_ReferenceUpIdeal (hKernelUpIdeal := hKernelUpIdeal) (hReferenceUpIdeal := hReferenceUpIdeal)
    ∧ preserves_KernelDown_KernelDownIdeal
    ∧ algebraic_KernelDownIdeal_ReferenceDownIdeal (hKernelDownIdeal := hKernelDownIdeal) (hReferenceDownIdeal := hReferenceDownIdeal)
    ∧ preserves_KernelProj_KernelProjIdeal
    ∧ algebraic_KernelProjIdeal_ReferenceProjIdeal (hKernelProjIdeal := hKernelProjIdeal) (hReferenceProjIdeal := hReferenceProjIdeal)
    ∧ preserves_KernelMerge_KernelMergeIdeal
    ∧ algebraic_KernelMergeIdeal_ReferenceMergeIdeal (hKernelMergeIdeal := hKernelMergeIdeal) (hReferenceMergeIdeal := hReferenceMergeIdeal)
    ∧ preserves_KernelOut_KernelOutIdeal
    ∧ algebraic_KernelOutIdeal_ReferenceOutIdeal (hKernelOutIdeal := hKernelOutIdeal) (hReferenceOutIdeal := hReferenceOutIdeal)
    ∧ preserves_KernelConv_KernelConvIdeal
    ∧ algebraic_KernelConvIdeal_ReferenceConvIdeal (hKernelConvIdeal := hKernelConvIdeal) (hReferenceConvIdeal := hReferenceConvIdeal)
    ∧ preserves_KernelQuery_KernelQueryIdeal
    ∧ algebraic_KernelQueryIdeal_ReferenceQueryIdeal (hKernelQueryIdeal := hKernelQueryIdeal) (hReferenceQueryIdeal := hReferenceQueryIdeal)
-- ==== Kernel.lean ====
abbrev S2x65536x128 : Shape := ⟨3, ![2, 65536, 128]⟩
abbrev S16384x2048 : Shape := ⟨2, ![16384, 2048]⟩
abbrev S16384x768 : Shape := ⟨2, ![16384, 768]⟩
abbrev S2x4096x128 : Shape := ⟨3, ![2, 4096, 128]⟩
abbrev S2x128x128 : Shape := ⟨3, ![2, 128, 128]⟩
abbrev S2x32x128 : Shape := ⟨3, ![2, 32, 128]⟩
abbrev S32x128 : Shape := ⟨2, ![32, 128]⟩
abbrev S2x2048x128 : Shape := ⟨3, ![2, 2048, 128]⟩
abbrev S2x8x256x128 : Shape := ⟨4, ![2, 8, 256, 128]⟩
abbrev S2x8x256x256 : Shape := ⟨4, ![2, 8, 256, 256]⟩
abbrev S_ : Shape := ⟨0, ![]⟩
abbrev S2x8x8x256 : Shape := ⟨4, ![2, 8, 8, 256]⟩
abbrev S2x16x128 : Shape := ⟨3, ![2, 16, 128]⟩
abbrev S2x8x256 : Shape := ⟨3, ![2, 8, 256]⟩
abbrev S1 : Shape := ⟨1, ![1]⟩
abbrev S16384x1024 : Shape := ⟨2, ![16384, 1024]⟩
abbrev S2x32x16384 : Shape := ⟨3, ![2, 32, 16384]⟩
abbrev S1x8192x128 : Shape := ⟨3, ![1, 8192, 128]⟩
abbrev S256x1024 : Shape := ⟨2, ![256, 1024]⟩
abbrev S256x128 : Shape := ⟨2, ![256, 128]⟩
abbrev S2x32x256 : Shape := ⟨3, ![2, 32, 256]⟩
abbrev S256x256 : Shape := ⟨2, ![256, 256]⟩
abbrev S8x256 : Shape := ⟨2, ![8, 256]⟩
abbrev S1x128x128 : Shape := ⟨3, ![1, 128, 128]⟩
abbrev S128x128 : Shape := ⟨2, ![128, 128]⟩
abbrev S128x256 : Shape := ⟨2, ![128, 256]⟩
abbrev S1x1x256x256 : Shape := ⟨4, ![1, 1, 256, 256]⟩
abbrev S1x1x8x256 : Shape := ⟨4, ![1, 1, 8, 256]⟩
abbrev S1x128 : Shape := ⟨2, ![1, 128]⟩
abbrev S128x1024 : Shape := ⟨2, ![128, 1024]⟩
abbrev S1024x128 : Shape := ⟨2, ![1024, 128]⟩
abbrev S1024 : Shape := ⟨1, ![1024]⟩
abbrev S1x1024 : Shape := ⟨2, ![1, 1024]⟩
abbrev S1x256 : Shape := ⟨2, ![1, 256]⟩
abbrev S32x256 : Shape := ⟨2, ![32, 256]⟩
abbrev S1x32x256 : Shape := ⟨3, ![1, 32, 256]⟩

abbrev nBuf : Space → Nat
  | .hbm => 29
  | .vmem => 16
  | .smem => 0
  | _ => 0

abbrev bufTy : (tb : Table) → Fin (tcTables nBuf tb) → BufTy
  | .hbm, ⟨0, _⟩ => ⟨S2x65536x128, .f32⟩
  | .hbm, ⟨1, _⟩ => ⟨S16384x2048, .f32⟩
  | .hbm, ⟨2, _⟩ => ⟨S16384x768, .f32⟩
  | .hbm, ⟨3, _⟩ => ⟨S2x4096x128, .f32⟩
  | .hbm, ⟨4, _⟩ => ⟨S2x128x128, .f32⟩
  | .hbm, ⟨5, _⟩ => ⟨S2x32x128, .f32⟩
  | .hbm, ⟨6, _⟩ => ⟨S32x128, .f32⟩
  | .hbm, ⟨7, _⟩ => ⟨S2x2048x128, .f32⟩
  | .hbm, ⟨8, _⟩ => ⟨S2x8x256x128, .f32⟩
  | .hbm, ⟨9, _⟩ => ⟨S2x2048x128, .f32⟩
  | .hbm, ⟨10, _⟩ => ⟨S2x8x256x128, .f32⟩
  | .hbm, ⟨11, _⟩ => ⟨S2x8x256x256, .f32⟩
  | .hbm, ⟨12, _⟩ => ⟨S2x8x256x256, .bf16⟩
  | .hbm, ⟨13, _⟩ => ⟨S_, .f32⟩
  | .hbm, ⟨14, _⟩ => ⟨S2x8x8x256, .f32⟩
  | .hbm, ⟨15, _⟩ => ⟨S2x16x128, .f32⟩
  | .hbm, ⟨16, _⟩ => ⟨S2x8x256, .f32⟩
  | .hbm, ⟨17, _⟩ => ⟨S_, .i32⟩
  | .hbm, ⟨18, _⟩ => ⟨S1, .i32⟩
  | .hbm, ⟨19, _⟩ => ⟨S2x8x8x256, .f32⟩
  | .hbm, ⟨20, _⟩ => ⟨S2x16x128, .f32⟩
  | .hbm, ⟨21, _⟩ => ⟨S2x8x256, .f32⟩
  | .hbm, ⟨22, _⟩ => ⟨S_, .i32⟩
  | .hbm, ⟨23, _⟩ => ⟨S1, .i32⟩
  | .hbm, ⟨24, _⟩ => ⟨S2x8x8x256, .f32⟩
  | .hbm, ⟨25, _⟩ => ⟨S2x128x128, .bf16⟩
  | .hbm, ⟨26, _⟩ => ⟨S2x8x8x256, .bf16⟩
  | .hbm, ⟨27, _⟩ => ⟨S16384x1024, .f32⟩
  | .hbm, ⟨28, _⟩ => ⟨S2x32x16384, .f32⟩
  | .local _ .vmem, ⟨0, _⟩ => ⟨S1x8192x128, .f32⟩
  | .local _ .vmem, ⟨1, _⟩ => ⟨S1x8192x128, .f32⟩
  | .local _ .vmem, ⟨2, _⟩ => ⟨S256x1024, .f32⟩
  | .local _ .vmem, ⟨3, _⟩ => ⟨S256x1024, .f32⟩
  | .local _ .vmem, ⟨4, _⟩ => ⟨S256x128, .f32⟩
  | .local _ .vmem, ⟨5, _⟩ => ⟨S256x128, .f32⟩
  | .local _ .vmem, ⟨6, _⟩ => ⟨S2x8x256x256, .bf16⟩
  | .local _ .vmem, ⟨7, _⟩ => ⟨S2x128x128, .bf16⟩
  | .local _ .vmem, ⟨8, _⟩ => ⟨S2x8x8x256, .bf16⟩
  | .local _ .vmem, ⟨9, _⟩ => ⟨S32x128, .f32⟩
  | .local _ .vmem, ⟨10, _⟩ => ⟨S256x1024, .f32⟩
  | .local _ .vmem, ⟨11, _⟩ => ⟨S256x1024, .f32⟩
  | .local _ .vmem, ⟨12, _⟩ => ⟨S2x32x256, .f32⟩
  | .local _ .vmem, ⟨13, _⟩ => ⟨S2x32x256, .f32⟩
  | .local _ .vmem, ⟨14, _⟩ => ⟨S2x128x128, .bf16⟩
  | .local _ .vmem, ⟨15, _⟩ => ⟨S2x128x128, .bf16⟩
  | _, _ => ⟨S2x65536x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_c : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_c_1 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17_0 : Ref sig .tc := ⟨.hbm, 27, rfl⟩
abbrev main_v17_1 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c5_i32 : BitVec 32 := 5#32
  let c0_i32 : BitVec 32 := 0#32
  ![v1.toNat, c5_i32.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  ![c0_i32.toNat, c0_i32_0.toNat, v1.toNat]

abbrev stage0_0 : Fin 2 → Memref sig .tc .vmem S1x8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S2x8x256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S2x128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S2x8x8x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S32x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S2x32x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S2x65536x128 : Shape := ⟨3, ![2, 65536, 128]⟩
abbrev S16384x2048 : Shape := ⟨2, ![16384, 2048]⟩
abbrev S16384x768 : Shape := ⟨2, ![16384, 768]⟩
abbrev S2x4096x128 : Shape := ⟨3, ![2, 4096, 128]⟩
abbrev S2x128x128 : Shape := ⟨3, ![2, 128, 128]⟩
abbrev S2x32x128 : Shape := ⟨3, ![2, 32, 128]⟩
abbrev S1x65536x128 : Shape := ⟨3, ![1, 65536, 128]⟩
abbrev S65536x128 : Shape := ⟨2, ![65536, 128]⟩
abbrev S8x128x16x2x2x128 : Shape := ⟨6, ![8, 128, 16, 2, 2, 128]⟩
abbrev S8x128x2x2x16x128 : Shape := ⟨6, ![8, 128, 2, 2, 16, 128]⟩
abbrev S8x128x2x2x2048 : Shape := ⟨5, ![8, 128, 2, 2, 2048]⟩
abbrev S2x4096 : Shape := ⟨2, ![2, 4096]⟩
abbrev S2x128 : Shape := ⟨2, ![2, 128]⟩
abbrev S8x127x2x2x2048 : Shape := ⟨5, ![8, 127, 2, 2, 2048]⟩
abbrev S2x2048x128 : Shape := ⟨3, ![2, 2048, 128]⟩
abbrev S2x128x8x127x2 : Shape := ⟨5, ![2, 128, 8, 127, 2]⟩
abbrev S8x127x2x2x128 : Shape := ⟨5, ![8, 127, 2, 2, 128]⟩
abbrev S1x1x2x1x128 : Shape := ⟨5, ![1, 1, 2, 1, 128]⟩
abbrev S_ : Shape := ⟨0, ![]⟩
abbrev S8x127x1x2x128 : Shape := ⟨5, ![8, 127, 1, 2, 128]⟩
abbrev S8x127x2x128 : Shape := ⟨4, ![8, 127, 2, 128]⟩
abbrev S16384x1024 : Shape := ⟨2, ![16384, 1024]⟩
abbrev S8x2048x2x4x128 : Shape := ⟨5, ![8, 2048, 2, 4, 128]⟩
abbrev S8x2x127x2048x4 : Shape := ⟨5, ![8, 2, 127, 2048, 4]⟩
abbrev S8x2x4x2048x127 : Shape := ⟨5, ![8, 2, 4, 2048, 127]⟩
abbrev S127 : Shape := ⟨1, ![127]⟩
abbrev S1x127 : Shape := ⟨2, ![1, 127]⟩
abbrev S2048 : Shape := ⟨1, ![2048]⟩
abbrev S2048x1 : Shape := ⟨2, ![2048, 1]⟩
abbrev S2048x127 : Shape := ⟨2, ![2048, 127]⟩
abbrev S8x2x4x2048 : Shape := ⟨4, ![8, 2, 4, 2048]⟩
abbrev S8x2x4x2048x1 : Shape := ⟨5, ![8, 2, 4, 2048, 1]⟩
abbrev S8x2x128x4x2048 : Shape := ⟨5, ![8, 2, 128, 4, 2048]⟩
abbrev S8x2048x8x128 : Shape := ⟨4, ![8, 2048, 8, 128]⟩
abbrev S16384x24 : Shape := ⟨2, ![16384, 24]⟩
abbrev S8x2048x8x3 : Shape := ⟨4, ![8, 2048, 8, 3]⟩
abbrev S32 : Shape := ⟨1, ![32]⟩
abbrev S127x1 : Shape := ⟨2, ![127, 1]⟩
abbrev S1x32 : Shape := ⟨2, ![1, 32]⟩
abbrev S127x32 : Shape := ⟨2, ![127, 32]⟩
abbrev S8x2x2048x127 : Shape := ⟨4, ![8, 2, 2048, 127]⟩
abbrev S32x8x2x2048 : Shape := ⟨4, ![32, 8, 2, 2048]⟩
abbrev S8x2048x2x32 : Shape := ⟨4, ![8, 2048, 2, 32]⟩
abbrev S8x2048x8x1 : Shape := ⟨4, ![8, 2048, 8, 1]⟩
abbrev S16384x2x32 : Shape := ⟨3, ![16384, 2, 32]⟩
abbrev S2x32x16384 : Shape := ⟨3, ![2, 32, 16384]⟩

abbrev nBuf : Space → Nat
  | .hbm => 137
  | .vmem => 0
  | .smem => 0
  | _ => 0

abbrev hbmTy0_0 (i : Nat) : BufTy := match i % 128 with
  | 0 => ⟨S2x65536x128, .f32⟩
  | 1 => ⟨S16384x2048, .f32⟩
  | 2 => ⟨S16384x768, .f32⟩
  | 3 => ⟨S2x4096x128, .f32⟩
  | 4 => ⟨S2x128x128, .f32⟩
  | 5 => ⟨S2x32x128, .f32⟩
  | 6 => ⟨S1x65536x128, .f32⟩
  | 7 => ⟨S65536x128, .f32⟩
  | 8 => ⟨S8x128x16x2x2x128, .f32⟩
  | 9 => ⟨S8x128x2x2x16x128, .f32⟩
  | 10 => ⟨S8x128x2x2x2048, .f32⟩
  | 11 => ⟨S2x4096, .f32⟩
  | 12 => ⟨S2x128, .f32⟩
  | 13 => ⟨S8x127x2x2x2048, .f32⟩
  | 14 => ⟨S2x2048x128, .f32⟩
  | 15 => ⟨S2x128x8x127x2, .f32⟩
  | 16 => ⟨S8x127x2x2x128, .f32⟩
  | 17 => ⟨S8x127x2x2x2048, .f32⟩
  | 18 => ⟨S2x2048x128, .f32⟩
  | 19 => ⟨S2x128x8x127x2, .f32⟩
  | 20 => ⟨S8x127x2x2x128, .f32⟩
  | 21 => ⟨S8x127x2x2x128, .f32⟩
  | 22 => ⟨S1x1x2x1x128, .f32⟩
  | 23 => ⟨S8x127x2x2x128, .f32⟩
  | 24 => ⟨S8x127x2x2x128, .f32⟩
  | 25 => ⟨S8x127x2x2x128, .f32⟩
  | 26 => ⟨S8x127x2x2x128, .f32⟩
  | 27 => ⟨S_, .f32⟩
  | 28 => ⟨S8x127x2x2x128, .f32⟩
  | 29 => ⟨S8x127x2x2x128, .f32⟩
  | 30 => ⟨S_, .f32⟩
  | 31 => ⟨S8x127x2x2x128, .f32⟩
  | 32 => ⟨S8x127x2x2x128, .f32⟩
  | 33 => ⟨S8x127x2x2x128, .f32⟩
  | 34 => ⟨S2x128x8x127x2, .f32⟩
  | 35 => ⟨S8x127x2x2x128, .f32⟩
  | 36 => ⟨S8x127x1x2x128, .f32⟩
  | 37 => ⟨S8x127x2x128, .f32⟩
  | 38 => ⟨S8x127x1x2x128, .f32⟩
  | 39 => ⟨S8x127x2x128, .f32⟩
  | 40 => ⟨S16384x1024, .f32⟩
  | 41 => ⟨S8x2048x2x4x128, .f32⟩
  | 42 => ⟨S8x2x127x2048x4, .f32⟩
  | 43 => ⟨S8x2x4x2048x127, .f32⟩
  | 44 => ⟨S_, .f32⟩
  | 45 => ⟨S8x2x4x2048x127, .f32⟩
  | 46 => ⟨S8x2x4x2048x127, .f32⟩
  | 47 => ⟨S127, .i32⟩
  | 48 => ⟨S_, .i32⟩
  | 49 => ⟨S127, .i32⟩
  | 50 => ⟨S127, .i32⟩
  | 51 => ⟨S_, .i32⟩
  | 52 => ⟨S127, .i32⟩
  | 53 => ⟨S127, .i32⟩
  | 54 => ⟨S1x127, .i32⟩
  | 55 => ⟨S2048, .i32⟩
  | 56 => ⟨S2048x1, .i32⟩
  | 57 => ⟨S2048x127, .i32⟩
  | 58 => ⟨S2048x127, .i32⟩
  | 59 => ⟨S2048x127, .i1⟩
  | 60 => ⟨S_, .f32⟩
  | 61 => ⟨S_, .f32⟩
  | 62 => ⟨S8x2x4x2048x127, .i1⟩
  | 63 => ⟨S8x2x4x2048x127, .f32⟩
  | 64 => ⟨S8x2x4x2048x127, .f32⟩
  | 65 => ⟨S_, .f32⟩
  | 66 => ⟨S8x2x4x2048, .f32⟩
  | 67 => ⟨S8x2x4x2048x1, .f32⟩
  | 68 => ⟨S8x2x4x2048x127, .f32⟩
  | 69 => ⟨S8x2x4x2048x127, .f32⟩
  | 70 => ⟨S8x2x4x2048x127, .f32⟩
  | 71 => ⟨S_, .f32⟩
  | 72 => ⟨S_, .f32⟩
  | 73 => ⟨S8x2x4x2048x127, .i1⟩
  | 74 => ⟨S8x2x4x2048x127, .f32⟩
  | 75 => ⟨S8x2x4x2048x127, .f32⟩
  | 76 => ⟨S_, .f32⟩
  | 77 => ⟨S8x2x4x2048, .f32⟩
  | 78 => ⟨S8x2x4x2048x1, .f32⟩
  | 79 => ⟨S_, .f32⟩
  | 80 => ⟨S8x2x4x2048x1, .f32⟩
  | 81 => ⟨S8x2x4x2048x1, .f32⟩
  | 82 => ⟨S8x2x4x2048x127, .f32⟩
  | 83 => ⟨S8x2x4x2048x127, .f32⟩
  | 84 => ⟨S8x2x128x4x2048, .f32⟩
  | 85 => ⟨S8x2048x2x4x128, .f32⟩
  | 86 => ⟨S8x2048x8x128, .f32⟩
  | 87 => ⟨S16384x24, .f32⟩
  | 88 => ⟨S16384x24, .f32⟩
  | 89 => ⟨S16384x24, .f32⟩
  | 90 => ⟨S_, .f32⟩
  | 91 => ⟨S16384x24, .f32⟩
  | 92 => ⟨S16384x24, .f32⟩
  | 93 => ⟨S_, .f32⟩
  | 94 => ⟨S16384x24, .f32⟩
  | 95 => ⟨S16384x24, .f32⟩
  | 96 => ⟨S8x2048x8x3, .f32⟩
  | 97 => ⟨S127, .i32⟩
  | 98 => ⟨S_, .i32⟩
  | 99 => ⟨S127, .i32⟩
  | 100 => ⟨S127, .i32⟩
  | 101 => ⟨S32, .i32⟩
  | 102 => ⟨S_, .i32⟩
  | 103 => ⟨S32, .i32⟩
  | 104 => ⟨S32, .i32⟩
  | 105 => ⟨S127x1, .i32⟩
  | 106 => ⟨S1x32, .i32⟩
  | 107 => ⟨S_, .i32⟩
  | 108 => ⟨S1x32, .i32⟩
  | 109 => ⟨S1x32, .i32⟩
  | 110 => ⟨S127x32, .i32⟩
  | 111 => ⟨S127x32, .i32⟩
  | 112 => ⟨S127x32, .i1⟩
  | 113 => ⟨S127x1, .i32⟩
  | 114 => ⟨S_, .i32⟩
  | 115 => ⟨S127x1, .i32⟩
  | 116 => ⟨S127x1, .i32⟩
  | 117 => ⟨S1x32, .i32⟩
  | 118 => ⟨S127x32, .i32⟩
  | 119 => ⟨S127x32, .i32⟩
  | 120 => ⟨S127x32, .i1⟩
  | 121 => ⟨S127x32, .i1⟩
  | 122 => ⟨S_, .f32⟩
  | 123 => ⟨S_, .f32⟩
  | 124 => ⟨S127x32, .f32⟩
  | 125 => ⟨S127x32, .f32⟩
  | 126 => ⟨S127x32, .f32⟩
  | 127 => ⟨S_, .f32⟩
  | _ => ⟨S2x65536x128, .f32⟩

abbrev hbmTy0_1 (i : Nat) : BufTy := match i % 128 with
  | 0 => ⟨S8x2x2048x127, .f32⟩
  | 1 => ⟨S32x8x2x2048, .f32⟩
  | 2 => ⟨S8x2048x2x32, .f32⟩
  | 3 => ⟨S8x2048x8x1, .f32⟩
  | 4 => ⟨S8x2048x8x128, .f32⟩
  | 5 => ⟨S8x2048x8x128, .f32⟩
  | 6 => ⟨S16384x1024, .f32⟩
  | 7 => ⟨S16384x2x32, .f32⟩
  | 8 => ⟨S2x32x16384, .f32⟩
  | _ => ⟨S2x65536x128, .f32⟩

abbrev hbmTy (i : Nat) : BufTy := match i / 128 with
  | 0 => hbmTy0_0 i
  | 1 => hbmTy0_1 i
  | _ => ⟨S2x65536x128, .f32⟩

abbrev bufTy : (tb : Table) → Fin (tcTables nBuf tb) → BufTy
  | .hbm, ⟨i, _⟩ => hbmTy i
  | _, _ => ⟨S2x65536x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_call0_v0 : Ref sig .tc := ⟨.hbm, 25, rfl⟩
abbrev main_call0_v1 : Ref sig .tc := ⟨.hbm, 26, rfl⟩
abbrev main_call0_cst : Ref sig .tc := ⟨.hbm, 27, rfl⟩
abbrev main_call0_v2 : Ref sig .tc := ⟨.hbm, 28, rfl⟩
abbrev main_call0_v3 : Ref sig .tc := ⟨.hbm, 29, rfl⟩
abbrev main_call0_cst_0 : Ref sig .tc := ⟨.hbm, 30, rfl⟩
abbrev main_call0_v4 : Ref sig .tc := ⟨.hbm, 31, rfl⟩
abbrev main_call0_v5 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_c : Ref sig .tc := ⟨.hbm, 48, rfl⟩
abbrev main_v33 : Ref sig .tc := ⟨.hbm, 49, rfl⟩
abbrev main_v34 : Ref sig .tc := ⟨.hbm, 50, rfl⟩
abbrev main_c_0 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_1 : Ref sig .tc := ⟨.hbm, 60, rfl⟩
abbrev main_call1_v0 : Ref sig .tc := ⟨.hbm, 61, rfl⟩
abbrev main_call1_v1 : Ref sig .tc := ⟨.hbm, 62, rfl⟩
abbrev main_call1_v2 : Ref sig .tc := ⟨.hbm, 63, rfl⟩
abbrev main_v43 : Ref sig .tc := ⟨.hbm, 64, rfl⟩
abbrev main_cst_2 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_cst_3 : Ref sig .tc := ⟨.hbm, 71, rfl⟩
abbrev main_call2_v0 : Ref sig .tc := ⟨.hbm, 72, rfl⟩
abbrev main_call2_v1 : Ref sig .tc := ⟨.hbm, 73, rfl⟩
abbrev main_call2_v2 : Ref sig .tc := ⟨.hbm, 74, rfl⟩
abbrev main_v49 : Ref sig .tc := ⟨.hbm, 75, rfl⟩
abbrev main_cst_4 : Ref sig .tc := ⟨.hbm, 76, rfl⟩
abbrev main_v50 : Ref sig .tc := ⟨.hbm, 77, rfl⟩
abbrev main_v51 : Ref sig .tc := ⟨.hbm, 78, rfl⟩
abbrev main_cst_5 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_cst_6 : Ref sig .tc := ⟨.hbm, 90, rfl⟩
abbrev main_v62 : Ref sig .tc := ⟨.hbm, 91, rfl⟩
abbrev main_v63 : Ref sig .tc := ⟨.hbm, 92, rfl⟩
abbrev main_cst_7 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_c_8 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_c_9 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_c_10 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_c_11 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_cst_12 : Ref sig .tc := ⟨.hbm, 122, rfl⟩
abbrev main_cst_13 : Ref sig .tc := ⟨.hbm, 123, rfl⟩
abbrev main_call3_v0 : Ref sig .tc := ⟨.hbm, 124, rfl⟩
abbrev main_call3_v1 : Ref sig .tc := ⟨.hbm, 125, rfl⟩
abbrev main_v88 : Ref sig .tc := ⟨.hbm, 126, rfl⟩
abbrev main_cst_14 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩

abbrev nD : Nat := 1
abbrev τ : Topo := Topo.v7x

variable {F : FTy → Type} [FloatOps F]
-- ==== KernelUp.lean ====
abbrev S16384x2048 : Shape := ⟨2, ![16384, 2048]⟩
abbrev S2x2048x11264 : Shape := ⟨3, ![2, 2048, 11264]⟩
abbrev S16384x5632 : Shape := ⟨2, ![16384, 5632]⟩
abbrev S1024x2048 : Shape := ⟨2, ![1024, 2048]⟩
abbrev S1x2048x512 : Shape := ⟨3, ![1, 2048, 512]⟩
abbrev S1024x512 : Shape := ⟨2, ![1024, 512]⟩
abbrev S2048x512 : Shape := ⟨2, ![2048, 512]⟩

abbrev nBuf : Space → Nat
  | .hbm => 4
  | .vmem => 8
  | .smem => 0
  | _ => 0

abbrev bufTy : (tb : Table) → Fin (tcTables nBuf tb) → BufTy
  | .hbm, ⟨0, _⟩ => ⟨S16384x2048, .bf16⟩
  | .hbm, ⟨1, _⟩ => ⟨S2x2048x11264, .f32⟩
  | .hbm, ⟨2, _⟩ => ⟨S2x2048x11264, .bf16⟩
  | .hbm, ⟨3, _⟩ => ⟨S16384x5632, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x512, .bf16⟩
  | .local _ .vmem, ⟨3, _⟩ => ⟨S1x2048x512, .bf16⟩
  | .local _ .vmem, ⟨4, _⟩ => ⟨S1x2048x512, .bf16⟩
  | .local _ .vmem, ⟨5, _⟩ => ⟨S1x2048x512, .bf16⟩
  | .local _ .vmem, ⟨6, _⟩ => ⟨S1024x512, .bf16⟩
  | .local _ .vmem, ⟨7, _⟩ => ⟨S1024x512, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg1
  let c1_i32 : BitVec 32 := 1#32
  let c0_i32 : BitVec 32 := 0#32
  let c0_i32_0 : BitVec 32 := 0#32
  ![c1_i32.toNat, c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceUpIdeal.lean ====
abbrev S16384x2048 : Shape := ⟨2, ![16384, 2048]⟩
abbrev S2x2048x11264 : Shape := ⟨3, ![2, 2048, 11264]⟩
abbrev S1x2048x11264 : Shape := ⟨3, ![1, 2048, 11264]⟩
abbrev S2048x11264 : Shape := ⟨2, ![2048, 11264]⟩
abbrev S16384x11264 : Shape := ⟨2, ![16384, 11264]⟩
abbrev S16384x5632 : Shape := ⟨2, ![16384, 5632]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2x2048x11264, .f32⟩
  | .hbm, ⟨2, _⟩ => ⟨S16384x2048, .f32⟩
  | .hbm, ⟨3, _⟩ => ⟨S1x2048x11264, .f32⟩
  | .hbm, ⟨4, _⟩ => ⟨S2048x11264, .f32⟩
  | .hbm, ⟨5, _⟩ => ⟨S16384x11264, .f32⟩
  | .hbm, ⟨6, _⟩ => ⟨S16384x5632, .f32⟩
  | .hbm, ⟨7, _⟩ => ⟨S16384x5632, .f32⟩
  | .hbm, ⟨8, _⟩ => ⟨S16384x5632, .f32⟩
  | .hbm, ⟨9, _⟩ => ⟨S16384x5632, .f32⟩
  | .hbm, ⟨10, _⟩ => ⟨S_, .f32⟩
  | .hbm, ⟨11, _⟩ => ⟨S16384x5632, .f32⟩
  | .hbm, ⟨12, _⟩ => ⟨S16384x5632, .f32⟩
  | .hbm, ⟨13, _⟩ => ⟨S_, .f32⟩
  | .hbm, ⟨14, _⟩ => ⟨S16384x5632, .f32⟩
  | .hbm, ⟨15, _⟩ => ⟨S16384x5632, .f32⟩
  | .hbm, ⟨16, _⟩ => ⟨S16384x5632, .f32⟩
  | .hbm, ⟨17, _⟩ => ⟨S16384x5632, .f32⟩
  | .hbm, ⟨18, _⟩ => ⟨S16384x5632, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩

abbrev nD : Nat := 1
abbrev τ : Topo := Topo.v7x

variable {F : FTy → Type} [FloatOps F]
-- ==== KernelDown.lean ====
abbrev S16384x5632 : Shape := ⟨2, ![16384, 5632]⟩
abbrev S2x5632x2048 : Shape := ⟨3, ![2, 5632, 2048]⟩
abbrev S16384x2048 : Shape := ⟨2, ![16384, 2048]⟩
abbrev S2048 : Shape := ⟨1, ![2048]⟩
abbrev S1x2048 : Shape := ⟨2, ![1, 2048]⟩
abbrev S256x5632 : Shape := ⟨2, ![256, 5632]⟩
abbrev S1x5632x2048 : Shape := ⟨3, ![1, 5632, 2048]⟩
abbrev S256x2048 : Shape := ⟨2, ![256, 2048]⟩
abbrev S5632x2048 : Shape := ⟨2, ![5632, 2048]⟩
abbrev S256 : Shape := ⟨1, ![256]⟩
abbrev S256x1 : Shape := ⟨2, ![256, 1]⟩

abbrev nBuf : Space → Nat
  | .hbm => 10
  | .vmem => 11
  | .smem => 0
  | _ => 0

abbrev bufTy : (tb : Table) → Fin (tcTables nBuf tb) → BufTy
  | .hbm, ⟨0, _⟩ => ⟨S16384x5632, .bf16⟩
  | .hbm, ⟨1, _⟩ => ⟨S2x5632x2048, .f32⟩
  | .hbm, ⟨2, _⟩ => ⟨S16384x2048, .f32⟩
  | .hbm, ⟨3, _⟩ => ⟨S2048, .f32⟩
  | .hbm, ⟨4, _⟩ => ⟨S2048, .f32⟩
  | .hbm, ⟨5, _⟩ => ⟨S2x5632x2048, .bf16⟩
  | .hbm, ⟨6, _⟩ => ⟨S1x2048, .f32⟩
  | .hbm, ⟨7, _⟩ => ⟨S1x2048, .f32⟩
  | .hbm, ⟨8, _⟩ => ⟨S16384x2048, .f32⟩
  | .hbm, ⟨9, _⟩ => ⟨S16384x2048, .bf16⟩
  | .local _ .vmem, ⟨0, _⟩ => ⟨S256x5632, .bf16⟩
  | .local _ .vmem, ⟨1, _⟩ => ⟨S256x5632, .bf16⟩
  | .local _ .vmem, ⟨2, _⟩ => ⟨S1x5632x2048, .bf16⟩
  | .local _ .vmem, ⟨3, _⟩ => ⟨S256x2048, .f32⟩
  | .local _ .vmem, ⟨4, _⟩ => ⟨S256x2048, .f32⟩
  | .local _ .vmem, ⟨5, _⟩ => ⟨S1x2048, .f32⟩
  | .local _ .vmem, ⟨6, _⟩ => ⟨S1x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .bf16⟩
  | .local _ .vmem, ⟨10, _⟩ => ⟨S256x2048, .bf16⟩
  | _, _ => ⟨S16384x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x5632x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceDownIdeal.lean ====
abbrev S16384x5632 : Shape := ⟨2, ![16384, 5632]⟩
abbrev S2x5632x2048 : Shape := ⟨3, ![2, 5632, 2048]⟩
abbrev S16384x2048 : Shape := ⟨2, ![16384, 2048]⟩
abbrev S2048 : Shape := ⟨1, ![2048]⟩
abbrev S1x5632x2048 : Shape := ⟨3, ![1, 5632, 2048]⟩
abbrev S5632x2048 : Shape := ⟨2, ![5632, 2048]⟩
abbrev S_ : Shape := ⟨0, ![]⟩
abbrev S16384 : Shape := ⟨1, ![16384]⟩
abbrev S16384x1 : Shape := ⟨2, ![16384, 1]⟩
abbrev S1x2048 : Shape := ⟨2, ![1, 2048]⟩

abbrev nBuf : Space → Nat
  | .hbm => 43
  | .vmem => 0
  | .smem => 0
  | _ => 0

abbrev bufTy : (tb : Table) → Fin (tcTables nBuf tb) → BufTy
  | .hbm, ⟨0, _⟩ => ⟨S16384x5632, .bf16⟩
  | .hbm, ⟨1, _⟩ => ⟨S2x5632x2048, .f32⟩
  | .hbm, ⟨2, _⟩ => ⟨S16384x2048, .f32⟩
  | .hbm, ⟨3, _⟩ => ⟨S2048, .f32⟩
  | .hbm, ⟨4, _⟩ => ⟨S2048, .f32⟩
  | .hbm, ⟨5, _⟩ => ⟨S16384x5632, .f32⟩
  | .hbm, ⟨6, _⟩ => ⟨S1x5632x2048, .f32⟩
  | .hbm, ⟨7, _⟩ => ⟨S5632x2048, .f32⟩
  | .hbm, ⟨8, _⟩ => ⟨S16384x2048, .f32⟩
  | .hbm, ⟨9, _⟩ => ⟨S16384x2048, .f32⟩
  | .hbm, ⟨10, _⟩ => ⟨S_, .f32⟩
  | .hbm, ⟨11, _⟩ => ⟨S16384, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S_, .f32⟩
  | .hbm, ⟨17, _⟩ => ⟨S16384x1, .f32⟩
  | .hbm, ⟨18, _⟩ => ⟨S16384x1, .f32⟩
  | .hbm, ⟨19, _⟩ => ⟨S16384x1, .f32⟩
  | .hbm, ⟨20, _⟩ => ⟨S16384x2048, .f32⟩
  | .hbm, ⟨21, _⟩ => ⟨S16384x2048, .f32⟩
  | .hbm, ⟨22, _⟩ => ⟨S1x2048, .f32⟩
  | .hbm, ⟨23, _⟩ => ⟨S16384x2048, .f32⟩
  | .hbm, ⟨24, _⟩ => ⟨S16384x2048, .f32⟩
  | .hbm, ⟨25, _⟩ => ⟨S16384x2048, .f32⟩
  | .hbm, ⟨26, _⟩ => ⟨S16384x2048, .f32⟩
  | .hbm, ⟨27, _⟩ => ⟨S_, .f32⟩
  | .hbm, ⟨28, _⟩ => ⟨S16384, .f32⟩
  | .hbm, ⟨29, _⟩ => ⟨S16384x1, .f32⟩
  | .hbm, ⟨30, _⟩ => ⟨S_, .f32⟩
  | .hbm, ⟨31, _⟩ => ⟨S16384x1, .f32⟩
  | .hbm, ⟨32, _⟩ => ⟨S16384x1, .f32⟩
  | .hbm, ⟨33, _⟩ => ⟨S_, .f32⟩
  | .hbm, ⟨34, _⟩ => ⟨S16384x1, .f32⟩
  | .hbm, ⟨35, _⟩ => ⟨S16384x1, .f32⟩
  | .hbm, ⟨36, _⟩ => ⟨S16384x1, .f32⟩
  | .hbm, ⟨37, _⟩ => ⟨S16384x2048, .f32⟩
  | .hbm, ⟨38, _⟩ => ⟨S16384x2048, .f32⟩
  | .hbm, ⟨39, _⟩ => ⟨S1x2048, .f32⟩
  | .hbm, ⟨40, _⟩ => ⟨S16384x2048, .f32⟩
  | .hbm, ⟨41, _⟩ => ⟨S16384x2048, .f32⟩
  | .hbm, ⟨42, _⟩ => ⟨S16384x2048, .bf16⟩
  | _, _ => ⟨S16384x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_2 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩

abbrev nD : Nat := 1
abbrev τ : Topo := Topo.v7x

variable {F : FTy → Type} [FloatOps F]
-- ==== KernelProj.lean ====
abbrev S16384x2048 : Shape := ⟨2, ![16384, 2048]⟩
abbrev S2048x13920 : Shape := ⟨2, ![2048, 13920]⟩
abbrev S2048x1024 : Shape := ⟨2, ![2048, 1024]⟩
abbrev S2048x512 : Shape := ⟨2, ![2048, 512]⟩
abbrev S2048x24 : Shape := ⟨2, ![2048, 24]⟩
abbrev S2048x64 : Shape := ⟨2, ![2048, 64]⟩
abbrev S2048x8 : Shape := ⟨2, ![2048, 8]⟩
abbrev S2048x6144 : Shape := ⟨2, ![2048, 6144]⟩
abbrev S2048x2048 : Shape := ⟨2, ![2048, 2048]⟩
abbrev S_ : Shape := ⟨0, ![]⟩
abbrev S2048x96 : Shape := ⟨2, ![2048, 96]⟩
abbrev S2048x768 : Shape := ⟨2, ![2048, 768]⟩
abbrev S2048x9216 : Shape := ⟨2, ![2048, 9216]⟩
abbrev S16384x9216 : Shape := ⟨2, ![16384, 9216]⟩
abbrev S1024x2048 : Shape := ⟨2, ![1024, 2048]⟩
abbrev S1024x1024 : Shape := ⟨2, ![1024, 1024]⟩

abbrev nBuf : Space → Nat
  | .hbm => 29
  | .vmem => 6
  | .smem => 0
  | _ => 0

abbrev bufTy : (tb : Table) → Fin (tcTables nBuf tb) → BufTy
  | .hbm, ⟨0, _⟩ => ⟨S16384x2048, .bf16⟩
  | .hbm, ⟨1, _⟩ => ⟨S2048x13920, .f32⟩
  | .hbm, ⟨2, _⟩ => ⟨S2048x1024, .f32⟩
  | .hbm, ⟨3, _⟩ => ⟨S2048x512, .f32⟩
  | .hbm, ⟨4, _⟩ => ⟨S2048x512, .f32⟩
  | .hbm, ⟨5, _⟩ => ⟨S2048x512, .f32⟩
  | .hbm, ⟨6, _⟩ => ⟨S2048x24, .f32⟩
  | .hbm, ⟨7, _⟩ => ⟨S2048x1024, .f32⟩
  | .hbm, ⟨8, _⟩ => ⟨S2048x512, .f32⟩
  | .hbm, ⟨9, _⟩ => ⟨S2048x512, .f32⟩
  | .hbm, ⟨10, _⟩ => ⟨S2048x64, .f32⟩
  | .hbm, ⟨11, _⟩ => ⟨S2048x8, .f32⟩
  | .hbm, ⟨12, _⟩ => ⟨S2048x1024, .f32⟩
  | .hbm, ⟨13, _⟩ => ⟨S2048x1024, .f32⟩
  | .hbm, ⟨14, _⟩ => ⟨S2048x1024, .f32⟩
  | .hbm, ⟨15, _⟩ => ⟨S2048x6144, .f32⟩
  | .hbm, ⟨16, _⟩ => ⟨S2048x2048, .f32⟩
  | .hbm, ⟨17, _⟩ => ⟨S2048x2048, .bf16⟩
  | .hbm, ⟨18, _⟩ => ⟨S2048x2048, .f32⟩
  | .hbm, ⟨19, _⟩ => ⟨S2048x2048, .bf16⟩
  | .hbm, ⟨20, _⟩ => ⟨S_, .f32⟩
  | .hbm, ⟨21, _⟩ => ⟨S2048x64, .f32⟩
  | .hbm, ⟨22, _⟩ => ⟨S_, .f32⟩
  | .hbm, ⟨23, _⟩ => ⟨S2048x96, .f32⟩
  | .hbm, ⟨24, _⟩ => ⟨S2048x768, .f32⟩
  | .hbm, ⟨25, _⟩ => ⟨S2048x768, .bf16⟩
  | .hbm, ⟨26, _⟩ => ⟨S2048x9216, .f32⟩
  | .hbm, ⟨27, _⟩ => ⟨S2048x9216, .bf16⟩
  | .hbm, ⟨28, _⟩ => ⟨S16384x9216, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_cst : Ref sig .tc := ⟨.hbm, 20, rfl⟩
abbrev main_v18 : Ref sig .tc := ⟨.hbm, 21, rfl⟩
abbrev main_cst_0 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 9], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceProjIdeal.lean ====
abbrev S16384x2048 : Shape := ⟨2, ![16384, 2048]⟩
abbrev S2048x13920 : Shape := ⟨2, ![2048, 13920]⟩
abbrev S16384x13920 : Shape := ⟨2, ![16384, 13920]⟩
abbrev S16384x9216 : Shape := ⟨2, ![16384, 9216]⟩
abbrev S16384x1024 : Shape := ⟨2, ![16384, 1024]⟩
abbrev S16384x6144 : Shape := ⟨2, ![16384, 6144]⟩

abbrev nBuf : Space → Nat
  | .hbm => 10
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2048x13920, .f32⟩
  | .hbm, ⟨2, _⟩ => ⟨S16384x2048, .f32⟩
  | .hbm, ⟨3, _⟩ => ⟨S16384x13920, .f32⟩
  | .hbm, ⟨4, _⟩ => ⟨S16384x9216, .f32⟩
  | .hbm, ⟨5, _⟩ => ⟨S16384x1024, .f32⟩
  | .hbm, ⟨6, _⟩ => ⟨S16384x1024, .f32⟩
  | .hbm, ⟨7, _⟩ => ⟨S16384x1024, .f32⟩
  | .hbm, ⟨8, _⟩ => ⟨S16384x6144, .f32⟩
  | .hbm, ⟨9, _⟩ => ⟨S16384x9216, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩

abbrev nD : Nat := 1
abbrev τ : Topo := Topo.v7x

variable {F : FTy → Type} [FloatOps F]
-- ==== KernelMerge.lean ====
abbrev S16384x1024 : Shape := ⟨2, ![16384, 1024]⟩
abbrev S2x3x1024x2048 : Shape := ⟨4, ![2, 3, 1024, 2048]⟩
abbrev S16384x9216 : Shape := ⟨2, ![16384, 9216]⟩
abbrev S16384x2048 : Shape := ⟨2, ![16384, 2048]⟩
abbrev S256x1024 : Shape := ⟨2, ![256, 1024]⟩
abbrev S1x3x1024x2048 : Shape := ⟨4, ![1, 3, 1024, 2048]⟩
abbrev S256x2048 : Shape := ⟨2, ![256, 2048]⟩
abbrev S1x1x1024x2048 : Shape := ⟨4, ![1, 1, 1024, 2048]⟩
abbrev S1024x2048 : Shape := ⟨2, ![1024, 2048]⟩

abbrev nBuf : Space → Nat
  | .hbm => 9
  | .vmem => 19
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S16384x1024, .f32⟩
  | .hbm, ⟨4, _⟩ => ⟨S16384x1024, .bf16⟩
  | .hbm, ⟨5, _⟩ => ⟨S2x3x1024x2048, .f32⟩
  | .hbm, ⟨6, _⟩ => ⟨S16384x9216, .f32⟩
  | .hbm, ⟨7, _⟩ => ⟨S2x3x1024x2048, .bf16⟩
  | .hbm, ⟨8, _⟩ => ⟨S16384x2048, .bf16⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .bf16⟩
  | .local _ .vmem, ⟨9, _⟩ => ⟨S256x1024, .bf16⟩
  | .local _ .vmem, ⟨10, _⟩ => ⟨S1x3x1024x2048, .bf16⟩
  | .local _ .vmem, ⟨11, _⟩ => ⟨S256x2048, .f32⟩
  | .local _ .vmem, ⟨12, _⟩ => ⟨S256x2048, .f32⟩
  | .local _ .vmem, ⟨13, _⟩ => ⟨S256x2048, .f32⟩
  | .local _ .vmem, ⟨14, _⟩ => ⟨S256x2048, .f32⟩
  | .local _ .vmem, ⟨15, _⟩ => ⟨S256x2048, .f32⟩
  | .local _ .vmem, ⟨16, _⟩ => ⟨S256x2048, .f32⟩
  | .local _ .vmem, ⟨17, _⟩ => ⟨S256x2048, .bf16⟩
  | .local _ .vmem, ⟨18, _⟩ => ⟨S256x2048, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨2, ![64, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_7 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg1
  let c0_i32 : BitVec 32 := 0#32
  ![arg0.toNat, v0.toNat]

def cc0_transform_8 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg1
  let c0_i32 : BitVec 32 := 0#32
  ![arg0.toNat, v0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x3x1024x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S256x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S256x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== ReferenceMergeIdeal.lean ====
abbrev S16384x1024 : Shape := ⟨2, ![16384, 1024]⟩
abbrev S2x3x1024x2048 : Shape := ⟨4, ![2, 3, 1024, 2048]⟩
abbrev S16384x9216 : Shape := ⟨2, ![16384, 9216]⟩
abbrev S16384x6144 : Shape := ⟨2, ![16384, 6144]⟩
abbrev S_ : Shape := ⟨0, ![]⟩
abbrev S16384x3x2048 : Shape := ⟨3, ![16384, 3, 2048]⟩
abbrev S16384x2048 : Shape := ⟨2, ![16384, 2048]⟩
abbrev S16384x1x2048 : Shape := ⟨3, ![16384, 1, 2048]⟩
abbrev S1x1x1024x2048 : Shape := ⟨4, ![1, 1, 1024, 2048]⟩
abbrev S1024x2048 : Shape := ⟨2, ![1024, 2048]⟩

abbrev nBuf : Space → Nat
  | .hbm => 44
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S16384x1024, .f32⟩
  | .hbm, ⟨4, _⟩ => ⟨S16384x1024, .bf16⟩
  | .hbm, ⟨5, _⟩ => ⟨S2x3x1024x2048, .f32⟩
  | .hbm, ⟨6, _⟩ => ⟨S16384x9216, .f32⟩
  | .hbm, ⟨7, _⟩ => ⟨S16384x6144, .f32⟩
  | .hbm, ⟨8, _⟩ => ⟨S16384x6144, .f32⟩
  | .hbm, ⟨9, _⟩ => ⟨S16384x6144, .f32⟩
  | .hbm, ⟨10, _⟩ => ⟨S_, .f32⟩
  | .hbm, ⟨11, _⟩ => ⟨S16384x6144, .f32⟩
  | .hbm, ⟨12, _⟩ => ⟨S16384x6144, .f32⟩
  | .hbm, ⟨13, _⟩ => ⟨S_, .f32⟩
  | .hbm, ⟨14, _⟩ => ⟨S16384x6144, .f32⟩
  | .hbm, ⟨15, _⟩ => ⟨S16384x6144, .f32⟩
  | .hbm, ⟨16, _⟩ => ⟨S16384x3x2048, .f32⟩
  | .hbm, ⟨17, _⟩ => ⟨S16384x1024, .f32⟩
  | .hbm, ⟨18, _⟩ => ⟨S16384x1024, .f32⟩
  | .hbm, ⟨19, _⟩ => ⟨S16384x1024, .f32⟩
  | .hbm, ⟨20, _⟩ => ⟨S_, .f32⟩
  | .hbm, ⟨21, _⟩ => ⟨S16384x2048, .f32⟩
  | .hbm, ⟨22, _⟩ => ⟨S16384x1x2048, .f32⟩
  | .hbm, ⟨23, _⟩ => ⟨S16384x2048, .f32⟩
  | .hbm, ⟨24, _⟩ => ⟨S1x1x1024x2048, .f32⟩
  | .hbm, ⟨25, _⟩ => ⟨S1024x2048, .f32⟩
  | .hbm, ⟨26, _⟩ => ⟨S16384x2048, .f32⟩
  | .hbm, ⟨27, _⟩ => ⟨S16384x2048, .f32⟩
  | .hbm, ⟨28, _⟩ => ⟨S16384x2048, .f32⟩
  | .hbm, ⟨29, _⟩ => ⟨S16384x1x2048, .f32⟩
  | .hbm, ⟨30, _⟩ => ⟨S16384x2048, .f32⟩
  | .hbm, ⟨31, _⟩ => ⟨S1x1x1024x2048, .f32⟩
  | .hbm, ⟨32, _⟩ => ⟨S1024x2048, .f32⟩
  | .hbm, ⟨33, _⟩ => ⟨S16384x2048, .f32⟩
  | .hbm, ⟨34, _⟩ => ⟨S16384x2048, .f32⟩
  | .hbm, ⟨35, _⟩ => ⟨S16384x2048, .f32⟩
  | .hbm, ⟨36, _⟩ => ⟨S16384x1x2048, .f32⟩
  | .hbm, ⟨37, _⟩ => ⟨S16384x2048, .f32⟩
  | .hbm, ⟨38, _⟩ => ⟨S1x1x1024x2048, .f32⟩
  | .hbm, ⟨39, _⟩ => ⟨S1024x2048, .f32⟩
  | .hbm, ⟨40, _⟩ => ⟨S16384x2048, .f32⟩
  | .hbm, ⟨41, _⟩ => ⟨S16384x2048, .f32⟩
  | .hbm, ⟨42, _⟩ => ⟨S16384x2048, .f32⟩
  | .hbm, ⟨43, _⟩ => ⟨S16384x2048, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩

abbrev nD : Nat := 1
abbrev τ : Topo := Topo.v7x

variable {F : FTy → Type} [FloatOps F]
-- ==== KernelOut.lean ====
abbrev S16384x2048 : Shape := ⟨2, ![16384, 2048]⟩
abbrev S2x2048x2048 : Shape := ⟨3, ![2, 2048, 2048]⟩
abbrev S2048 : Shape := ⟨1, ![2048]⟩
abbrev S1x2048 : Shape := ⟨2, ![1, 2048]⟩
abbrev S512x2048 : Shape := ⟨2, ![512, 2048]⟩
abbrev S1x2048x2048 : Shape := ⟨3, ![1, 2048, 2048]⟩
abbrev S2048x2048 : Shape := ⟨2, ![2048, 2048]⟩
abbrev S512 : Shape := ⟨1, ![512]⟩
abbrev S512x1 : Shape := ⟨2, ![512, 1]⟩

abbrev nBuf : Space → Nat
  | .hbm => 10
  | .vmem => 11
  | .smem => 0
  | _ => 0

abbrev bufTy : (tb : Table) → Fin (tcTables nBuf tb) → BufTy
  | .hbm, ⟨0, _⟩ => ⟨S16384x2048, .bf16⟩
  | .hbm, ⟨1, _⟩ => ⟨S2x2048x2048, .f32⟩
  | .hbm, ⟨2, _⟩ => ⟨S16384x2048, .f32⟩
  | .hbm, ⟨3, _⟩ => ⟨S2048, .f32⟩
  | .hbm, ⟨4, _⟩ => ⟨S2048, .f32⟩
  | .hbm, ⟨5, _⟩ => ⟨S2x2048x2048, .bf16⟩
  | .hbm, ⟨6, _⟩ => ⟨S1x2048, .f32⟩
  | .hbm, ⟨7, _⟩ => ⟨S1x2048, .f32⟩
  | .hbm, ⟨8, _⟩ => ⟨S16384x2048, .f32⟩
  | .hbm, ⟨9, _⟩ => ⟨S16384x2048, .bf16⟩
  | .local _ .vmem, ⟨0, _⟩ => ⟨S512x2048, .bf16⟩
  | .local _ .vmem, ⟨1, _⟩ => ⟨S512x2048, .bf16⟩
  | .local _ .vmem, ⟨2, _⟩ => ⟨S1x2048x2048, .bf16⟩
  | .local _ .vmem, ⟨3, _⟩ => ⟨S512x2048, .f32⟩
  | .local _ .vmem, ⟨4, _⟩ => ⟨S512x2048, .f32⟩
  | .local _ .vmem, ⟨5, _⟩ => ⟨S1x2048, .f32⟩
  | .local _ .vmem, ⟨6, _⟩ => ⟨S1x2048, .f32⟩
  | .local _ .vmem, ⟨7, _⟩ => ⟨S512x2048, .f32⟩
  | .local _ .vmem, ⟨8, _⟩ => ⟨S512x2048, .f32⟩
  | .local _ .vmem, ⟨9, _⟩ => ⟨S512x2048, .bf16⟩
  | .local _ .vmem, ⟨10, _⟩ => ⟨S512x2048, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceOutIdeal.lean ====
abbrev S16384x2048 : Shape := ⟨2, ![16384, 2048]⟩
abbrev S2x2048x2048 : Shape := ⟨3, ![2, 2048, 2048]⟩
abbrev S2048 : Shape := ⟨1, ![2048]⟩
abbrev S1x2048x2048 : Shape := ⟨3, ![1, 2048, 2048]⟩
abbrev S2048x2048 : Shape := ⟨2, ![2048, 2048]⟩
abbrev S_ : Shape := ⟨0, ![]⟩
abbrev S16384 : Shape := ⟨1, ![16384]⟩
abbrev S16384x1 : Shape := ⟨2, ![16384, 1]⟩
abbrev S1x2048 : Shape := ⟨2, ![1, 2048]⟩

abbrev nBuf : Space → Nat
  | .hbm => 43
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2x2048x2048, .f32⟩
  | .hbm, ⟨2, _⟩ => ⟨S16384x2048, .f32⟩
  | .hbm, ⟨3, _⟩ => ⟨S2048, .f32⟩
  | .hbm, ⟨4, _⟩ => ⟨S2048, .f32⟩
  | .hbm, ⟨5, _⟩ => ⟨S16384x2048, .f32⟩
  | .hbm, ⟨6, _⟩ => ⟨S1x2048x2048, .f32⟩
  | .hbm, ⟨7, _⟩ => ⟨S2048x2048, .f32⟩
  | .hbm, ⟨8, _⟩ => ⟨S16384x2048, .f32⟩
  | .hbm, ⟨9, _⟩ => ⟨S16384x2048, .f32⟩
  | .hbm, ⟨10, _⟩ => ⟨S_, .f32⟩
  | .hbm, ⟨11, _⟩ => ⟨S16384, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S_, .f32⟩
  | .hbm, ⟨17, _⟩ => ⟨S16384x1, .f32⟩
  | .hbm, ⟨18, _⟩ => ⟨S16384x1, .f32⟩
  | .hbm, ⟨19, _⟩ => ⟨S16384x1, .f32⟩
  | .hbm, ⟨20, _⟩ => ⟨S16384x2048, .f32⟩
  | .hbm, ⟨21, _⟩ => ⟨S16384x2048, .f32⟩
  | .hbm, ⟨22, _⟩ => ⟨S1x2048, .f32⟩
  | .hbm, ⟨23, _⟩ => ⟨S16384x2048, .f32⟩
  | .hbm, ⟨24, _⟩ => ⟨S16384x2048, .f32⟩
  | .hbm, ⟨25, _⟩ => ⟨S16384x2048, .f32⟩
  | .hbm, ⟨26, _⟩ => ⟨S16384x2048, .f32⟩
  | .hbm, ⟨27, _⟩ => ⟨S_, .f32⟩
  | .hbm, ⟨28, _⟩ => ⟨S16384, .f32⟩
  | .hbm, ⟨29, _⟩ => ⟨S16384x1, .f32⟩
  | .hbm, ⟨30, _⟩ => ⟨S_, .f32⟩
  | .hbm, ⟨31, _⟩ => ⟨S16384x1, .f32⟩
  | .hbm, ⟨32, _⟩ => ⟨S16384x1, .f32⟩
  | .hbm, ⟨33, _⟩ => ⟨S_, .f32⟩
  | .hbm, ⟨34, _⟩ => ⟨S16384x1, .f32⟩
  | .hbm, ⟨35, _⟩ => ⟨S16384x1, .f32⟩
  | .hbm, ⟨36, _⟩ => ⟨S16384x1, .f32⟩
  | .hbm, ⟨37, _⟩ => ⟨S16384x2048, .f32⟩
  | .hbm, ⟨38, _⟩ => ⟨S16384x2048, .f32⟩
  | .hbm, ⟨39, _⟩ => ⟨S1x2048, .f32⟩
  | .hbm, ⟨40, _⟩ => ⟨S16384x2048, .f32⟩
  | .hbm, ⟨41, _⟩ => ⟨S16384x2048, .f32⟩
  | .hbm, ⟨42, _⟩ => ⟨S16384x2048, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_2 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩

abbrev nD : Nat := 1
abbrev τ : Topo := Topo.v7x

variable {F : FTy → Type} [FloatOps F]
-- ==== KernelConv.lean ====
abbrev S16384x9216 : Shape := ⟨2, ![16384, 9216]⟩
abbrev S2x3x1024 : Shape := ⟨3, ![2, 3, 1024]⟩
abbrev S1x3x1024 : Shape := ⟨3, ![1, 3, 1024]⟩
abbrev S3x1024 : Shape := ⟨2, ![3, 1024]⟩
abbrev S16384x1024 : Shape := ⟨2, ![16384, 1024]⟩
abbrev S8x2x1024 : Shape := ⟨3, ![8, 2, 1024]⟩
abbrev S2048x256 : Shape := ⟨2, ![2048, 256]⟩
abbrev S3x256 : Shape := ⟨2, ![3, 256]⟩
abbrev S1x2x256 : Shape := ⟨3, ![1, 2, 256]⟩
abbrev S1x256 : Shape := ⟨2, ![1, 256]⟩
abbrev S2x256 : Shape := ⟨2, ![2, 256]⟩

abbrev nBuf : Space → Nat
  | .hbm => 6
  | .vmem => 12
  | .smem => 0
  | _ => 0

abbrev bufTy : (tb : Table) → Fin (tcTables nBuf tb) → BufTy
  | .hbm, ⟨0, _⟩ => ⟨S16384x9216, .f32⟩
  | .hbm, ⟨1, _⟩ => ⟨S2x3x1024, .f32⟩
  | .hbm, ⟨2, _⟩ => ⟨S1x3x1024, .f32⟩
  | .hbm, ⟨3, _⟩ => ⟨S3x1024, .f32⟩
  | .hbm, ⟨4, _⟩ => ⟨S16384x1024, .bf16⟩
  | .hbm, ⟨5, _⟩ => ⟨S8x2x1024, .f32⟩
  | .local _ .vmem, ⟨0, _⟩ => ⟨S2048x256, .f32⟩
  | .local _ .vmem, ⟨1, _⟩ => ⟨S2048x256, .f32⟩
  | .local _ .vmem, ⟨2, _⟩ => ⟨S2048x256, .f32⟩
  | .local _ .vmem, ⟨3, _⟩ => ⟨S2048x256, .f32⟩
  | .local _ .vmem, ⟨4, _⟩ => ⟨S2048x256, .f32⟩
  | .local _ .vmem, ⟨5, _⟩ => ⟨S2048x256, .f32⟩
  | .local _ .vmem, ⟨6, _⟩ => ⟨S3x256, .f32⟩
  | .local _ .vmem, ⟨7, _⟩ => ⟨S3x256, .f32⟩
  | .local _ .vmem, ⟨8, _⟩ => ⟨S2048x256, .bf16⟩
  | .local _ .vmem, ⟨9, _⟩ => ⟨S2048x256, .bf16⟩
  | .local _ .vmem, ⟨10, _⟩ => ⟨S1x2x256, .f32⟩
  | .local _ .vmem, ⟨11, _⟩ => ⟨S1x2x256, .f32⟩
  | _, _ => ⟨S16384x9216, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c24_i32 : BitVec 32 := 24#32
  let v0 : BitVec 32 := Scalar.addi c24_i32 arg1
  let c0_i32 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c28_i32 : BitVec 32 := 28#32
  let v0 : BitVec 32 := Scalar.addi c28_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S3x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x2x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ReferenceConvIdeal.lean ====
abbrev S16384x9216 : Shape := ⟨2, ![16384, 9216]⟩
abbrev S2x3x1024 : Shape := ⟨3, ![2, 3, 1024]⟩
abbrev S16384x3072 : Shape := ⟨2, ![16384, 3072]⟩
abbrev S8x2048x3072 : Shape := ⟨3, ![8, 2048, 3072]⟩
abbrev S8x2048x1024 : Shape := ⟨3, ![8, 2048, 1024]⟩
abbrev S1x3x1024 : Shape := ⟨3, ![1, 3, 1024]⟩
abbrev S3x1024 : Shape := ⟨2, ![3, 1024]⟩
abbrev S_ : Shape := ⟨0, ![]⟩
abbrev S8x2x1024 : Shape := ⟨3, ![8, 2, 1024]⟩
abbrev S8x2050x1024 : Shape := ⟨3, ![8, 2050, 1024]⟩
abbrev S1x1024 : Shape := ⟨2, ![1, 1024]⟩
abbrev S1024 : Shape := ⟨1, ![1024]⟩
abbrev S1x1x1024 : Shape := ⟨3, ![1, 1, 1024]⟩
abbrev S16384x1024 : Shape := ⟨2, ![16384, 1024]⟩

abbrev nBuf : Space → Nat
  | .hbm => 37
  | .vmem => 0
  | .smem => 0
  | _ => 0

abbrev bufTy : (tb : Table) → Fin (tcTables nBuf tb) → BufTy
  | .hbm, ⟨0, _⟩ => ⟨S16384x9216, .f32⟩
  | .hbm, ⟨1, _⟩ => ⟨S2x3x1024, .f32⟩
  | .hbm, ⟨2, _⟩ => ⟨S16384x3072, .f32⟩
  | .hbm, ⟨3, _⟩ => ⟨S8x2048x3072, .f32⟩
  | .hbm, ⟨4, _⟩ => ⟨S8x2048x1024, .f32⟩
  | .hbm, ⟨5, _⟩ => ⟨S8x2048x1024, .f32⟩
  | .hbm, ⟨6, _⟩ => ⟨S8x2048x1024, .f32⟩
  | .hbm, ⟨7, _⟩ => ⟨S1x3x1024, .f32⟩
  | .hbm, ⟨8, _⟩ => ⟨S3x1024, .f32⟩
  | .hbm, ⟨9, _⟩ => ⟨S_, .f32⟩
  | .hbm, ⟨10, _⟩ => ⟨S8x2x1024, .f32⟩
  | .hbm, ⟨11, _⟩ => ⟨S8x2048x1024, .f32⟩
  | .hbm, ⟨12, _⟩ => ⟨S8x2050x1024, .f32⟩
  | .hbm, ⟨13, _⟩ => ⟨S1x1024, .f32⟩
  | .hbm, ⟨14, _⟩ => ⟨S1024, .f32⟩
  | .hbm, ⟨15, _⟩ => ⟨S8x2048x1024, .f32⟩
  | .hbm, ⟨16, _⟩ => ⟨S1x1x1024, .f32⟩
  | .hbm, ⟨17, _⟩ => ⟨S8x2048x1024, .f32⟩
  | .hbm, ⟨18, _⟩ => ⟨S8x2048x1024, .f32⟩
  | .hbm, ⟨19, _⟩ => ⟨S1x1024, .f32⟩
  | .hbm, ⟨20, _⟩ => ⟨S1024, .f32⟩
  | .hbm, ⟨21, _⟩ => ⟨S8x2048x1024, .f32⟩
  | .hbm, ⟨22, _⟩ => ⟨S1x1x1024, .f32⟩
  | .hbm, ⟨23, _⟩ => ⟨S8x2048x1024, .f32⟩
  | .hbm, ⟨24, _⟩ => ⟨S8x2048x1024, .f32⟩
  | .hbm, ⟨25, _⟩ => ⟨S8x2048x1024, .f32⟩
  | .hbm, ⟨26, _⟩ => ⟨S1x1024, .f32⟩
  | .hbm, ⟨27, _⟩ => ⟨S1024, .f32⟩
  | .hbm, ⟨28, _⟩ => ⟨S8x2048x1024, .f32⟩
  | .hbm, ⟨29, _⟩ => ⟨S1x1x1024, .f32⟩
  | .hbm, ⟨30, _⟩ => ⟨S8x2048x1024, .f32⟩
  | .hbm, ⟨31, _⟩ => ⟨S8x2048x1024, .f32⟩
  | .hbm, ⟨32, _⟩ => ⟨S8x2048x1024, .f32⟩
  | .hbm, ⟨33, _⟩ => ⟨S8x2048x1024, .f32⟩
  | .hbm, ⟨34, _⟩ => ⟨S16384x1024, .f32⟩
  | .hbm, ⟨35, _⟩ => ⟨S16384x1024, .bf16⟩
  | .hbm, ⟨36, _⟩ => ⟨S8x2x1024, .f32⟩
  | _, _ => ⟨S16384x9216, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_v30 : Ref sig .tc := ⟨.hbm, 33, rfl⟩
abbrev main_v31 : Ref sig .tc := ⟨.hbm, 34, rfl⟩
abbrev main_v32 : Ref sig .tc := ⟨.hbm, 35, rfl⟩
abbrev main_v33 : Ref sig .tc := ⟨.hbm, 36, rfl⟩

abbrev nD : Nat := 1
abbrev τ : Topo := Topo.v7x

variable {F : FTy → Type} [FloatOps F]
-- ==== KernelQuery.lean ====
abbrev S16384x2048 : Shape := ⟨2, ![16384, 2048]⟩
abbrev S2048x13920 : Shape := ⟨2, ![2048, 13920]⟩
abbrev S128 : Shape := ⟨1, ![128]⟩
abbrev S2048 : Shape := ⟨1, ![2048]⟩
abbrev S16 : Shape := ⟨1, ![16]⟩
abbrev S_ : Shape := ⟨0, ![]⟩
abbrev S2048x1 : Shape := ⟨2, ![2048, 1]⟩
abbrev S1x16 : Shape := ⟨2, ![1, 16]⟩
abbrev S2048x16 : Shape := ⟨2, ![2048, 16]⟩
abbrev S1x128 : Shape := ⟨2, ![1, 128]⟩
abbrev S128x1 : Shape := ⟨2, ![128, 1]⟩
abbrev S2048x128 : Shape := ⟨2, ![2048, 128]⟩
abbrev S2048x1024 : Shape := ⟨2, ![2048, 1024]⟩
abbrev S2048x512 : Shape := ⟨2, ![2048, 512]⟩
abbrev S2048x24 : Shape := ⟨2, ![2048, 24]⟩
abbrev S2048x64 : Shape := ⟨2, ![2048, 64]⟩
abbrev S2048x8 : Shape := ⟨2, ![2048, 8]⟩
abbrev S2048x6144 : Shape := ⟨2, ![2048, 6144]⟩
abbrev S2048x2048 : Shape := ⟨2, ![2048, 2048]⟩
abbrev S2048x96 : Shape := ⟨2, ![2048, 96]⟩
abbrev S2048x768 : Shape := ⟨2, ![2048, 768]⟩
abbrev S2048x9216 : Shape := ⟨2, ![2048, 9216]⟩
abbrev S1024x2048 : Shape := ⟨2, ![1024, 2048]⟩
abbrev S1024x128 : Shape := ⟨2, ![1024, 128]⟩
abbrev S1024x1024 : Shape := ⟨2, ![1024, 1024]⟩

abbrev nBuf : Space → Nat
  | .hbm => 86
  | .vmem => 12
  | .smem => 0
  | _ => 0

abbrev bufTy : (tb : Table) → Fin (tcTables nBuf tb) → BufTy
  | .hbm, ⟨0, _⟩ => ⟨S16384x2048, .bf16⟩
  | .hbm, ⟨1, _⟩ => ⟨S2048x13920, .f32⟩
  | .hbm, ⟨2, _⟩ => ⟨S128, .i1⟩
  | .hbm, ⟨3, _⟩ => ⟨S128, .i1⟩
  | .hbm, ⟨4, _⟩ => ⟨S128, .i32⟩
  | .hbm, ⟨5, _⟩ => ⟨S128, .i1⟩
  | .hbm, ⟨6, _⟩ => ⟨S128, .i1⟩
  | .hbm, ⟨7, _⟩ => ⟨S128, .i1⟩
  | .hbm, ⟨8, _⟩ => ⟨S2048, .i32⟩
  | .hbm, ⟨9, _⟩ => ⟨S16, .f32⟩
  | .hbm, ⟨10, _⟩ => ⟨S_, .f32⟩
  | .hbm, ⟨11, _⟩ => ⟨S16, .f32⟩
  | .hbm, ⟨12, _⟩ => ⟨S16, .f32⟩
  | .hbm, ⟨13, _⟩ => ⟨S16, .f32⟩
  | .hbm, ⟨14, _⟩ => ⟨S2048, .f32⟩
  | .hbm, ⟨15, _⟩ => ⟨S2048x1, .f32⟩
  | .hbm, ⟨16, _⟩ => ⟨S1x16, .f32⟩
  | .hbm, ⟨17, _⟩ => ⟨S2048x16, .f32⟩
  | .hbm, ⟨18, _⟩ => ⟨S2048x16, .f32⟩
  | .hbm, ⟨19, _⟩ => ⟨S2048x16, .f32⟩
  | .hbm, ⟨20, _⟩ => ⟨S2048x16, .f32⟩
  | .hbm, ⟨21, _⟩ => ⟨S2048x16, .f32⟩
  | .hbm, ⟨22, _⟩ => ⟨S1x128, .i1⟩
  | .hbm, ⟨23, _⟩ => ⟨S1x128, .i1⟩
  | .hbm, ⟨24, _⟩ => ⟨S1x128, .i1⟩
  | .hbm, ⟨25, _⟩ => ⟨S_, .i32⟩
  | .hbm, ⟨26, _⟩ => ⟨S128, .i32⟩
  | .hbm, ⟨27, _⟩ => ⟨S128, .i32⟩
  | .hbm, ⟨28, _⟩ => ⟨S128, .i32⟩
  | .hbm, ⟨29, _⟩ => ⟨S128x1, .i32⟩
  | .hbm, ⟨30, _⟩ => ⟨S2048x128, .f32⟩
  | .hbm, ⟨31, _⟩ => ⟨S_, .f32⟩
  | .hbm, ⟨32, _⟩ => ⟨S_, .f32⟩
  | .hbm, ⟨33, _⟩ => ⟨S2048x128, .i1⟩
  | .hbm, ⟨34, _⟩ => ⟨S2048x128, .f32⟩
  | .hbm, ⟨35, _⟩ => ⟨S2048x128, .f32⟩
  | .hbm, ⟨36, _⟩ => ⟨S_, .i32⟩
  | .hbm, ⟨37, _⟩ => ⟨S128, .i32⟩
  | .hbm, ⟨38, _⟩ => ⟨S128, .i32⟩
  | .hbm, ⟨39, _⟩ => ⟨S128, .i32⟩
  | .hbm, ⟨40, _⟩ => ⟨S128x1, .i32⟩
  | .hbm, ⟨41, _⟩ => ⟨S2048x128, .f32⟩
  | .hbm, ⟨42, _⟩ => ⟨S2048x128, .f32⟩
  | .hbm, ⟨43, _⟩ => ⟨S_, .f32⟩
  | .hbm, ⟨44, _⟩ => ⟨S_, .f32⟩
  | .hbm, ⟨45, _⟩ => ⟨S2048x128, .i1⟩
  | .hbm, ⟨46, _⟩ => ⟨S2048x128, .f32⟩
  | .hbm, ⟨47, _⟩ => ⟨S2048x128, .f32⟩
  | .hbm, ⟨48, _⟩ => ⟨S_, .i32⟩
  | .hbm, ⟨49, _⟩ => ⟨S128, .i32⟩
  | .hbm, ⟨50, _⟩ => ⟨S128, .i32⟩
  | .hbm, ⟨51, _⟩ => ⟨S128, .i32⟩
  | .hbm, ⟨52, _⟩ => ⟨S128x1, .i32⟩
  | .hbm, ⟨53, _⟩ => ⟨S2048x128, .f32⟩
  | .hbm, ⟨54, _⟩ => ⟨S_, .f32⟩
  | .hbm, ⟨55, _⟩ => ⟨S_, .f32⟩
  | .hbm, ⟨56, _⟩ => ⟨S2048x128, .i1⟩
  | .hbm, ⟨57, _⟩ => ⟨S2048x128, .f32⟩
  | .hbm, ⟨58, _⟩ => ⟨S2048x128, .f32⟩
  | .hbm, ⟨59, _⟩ => ⟨S2048x1024, .f32⟩
  | .hbm, ⟨60, _⟩ => ⟨S2048x512, .f32⟩
  | .hbm, ⟨61, _⟩ => ⟨S2048x512, .f32⟩
  | .hbm, ⟨62, _⟩ => ⟨S2048x512, .f32⟩
  | .hbm, ⟨63, _⟩ => ⟨S2048x24, .f32⟩
  | .hbm, ⟨64, _⟩ => ⟨S2048x1024, .f32⟩
  | .hbm, ⟨65, _⟩ => ⟨S2048x512, .f32⟩
  | .hbm, ⟨66, _⟩ => ⟨S2048x512, .f32⟩
  | .hbm, ⟨67, _⟩ => ⟨S2048x64, .f32⟩
  | .hbm, ⟨68, _⟩ => ⟨S2048x8, .f32⟩
  | .hbm, ⟨69, _⟩ => ⟨S2048x1024, .f32⟩
  | .hbm, ⟨70, _⟩ => ⟨S2048x1024, .f32⟩
  | .hbm, ⟨71, _⟩ => ⟨S2048x1024, .f32⟩
  | .hbm, ⟨72, _⟩ => ⟨S2048x6144, .f32⟩
  | .hbm, ⟨73, _⟩ => ⟨S2048x2048, .f32⟩
  | .hbm, ⟨74, _⟩ => ⟨S2048x2048, .bf16⟩
  | .hbm, ⟨75, _⟩ => ⟨S2048x2048, .f32⟩
  | .hbm, ⟨76, _⟩ => ⟨S2048x2048, .bf16⟩
  | .hbm, ⟨77, _⟩ => ⟨S_, .f32⟩
  | .hbm, ⟨78, _⟩ => ⟨S2048x64, .f32⟩
  | .hbm, ⟨79, _⟩ => ⟨S_, .f32⟩
  | .hbm, ⟨80, _⟩ => ⟨S2048x96, .f32⟩
  | .hbm, ⟨81, _⟩ => ⟨S2048x768, .f32⟩
  | .hbm, ⟨82, _⟩ => ⟨S2048x768, .bf16⟩
  | .hbm, ⟨83, _⟩ => ⟨S2048x9216, .f32⟩
  | .hbm, ⟨84, _⟩ => ⟨S2048x9216, .bf16⟩
  | .hbm, ⟨85, _⟩ => ⟨S16384x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S1024x128, .f32⟩
  | .local _ .vmem, ⟨10, _⟩ => ⟨S1024x1024, .f32⟩
  | .local _ .vmem, ⟨11, _⟩ => ⟨S1024x1024, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_c_1 : Ref sig .tc := ⟨.hbm, 4, rfl⟩
abbrev main_c_2 : Ref sig .tc := ⟨.hbm, 5, rfl⟩
abbrev main_c_3 : Ref sig .tc := ⟨.hbm, 6, rfl⟩
abbrev main_c_4 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_c_5 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_6 : Ref sig .tc := ⟨.hbm, 31, rfl⟩
abbrev main_call0_v0 : Ref sig .tc := ⟨.hbm, 32, rfl⟩
abbrev main_call0_v1 : Ref sig .tc := ⟨.hbm, 33, rfl⟩
abbrev main_call0_v2 : Ref sig .tc := ⟨.hbm, 34, rfl⟩
abbrev main_v21 : Ref sig .tc := ⟨.hbm, 35, rfl⟩
abbrev main_c_7 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_8 : Ref sig .tc := ⟨.hbm, 43, rfl⟩
abbrev main_call1_v0 : Ref sig .tc := ⟨.hbm, 44, rfl⟩
abbrev main_call1_v1 : Ref sig .tc := ⟨.hbm, 45, rfl⟩
abbrev main_call1_v2 : Ref sig .tc := ⟨.hbm, 46, rfl⟩
abbrev main_v28 : Ref sig .tc := ⟨.hbm, 47, rfl⟩
abbrev main_c_9 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_cst_10 : Ref sig .tc := ⟨.hbm, 54, rfl⟩
abbrev main_call2_v0 : Ref sig .tc := ⟨.hbm, 55, rfl⟩
abbrev main_call2_v1 : Ref sig .tc := ⟨.hbm, 56, rfl⟩
abbrev main_call2_v2 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_cst_11 : Ref sig .tc := ⟨.hbm, 77, rfl⟩
abbrev main_v53 : Ref sig .tc := ⟨.hbm, 78, rfl⟩
abbrev main_cst_12 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ReferenceQueryIdeal.lean ====
abbrev S16384x2048 : Shape := ⟨2, ![16384, 2048]⟩
abbrev S2048x13920 : Shape := ⟨2, ![2048, 13920]⟩
abbrev S16384x13920 : Shape := ⟨2, ![16384, 13920]⟩
abbrev S16384x1024 : Shape := ⟨2, ![16384, 1024]⟩
abbrev S8x2048x8x128 : Shape := ⟨4, ![8, 2048, 8, 128]⟩
abbrev S16 : Shape := ⟨1, ![16]⟩
abbrev S_ : Shape := ⟨0, ![]⟩
abbrev S2048 : Shape := ⟨1, ![2048]⟩
abbrev S2048x1 : Shape := ⟨2, ![2048, 1]⟩
abbrev S1x16 : Shape := ⟨2, ![1, 16]⟩
abbrev S2048x16 : Shape := ⟨2, ![2048, 16]⟩
abbrev S1x2048x1x16 : Shape := ⟨4, ![1, 2048, 1, 16]⟩
abbrev S8x2048x8x16 : Shape := ⟨4, ![8, 2048, 8, 16]⟩
abbrev S8x2048x8x96 : Shape := ⟨4, ![8, 2048, 8, 96]⟩

abbrev nBuf : Space → Nat
  | .hbm => 71
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2048x13920, .f32⟩
  | .hbm, ⟨2, _⟩ => ⟨S16384x2048, .f32⟩
  | .hbm, ⟨3, _⟩ => ⟨S16384x13920, .f32⟩
  | .hbm, ⟨4, _⟩ => ⟨S16384x1024, .f32⟩
  | .hbm, ⟨5, _⟩ => ⟨S8x2048x8x128, .f32⟩
  | .hbm, ⟨6, _⟩ => ⟨S16384x1024, .f32⟩
  | .hbm, ⟨7, _⟩ => ⟨S8x2048x8x128, .f32⟩
  | .hbm, ⟨8, _⟩ => ⟨S16, .f32⟩
  | .hbm, ⟨9, _⟩ => ⟨S_, .f32⟩
  | .hbm, ⟨10, _⟩ => ⟨S16, .f32⟩
  | .hbm, ⟨11, _⟩ => ⟨S16, .f32⟩
  | .hbm, ⟨12, _⟩ => ⟨S16, .f32⟩
  | .hbm, ⟨13, _⟩ => ⟨S2048, .i32⟩
  | .hbm, ⟨14, _⟩ => ⟨S2048, .f32⟩
  | .hbm, ⟨15, _⟩ => ⟨S2048x1, .f32⟩
  | .hbm, ⟨16, _⟩ => ⟨S1x16, .f32⟩
  | .hbm, ⟨17, _⟩ => ⟨S2048x16, .f32⟩
  | .hbm, ⟨18, _⟩ => ⟨S2048x16, .f32⟩
  | .hbm, ⟨19, _⟩ => ⟨S2048x16, .f32⟩
  | .hbm, ⟨20, _⟩ => ⟨S2048x16, .f32⟩
  | .hbm, ⟨21, _⟩ => ⟨S1x2048x1x16, .f32⟩
  | .hbm, ⟨22, _⟩ => ⟨S2048x16, .f32⟩
  | .hbm, ⟨23, _⟩ => ⟨S1x2048x1x16, .f32⟩
  | .hbm, ⟨24, _⟩ => ⟨S8x2048x8x16, .f32⟩
  | .hbm, ⟨25, _⟩ => ⟨S8x2048x8x16, .f32⟩
  | .hbm, ⟨26, _⟩ => ⟨S8x2048x8x16, .f32⟩
  | .hbm, ⟨27, _⟩ => ⟨S8x2048x8x16, .f32⟩
  | .hbm, ⟨28, _⟩ => ⟨S8x2048x8x16, .f32⟩
  | .hbm, ⟨29, _⟩ => ⟨S8x2048x8x16, .f32⟩
  | .hbm, ⟨30, _⟩ => ⟨S8x2048x8x16, .f32⟩
  | .hbm, ⟨31, _⟩ => ⟨S8x2048x8x16, .f32⟩
  | .hbm, ⟨32, _⟩ => ⟨S8x2048x8x16, .f32⟩
  | .hbm, ⟨33, _⟩ => ⟨S8x2048x8x16, .f32⟩
  | .hbm, ⟨34, _⟩ => ⟨S8x2048x8x16, .f32⟩
  | .hbm, ⟨35, _⟩ => ⟨S8x2048x8x16, .f32⟩
  | .hbm, ⟨36, _⟩ => ⟨S8x2048x8x96, .f32⟩
  | .hbm, ⟨37, _⟩ => ⟨S8x2048x8x128, .f32⟩
  | .hbm, ⟨38, _⟩ => ⟨S16384x1024, .f32⟩
  | .hbm, ⟨39, _⟩ => ⟨S16, .f32⟩
  | .hbm, ⟨40, _⟩ => ⟨S_, .f32⟩
  | .hbm, ⟨41, _⟩ => ⟨S16, .f32⟩
  | .hbm, ⟨42, _⟩ => ⟨S16, .f32⟩
  | .hbm, ⟨43, _⟩ => ⟨S16, .f32⟩
  | .hbm, ⟨44, _⟩ => ⟨S2048, .i32⟩
  | .hbm, ⟨45, _⟩ => ⟨S2048, .f32⟩
  | .hbm, ⟨46, _⟩ => ⟨S2048x1, .f32⟩
  | .hbm, ⟨47, _⟩ => ⟨S1x16, .f32⟩
  | .hbm, ⟨48, _⟩ => ⟨S2048x16, .f32⟩
  | .hbm, ⟨49, _⟩ => ⟨S2048x16, .f32⟩
  | .hbm, ⟨50, _⟩ => ⟨S2048x16, .f32⟩
  | .hbm, ⟨51, _⟩ => ⟨S2048x16, .f32⟩
  | .hbm, ⟨52, _⟩ => ⟨S1x2048x1x16, .f32⟩
  | .hbm, ⟨53, _⟩ => ⟨S2048x16, .f32⟩
  | .hbm, ⟨54, _⟩ => ⟨S1x2048x1x16, .f32⟩
  | .hbm, ⟨55, _⟩ => ⟨S8x2048x8x16, .f32⟩
  | .hbm, ⟨56, _⟩ => ⟨S8x2048x8x16, .f32⟩
  | .hbm, ⟨57, _⟩ => ⟨S8x2048x8x16, .f32⟩
  | .hbm, ⟨58, _⟩ => ⟨S8x2048x8x16, .f32⟩
  | .hbm, ⟨59, _⟩ => ⟨S8x2048x8x16, .f32⟩
  | .hbm, ⟨60, _⟩ => ⟨S8x2048x8x16, .f32⟩
  | .hbm, ⟨61, _⟩ => ⟨S8x2048x8x16, .f32⟩
  | .hbm, ⟨62, _⟩ => ⟨S8x2048x8x16, .f32⟩
  | .hbm, ⟨63, _⟩ => ⟨S8x2048x8x16, .f32⟩
  | .hbm, ⟨64, _⟩ => ⟨S8x2048x8x16, .f32⟩
  | .hbm, ⟨65, _⟩ => ⟨S8x2048x8x16, .f32⟩
  | .hbm, ⟨66, _⟩ => ⟨S8x2048x8x16, .f32⟩
  | .hbm, ⟨67, _⟩ => ⟨S8x2048x8x96, .f32⟩
  | .hbm, ⟨68, _⟩ => ⟨S8x2048x8x128, .f32⟩
  | .hbm, ⟨69, _⟩ => ⟨S16384x1024, .f32⟩
  | .hbm, ⟨70, _⟩ => ⟨S16384x2048, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_v30 : Ref sig .tc := ⟨.hbm, 33, rfl⟩
abbrev main_v31 : Ref sig .tc := ⟨.hbm, 34, rfl⟩
abbrev main_v32 : Ref sig .tc := ⟨.hbm, 35, rfl⟩
abbrev main_v33 : Ref sig .tc := ⟨.hbm, 36, rfl⟩
abbrev main_v34 : Ref sig .tc := ⟨.hbm, 37, rfl⟩
abbrev main_v35 : Ref sig .tc := ⟨.hbm, 38, rfl⟩
abbrev main_v36 : Ref sig .tc := ⟨.hbm, 39, rfl⟩
abbrev main_cst_0 : Ref sig .tc := ⟨.hbm, 40, rfl⟩
abbrev main_v37 : Ref sig .tc := ⟨.hbm, 41, rfl⟩
abbrev main_v38 : Ref sig .tc := ⟨.hbm, 42, rfl⟩
abbrev main_v39 : Ref sig .tc := ⟨.hbm, 43, rfl⟩
abbrev main_v40 : Ref sig .tc := ⟨.hbm, 44, rfl⟩
abbrev main_v41 : Ref sig .tc := ⟨.hbm, 45, rfl⟩
abbrev main_v42 : Ref sig .tc := ⟨.hbm, 46, rfl⟩
abbrev main_v43 : Ref sig .tc := ⟨.hbm, 47, rfl⟩
abbrev main_v44 : Ref sig .tc := ⟨.hbm, 48, rfl⟩
abbrev main_v45 : Ref sig .tc := ⟨.hbm, 49, rfl⟩
abbrev main_v46 : Ref sig .tc := ⟨.hbm, 50, rfl⟩
abbrev main_v47 : Ref sig .tc := ⟨.hbm, 51, rfl⟩
abbrev main_v48 : Ref sig .tc := ⟨.hbm, 52, rfl⟩
abbrev main_v49 : Ref sig .tc := ⟨.hbm, 53, rfl⟩
abbrev main_v50 : Ref sig .tc := ⟨.hbm, 54, rfl⟩
abbrev main_v51 : Ref sig .tc := ⟨.hbm, 55, rfl⟩
abbrev main_v52 : Ref sig .tc := ⟨.hbm, 56, rfl⟩
abbrev main_v53 : Ref sig .tc := ⟨.hbm, 57, rfl⟩
abbrev main_v54 : Ref sig .tc := ⟨.hbm, 58, rfl⟩
abbrev main_v55 : Ref sig .tc := ⟨.hbm, 59, rfl⟩
abbrev main_v56 : Ref sig .tc := ⟨.hbm, 60, rfl⟩
abbrev main_v57 : Ref sig .tc := ⟨.hbm, 61, rfl⟩
abbrev main_v58 : Ref sig .tc := ⟨.hbm, 62, rfl⟩
abbrev main_v59 : Ref sig .tc := ⟨.hbm, 63, rfl⟩
abbrev main_v60 : Ref sig .tc := ⟨.hbm, 64, rfl⟩
abbrev main_v61 : Ref sig .tc := ⟨.hbm, 65, rfl⟩
abbrev main_v62 : Ref sig .tc := ⟨.hbm, 66, rfl⟩
abbrev main_v63 : Ref sig .tc := ⟨.hbm, 67, rfl⟩
abbrev main_v64 : Ref sig .tc := ⟨.hbm, 68, rfl⟩
abbrev main_v65 : Ref sig .tc := ⟨.hbm, 69, rfl⟩
abbrev main_v66 : Ref sig .tc := ⟨.hbm, 70, rfl⟩

abbrev nD : Nat := 1
abbrev τ : Topo := Topo.v7x

variable {F : FTy → Type} [FloatOps F]
-- ==== Proof.Spec.lean ====
module

public import proofs.«01_k».proof.Proof.Gen.ReferenceIdeal.Run
public import Idealize.ShloMosaic.Lib.Pipeline.ValueKit
public import Idealize.ShloMosaic.Lib.IdealHost
public import Idealize.ShloMosaic.Lib.Claim

@[expose] public section
set_option maxRecDepth 16384
noncomputable section
open Idealize.ShloMosaic Idealize.ShloMosaic.TcCoe Idealize.SL.Sem
namespace Cert.Cmp

/-! # Compressed attention over a prompt, as mathematics

One sequence of 2048 tokens is cut into 128 chunks of 16 tokens; chunk `c` and chunk `c + 1` together are the window of
32 tokens that compressed row `c` summarises (`c < 127`). A query sees a row whose window has ended. -/

/-- The cache, layer by layer: row `token * 4 + slot`, slots k0 k1 v0 v1. -/
abbrev Cache := (⟨3, ![2, 65536, 128]⟩ : Shape).Idx → EReal
/-- The two first-layer weights (for k and for v). -/
abbrev W1 := (⟨3, ![2, 4096, 128]⟩ : Shape).Idx → EReal
/-- The two second-layer weights. -/
abbrev W2 := (⟨3, ![2, 128, 128]⟩ : Shape).Idx → EReal
/-- The two positional embeddings. -/
abbrev Pos := (⟨3, ![2, 32, 128]⟩ : Shape).Idx → EReal
/-- The queries. -/
abbrev Qry := (⟨2, ![16384, 2048]⟩ : Shape).Idx → EReal
/-- The gates (columns 640 on). -/
abbrev Gat := (⟨2, ![16384, 768]⟩ : Shape).Idx → EReal

/-- Entry `f` of chunk `c` (16 tokens of 128 entries) of sequence `b` in layer 1, of the keys (`j = 0`) or values
(`j = 1`) of group `g`. -/
def chunk (X : Cache) (j g : Fin 2) (b : Fin 8) (c : Fin 128) (f : Fin 2048) : EReal :=
  X (ix3 1 ⟨b.val * 8192 + c.val * 64 + f.val / 128 * 4 + j.val * 2 + g.val, by omega⟩ ⟨f.val % 128, by omega⟩)

/-- The first half of a window against the first half of the weights. -/
def lo (X : Cache) (w : W1) (j g : Fin 2) (b : Fin 8) (c : Fin 128) (h : Fin 128) : EReal :=
  ∑ f : Fin 2048, w (ix3 j ⟨f.val, by omega⟩ h) * chunk X j g b c f

/-- The second half of a window against the second half of the weights. -/
def hi (X : Cache) (w : W1) (j g : Fin 2) (b : Fin 8) (c : Fin 128) (h : Fin 128) : EReal :=
  ∑ f : Fin 2048, w (ix3 j ⟨2048 + f.val, by omega⟩ h) * chunk X j g b c f

/-- The positional embedding through the first layer. -/
def bias (w : W1) (pe : Pos) (j : Fin 2) (h : Fin 128) : EReal :=
  ∑ f : Fin 4096, pe (ix3 j ⟨f.val / 128, by omega⟩ ⟨f.val % 128, by omega⟩) * w (ix3 j f h)

/-- `x · sigmoid x`. -/
def silu (x : EReal) : EReal := x * Ideal.div 1 (1 + Ideal.exp (-x))

/-- The window that starts at chunk `c` and ends with chunk `d`, compressed to entry `e`. -/
def comp (X : Cache) (w : W1) (v : W2) (pe : Pos) (j g : Fin 2) (b : Fin 8) (c d : Fin 128) (e : Fin 128) : EReal :=
  ∑ h : Fin 128, v (ix3 j h e) * silu (lo X w j g b c h + hi X w j g b d h + bias w pe j h)

/-- Compressed row `c`. -/
abbrev row (X : Cache) (w : W1) (v : W2) (pe : Pos) (j g : Fin 2) (b : Fin 8) (c : Fin 127) (e : Fin 128) : EReal :=
  comp X w v pe j g b ⟨c.val, by omega⟩ ⟨1 + c.val, by omega⟩ e

/-- May query `q` see compressed row `c`? -/
def sees (q c : ℕ) : BitVec 1 :=
  IntOp.cmpi CmpIPredicate.sle (IntOp.addi (IntOp.muli (BitVec.ofNat 32 c) 16#32) 31#32) (BitVec.ofNat 32 q)

/-- Does compressed row `c` overlap selection block `s`? -/
def overlaps (c s : ℕ) : BitVec 1 :=
  IntOp.andi
    (IntOp.cmpi CmpIPredicate.slt (IntOp.muli (BitVec.ofNat 32 c) 16#32)
      (IntOp.addi (IntOp.muli (BitVec.ofNat 32 s) 64#32) 64#32))
    (IntOp.cmpi CmpIPredicate.sgt (IntOp.addi (IntOp.muli (BitVec.ofNat 32 c) 16#32) 32#32)
      (IntOp.muli (BitVec.ofNat 32 s) 64#32))

/-- The softmax numerator: the masked exponential of a score less the greatest visible score. -/
def num {n : ℕ} (M : Fin n → BitVec 1) (s : Fin n → EReal) (c : Fin n) : EReal :=
  Scalar.select (M c)
    (Ideal.exp (Scalar.select (M c) (s c) ⊥ - Finset.fold max ⊥ (fun x => Scalar.select (M x) (s x) ⊥) Finset.univ)) 0

/-- The masked softmax. -/
def prob {n : ℕ} (M : Fin n → BitVec 1) (s : Fin n → EReal) (c : Fin n) : EReal :=
  Ideal.div (num M s c) (max (∑ x, num M s x) (Ideal.ofBits FTy.f32 228737632#32))

theorem fold_last {n : ℕ} (f : Fin (n + 1) → EReal) (h : f (Fin.last n) = ⊥) :
    Finset.fold max ⊥ f Finset.univ = Finset.fold max ⊥ (fun c : Fin n => f c.castSucc) Finset.univ := by
  show Finset.sup Finset.univ f = Finset.sup Finset.univ (fun c : Fin n => f c.castSucc)
  apply le_antisymm
  · refine Finset.sup_le fun c _ => ?_
    rcases Fin.eq_castSucc_or_eq_last c with ⟨d, rfl⟩ | rfl
    · exact Finset.le_sup (f := fun c : Fin n => f c.castSucc) (Finset.mem_univ d)
    · rw [h]; exact bot_le
  · exact Finset.sup_le fun c _ => Finset.le_sup (f := f) (Finset.mem_univ c.castSucc)

theorem num_last {n : ℕ} (M : Fin (n + 1) → BitVec 1) (s : Fin (n + 1) → EReal) (h : M (Fin.last n) = 0#1) :
    num M s (Fin.last n) = 0 := by
  unfold num; rw [h]; rfl

theorem num_succ {n : ℕ} (M : Fin (n + 1) → BitVec 1) (s : Fin (n + 1) → EReal) (h : M (Fin.last n) = 0#1) (c : Fin n) :
    num M s c.castSucc = num (fun c => M c.castSucc) (fun c => s c.castSucc) c := by
  unfold num; rw [fold_last _ (by rw [h]; rfl)]

/-- The floor under the softmax's denominator is positive. -/
theorem eps_pos : 0 < Ideal.ofBits FTy.f32 228737632#32 := by
  have h : Ideal.ofBits FTy.f32 228737632#32 = ((10633824 * 2 ^ (-123 : ℤ) : ℝ) : EReal) := by
    simp [Ideal.ofBits, Ideal.ieee, -EReal.coe_mul]
  rw [h]
  exact_mod_cast (by positivity : (0 : ℝ) < 10633824 * 2 ^ (-123 : ℤ))

/-- Negative infinity's bit pattern. -/
theorem ninf : Ideal.ofBits FTy.f32 4286578688#32 = ⊥ := by
  simp [Ideal.ofBits, Ideal.ieee]

/-- A last row nobody sees may be left out of the softmax … -/
theorem prob_succ {n : ℕ} (M : Fin (n + 1) → BitVec 1) (s : Fin (n + 1) → EReal) (h : M (Fin.last n) = 0#1) (c : Fin n) :
    prob M s c.castSucc = prob (fun c => M c.castSucc) (fun c => s c.castSucc) c := by
  unfold prob
  rw [Fin.sum_univ_castSucc, num_last M s h, num_succ M s h, add_zero, Finset.sum_congr rfl fun x _ => num_succ M s h x]

/-- … and has weight zero. -/
theorem prob_last {n : ℕ} (M : Fin (n + 1) → BitVec 1) (s : Fin (n + 1) → EReal) (h : M (Fin.last n) = 0#1) :
    prob M s (Fin.last n) = 0 := by
  unfold prob
  rw [num_last M s h]
  exact Ideal.zero_div (ne_of_gt (lt_max_of_lt_right eps_pos))

/-- The attention weights of token `n` of all sequences, head `h` of 8 (the first four read k0/v0, the last four k1/v1). -/
def weight (X : Cache) (Q : Qry) (w : W1) (v : W2) (pe : Pos) (n : Fin 16384) (g : Fin 2) (r : Fin 4) : Fin 127 → EReal :=
  prob (fun c => sees (n.val % 2048) c.val) fun c =>
    (∑ d : Fin 128, row X w v pe 0 g ⟨n.val / 2048, by omega⟩ c d *
      Q (ix2 n ⟨g.val * 512 + r.val * 128 + d.val, by omega⟩)) * Ideal.ofBits FTy.f32 1035273459#32

/-- The gated output of token `n`, head `h`, entry `d`. -/
def attend (X : Cache) (Q : Qry) (G : Gat) (w : W1) (v : W2) (pe : Pos) (n : Fin 16384) (h : Fin 8) (e : Fin 128) : EReal :=
  Ideal.div 1 (1 + Ideal.exp (-G (ix2 n ⟨640 + h.val * 3, by omega⟩))) *
    ∑ c, row X w v pe 1 ⟨h.val / 4, by omega⟩ ⟨n.val / 2048, by omega⟩ c e *
      weight X Q w v pe n ⟨h.val / 4, by omega⟩ ⟨h.val % 4, by omega⟩ c

/-- The score of selection block `s` for token `n`: the weights of its group on the rows that overlap it. -/
def blockScore (X : Cache) (Q : Qry) (w : W1) (v : W2) (pe : Pos) (g : Fin 2) (s : Fin 32) (n : Fin 16384) : EReal :=
  ∑ c : Fin 127, Scalar.select (overlaps c.val s.val) (∑ r, weight X Q w v pe n g r c) 0

end Cert.Cmp
end
-- ==== Proof.RefAt.lean ====
module

public import proofs.«01_k».proof.Proof.Spec

@[expose] public section
set_option maxRecDepth 16384
noncomputable section
open Idealize.ShloMosaic Idealize.ShloMosaic.TcCoe Idealize.SL.Sem
namespace Cert.Cmp

set_option maxRecDepth 1000000 in
set_option maxHeartbeats 0 in
/-- The reference's second result, read at an index. -/
theorem ref_scores (m : (ℓ : Loc Cert.ReferenceIdeal.nD Cert.ReferenceIdeal.τ Cert.ReferenceIdeal.sig) → Buf (Elt Ideal) ℓ)
    (c : Dev Cert.ReferenceIdeal.nD) (g : Fin 2) (s : Fin 32) (k : Fin 16384) :
    Cert.ReferenceIdeal.Value.res_main_v97 m c (ix3 g s k) =
      blockScore (m (c.tc.loc Cert.ReferenceIdeal.main_arg0)) (m (c.tc.loc Cert.ReferenceIdeal.main_arg1))
        (m (c.tc.loc Cert.ReferenceIdeal.main_arg3)) (m (c.tc.loc Cert.ReferenceIdeal.main_arg4))
        (m (c.tc.loc Cert.ReferenceIdeal.main_arg5)) g s k := by
  have hk : (⟨k.val / 2048 * 2048 + k.val % 2048, by omega⟩ : Fin 16384) = k := Fin.ext (by simp only; omega)
  have hz : (id (constant (F := Ideal) Cert.ReferenceIdeal.S_ FTy.f32 0#32) ix0 : EReal) = 0 := Ideal.ofBits_zero_f32
  have hb : Ideal.ofBits FTy.f32 4286578688#32 = ⊥ := ninf
  have hn : (id (constant (F := Ideal) Cert.ReferenceIdeal.S_ FTy.f32 4286578688#32) ix0 : EReal) = ⊥ := hb
  pointwise [Cert.ReferenceIdeal.Value.res_main_v97]
  simp only [hk, hz, hn, hb]
  simp only [blockScore, weight, prob, num, row, comp, silu, lo, hi, bias, chunk, sees, overlaps]
  rfl

set_option maxRecDepth 1000000 in
set_option maxHeartbeats 0 in
/-- The reference's first result, read at an index. -/
theorem ref_attend (m : (ℓ : Loc Cert.ReferenceIdeal.nD Cert.ReferenceIdeal.τ Cert.ReferenceIdeal.sig) → Buf (Elt Ideal) ℓ)
    (c : Dev Cert.ReferenceIdeal.nD) (n : Fin 16384) (k : Fin 1024) :
    Cert.ReferenceIdeal.Value.res_main_v95 m c (ix2 n k) =
      attend (m (c.tc.loc Cert.ReferenceIdeal.main_arg0)) (m (c.tc.loc Cert.ReferenceIdeal.main_arg1))
        (m (c.tc.loc Cert.ReferenceIdeal.main_arg2))
        (m (c.tc.loc Cert.ReferenceIdeal.main_arg3)) (m (c.tc.loc Cert.ReferenceIdeal.main_arg4))
        (m (c.tc.loc Cert.ReferenceIdeal.main_arg5)) n ⟨k.val / 128, by omega⟩ ⟨k.val % 128, by omega⟩ := by
  have hk : (⟨n.val / 2048 * 2048 + n.val % 2048, by omega⟩ : Fin 16384) = n := Fin.ext (by simp only; omega)
  have hz : (id (constant (F := Ideal) Cert.ReferenceIdeal.S_ FTy.f32 0#32) ix0 : EReal) = 0 := Ideal.ofBits_zero_f32
  have hb : Ideal.ofBits FTy.f32 4286578688#32 = ⊥ := ninf
  have hn : (id (constant (F := Ideal) Cert.ReferenceIdeal.S_ FTy.f32 4286578688#32) ix0 : EReal) = ⊥ := hb
  pointwise [Cert.ReferenceIdeal.Value.res_main_v95]
  simp only [hk, hz, hn, hb]
  simp only [attend, weight, prob, num, row, comp, silu, lo, hi, bias, chunk, sees, overlaps]
  rfl

end Cert.Cmp
end
-- ==== Proof.Operands.lean ====
module

public import proofs.«01_k».proof.Proof.Gen.KernelIdeal.Value
public import proofs.«01_k».proof.Proof.Spec
public import Idealize.ShloMosaic.Lib.Pipeline.ReadBack
public import Idealize.ShloMosaic.Lib.WholeRead
public import Idealize.ShloMosaic.Lib.Routing.OpsPair
public import Idealize.ShloMosaic.Lib.Routing.OpsSet

@[expose] public section
set_option backward.proofsInPublic true
set_option maxRecDepth 16384
noncomputable section
open Idealize.ShloMosaic Idealize.ShloMosaic.TcCoe Idealize.SL.Sem
open Idealize.ShloMosaic.Pipeline (Dat)
namespace Cert.KernelIdeal.Value
open Cert.KernelIdeal Cert.KernelIdeal.Gen
variable (m : (ℓ : Loc nD τ sig) → Buf (Elt Ideal) ℓ)

/-! # What the kernel's operands hold -/

theorem idx : ∀ t : Fin cfg0.N, win0_0.index t = ![1, t.val / 8, 0] ∧ win0_1.index t = ![t.val, 0] ∧ win0_2.index t = ![t.val, 5]
    ∧ win0_3.index t = ![0, 0, 0, 0] ∧ win0_4.index t = ![0, 0, 0] ∧ win0_5.index t = ![0, 0, 0, 0] ∧ win0_6.index t = ![0, 0]
    ∧ win0_7.index t = ![t.val, 0] ∧ win0_8.index t = ![0, 0, t.val] ∧ (grid0.coords t 1).val = t.val % 8 ∧ t.val / 8 < 8 :=
  (by decide +kernel : ∀ t : Fin grid0.N, _)

/-- Writing an update into row `r` of axis 2. -/
theorem set_row (x : S2x8x8x256.Idx → EReal) (idx : IVec S1 32) (u : S2x8x256.Idx → EReal) (r : Fin 8)
    (hi : ∀ y, (idx y).toInt = (r.val : ℤ)) (j : Fin 2) (p : Fin 8) (i : Fin 8) (f : Fin 256) :
    Host.scatter scatter_S2x8x8x256_S1_S2x8x256_012_2_2_0 (fun _ b => b) x idx u (ix4 j p i f)
      = if i = r then u (ix3 j p f) else x (ix4 j p i f) := by
  have hl : ∀ (k : S2x8x256.Idx), scatter_S2x8x8x256_S1_S2x8x256_012_2_2_0.resultIdx? k idx = some (ix4 j p i f)
      ↔ ((k 0).val = j.val ∧ (k 1).val = p.val ∧ r.val = i.val ∧ (k 2).val = f.val) := by
    intro k
    rw [Routing.resultIdx?_eq_some]
    have s0 : scatter_S2x8x8x256_S1_S2x8x256_012_2_2_0.start k idx 0 = 0 := rfl
    have s1 : scatter_S2x8x8x256_S1_S2x8x256_012_2_2_0.start k idx 1 = 0 := rfl
    have s2 : scatter_S2x8x8x256_S1_S2x8x256_012_2_2_0.start k idx 2 = r.val := hi _
    have s3 : scatter_S2x8x8x256_S1_S2x8x256_012_2_2_0.start k idx 3 = 0 := rfl
    have w0 : scatter_S2x8x8x256_S1_S2x8x256_012_2_2_0.window k 0 = (k 0).val := rfl
    have w1 : scatter_S2x8x8x256_S1_S2x8x256_012_2_2_0.window k 1 = (k 1).val := rfl
    have w2 : scatter_S2x8x8x256_S1_S2x8x256_012_2_2_0.window k 2 = 0 := rfl
    have w3 : scatter_S2x8x8x256_S1_S2x8x256_012_2_2_0.window k 3 = (k 2).val := rfl
    constructor
    · intro h
      have h0 := h 0; have h1 := h 1; have h2 := h 2; have h3 := h 3
      rw [s0, w0] at h0; rw [s1, w1] at h1; rw [s2, w2] at h2; rw [s3, w3] at h3
      change _ = ((j.val : ℕ) : ℤ) at h0; change _ = ((p.val : ℕ) : ℤ) at h1; change _ = ((i.val : ℕ) : ℤ) at h2
      change _ = ((f.val : ℕ) : ℤ) at h3
      omega
    · rintro ⟨h0, h1, h2, h3⟩ a
      match a with
      | ⟨0, _⟩ => exact (congrArg₂ (fun (x : ℤ) (y : ℕ) => x + (y : ℤ)) s0 w0).trans (by rw [h0]; exact Int.zero_add _)
      | ⟨1, _⟩ => exact (congrArg₂ (fun (x : ℤ) (y : ℕ) => x + (y : ℤ)) s1 w1).trans (by rw [h1]; exact Int.zero_add _)
      | ⟨2, _⟩ => exact (congrArg₂ (fun (x : ℤ) (y : ℕ) => x + (y : ℤ)) s2 w2).trans (by rw [h2]; exact Int.add_zero _)
      | ⟨3, _⟩ => exact (congrArg₂ (fun (x : ℤ) (y : ℕ) => x + (y : ℤ)) s3 w3).trans (by rw [h3]; exact Int.zero_add _)
  by_cases h : i = r
  · rw [if_pos h]
    refine Routing.scatter_set_hit _ _ _ _ _ _ (fun k hk => ?_) (ix3 j p f) ((hl _).2 ⟨rfl, rfl, by rw [h], rfl⟩)
    obtain ⟨h0, h1, -, h3⟩ := (hl k).1 hk
    refine congrArg u (funext fun a => Fin.ext ?_)
    match a with
    | ⟨0, _⟩ => exact h0
    | ⟨1, _⟩ => exact h1
    | ⟨2, _⟩ => exact h3
  · rw [if_neg h]
    exact Routing.scatter_set_miss _ _ _ _ _ fun k hk => h (Fin.ext ((hl k).1 hk).2.2.1.symm)

/-- The overlap table: word `s * 128 + c` is one exactly where row `c` (not the last) overlaps block `s`. -/
theorem table : ∀ (s : Fin 32) (c : Fin 128), lit0 ⟨s.val * 128 + c.val, by omega⟩
    = if c.val < 127 ∧ Cert.Cmp.overlaps c.val s.val = 1#1 then 0x3F800000#32 else 0#32 := by
  decide +kernel

theorem k0 (c : Dev nD) (t : Fin cfg0.N) (r : Fin 8192) (d : Fin 128) :
    iblk m c 0 t (ix3 0 r d) = m ((c : Thread nD τ).loc main_arg0) (ix3 1 ⟨t.val / 8 * 8192 + r.val, by have := t.isLt; have := (idx t).2.2.2.2.2.2.2.2.2.2; omega⟩ d) := by
  blk_ext [iblk, V, idx t]
theorem k1 (c : Dev nD) (t : Fin cfg0.N) (r : Fin 256) (d : Fin 1024) :
    iblk m c 1 t (ix2 r d) = m ((c : Thread nD τ).loc main_arg1) (ix2 ⟨t.val * 256 + r.val, by have := t.isLt; have := (idx t).2.2.2.2.2.2.2.2.2.2; omega⟩ ⟨d.val, by omega⟩) := by
  blk_ext [iblk, V, idx t]
theorem k2 (c : Dev nD) (t : Fin cfg0.N) (r : Fin 256) (d : Fin 128) :
    iblk m c 2 t (ix2 r d) = m ((c : Thread nD τ).loc main_arg2) (ix2 ⟨t.val * 256 + r.val, by have := t.isLt; have := (idx t).2.2.2.2.2.2.2.2.2.2; omega⟩ ⟨640 + d.val, by omega⟩) := by
  blk_ext [iblk, V, idx t]
theorem e3 (t : Fin cfg0.N) (j : Fin 2) (p : Fin 8) (f : Fin 256) (h : Fin 256) :
    ((View.whole main_v5).slice (win0_3.rect t)).emb (ix4 j p f h) = ix4 j p f h := by
  blk_ext [idx t]
theorem e4 (t : Fin cfg0.N) (j : Fin 2) (f : Fin 128) (h : Fin 128) :
    ((View.whole main_v15).slice (win0_4.rect t)).emb (ix3 j f h) = ix3 j f h := by
  blk_ext [idx t]
theorem e5 (t : Fin cfg0.N) (j : Fin 2) (p : Fin 8) (f : Fin 8) (h : Fin 256) :
    ((View.whole main_v16).slice (win0_5.rect t)).emb (ix4 j p f h) = ix4 j p f h := by
  blk_ext [idx t]
theorem e6 (t : Fin cfg0.N) (j : Fin 32) (f : Fin 128) :
    ((View.whole main_cst).slice (win0_6.rect t)).emb (ix2 j f) = ix2 j f := by
  blk_ext [idx t]

theorem k3 (c : Dev nD) (t : Fin cfg0.N) (j : Fin 2) (p : Fin 8) (f : Fin 256) (h : Fin 256) :
    iblk m c 3 t (ix4 j p f h) = m ((c : Thread nD τ).loc main_arg3) (ix3 j ⟨(h.val / 128) * 2048 + p.val * 256 + f.val, by omega⟩ ⟨h.val % 128, by omega⟩) := by
  blk_simp [iblk, idx t]
  entry_read
  rw [e3]
  pointwise
  split_ifs with hh
  · exact congrArg (m ((c : Thread nD τ).loc main_arg3)) (congrArg₂ (fun a b => ix3 j a b) (Fin.ext (by dsimp only; omega)) (Fin.ext (by dsimp only; omega)))
  · exact congrArg (m ((c : Thread nD τ).loc main_arg3)) (congrArg₂ (fun a b => ix3 j a b) (Fin.ext (by dsimp only; omega)) (Fin.ext (by dsimp only; omega)))
  · exact congrArg (m ((c : Thread nD τ).loc main_arg3)) (congrArg₂ (fun a b => ix3 j a b) (Fin.ext (by dsimp only; omega)) (Fin.ext (by dsimp only; omega)))
theorem k4 (c : Dev nD) (t : Fin cfg0.N) (j : Fin 2) (f : Fin 128) (h : Fin 128) :
    iblk m c 4 t (ix3 j f h) = m ((c : Thread nD τ).loc main_arg4) (ix3 j f h) := by
  blk_simp [iblk, idx t]
  entry_read
  rw [e4]
  pointwise
/-- The first scattered piece of the positions: their first sixteen rows, two to a row. -/
def pos0 (c : Dev nD) : S2x8x256.Idx → EReal := shapeCast main_v8.ty.shape
  (extractStridedSlice S2x16x128 ![0, 0, 0] (m ((c : Thread nD τ).loc main_arg5)) slices_S2x32x128_S2x16x128_0_0_0) shapeCasts_S2x16x128_S2x8x256
/-- The second piece: their last sixteen rows. -/
def pos1 (c : Dev nD) : S2x8x256.Idx → EReal := shapeCast main_v12.ty.shape
  (extractStridedSlice S2x16x128 ![0, 16, 0] (m ((c : Thread nD τ).loc main_arg5)) slices_S2x32x128_S2x16x128_0_16_0) shapeCasts_S2x16x128_S2x8x256
theorem pos0_at (c : Dev nD) (j : Fin 2) (p : Fin 8) (f : Fin 256) :
    pos0 m c (ix3 j p f) = m ((c : Thread nD τ).loc main_arg5) (ix3 j ⟨p.val * 2 + f.val / 128, by omega⟩ ⟨f.val % 128, by omega⟩) := by
  pointwise [pos0]
theorem pos1_at (c : Dev nD) (j : Fin 2) (p : Fin 8) (f : Fin 256) :
    pos1 m c (ix3 j p f) = m ((c : Thread nD τ).loc main_arg5) (ix3 j ⟨16 + (p.val * 2 + f.val / 128), by omega⟩ ⟨f.val % 128, by omega⟩) := by
  pointwise [pos1]
theorem k5 (c : Dev nD) (t : Fin cfg0.N) (j : Fin 2) (p : Fin 8) (i : Fin 8) (hi : i.val < 2) (f : Fin 256) :
    iblk m c 5 t (ix4 j p i f) = if i = 1 then pos1 m c (ix3 j p f) else if i = 0 then pos0 m c (ix3 j p f) else
      (broadcastInDim S2x8x8x256 ![] bcast_S_S2x8x8x256 (constant (F := Ideal) S_ FTy.f32 0#32)) (ix4 j p i f) := by
  blk_simp [iblk, idx t]
  entry_read
  rw [e5, truncf_apply, set_row _ _ _ 1 (fun _ => rfl), set_row _ _ _ 0 (fun _ => rfl)]
  rfl
theorem k6 (c : Dev nD) (t : Fin cfg0.N) (s : Fin 32) (j : Fin 128) :
    iblk m c 6 t (ix2 s j) = if j.val < 127 ∧ Cert.Cmp.overlaps j.val s.val = 1#1 then (1 : EReal) else (0 : EReal) := by
  blk_simp [iblk, idx t]
  entry_read
  rw [e6]
  have hb : s.val * 128 + j.val < 4096 := by omega
  have hh : (S32x128.rowMajor (ix2 s j) : Fin 4096) = ⟨s.val * 128 + j.val, hb⟩ := Fin.ext (Shape.rowMajor_val_two _)
  have h2 : lit0 (S32x128.rowMajor (ix2 s j)) = _ := (congrArg lit0 hh).trans (table s j)
  rw [h2]
  split_ifs
  · exact Ideal.ofBits_one_f32
  · exact Ideal.ofBits_zero_f32
end Cert.KernelIdeal.Value
end
-- ==== Proof.Stores.lean ====
module

public import proofs.«01_k».proof.Proof.Gen.KernelIdeal.Value
public import proofs.«01_k».proof.Proof.Spec
public import Idealize.ShloMosaic.Lib.Pipeline.ReadBack
public import Idealize.ShloMosaic.Lib.WholeRead
public import Idealize.ShloMosaic.Lib.Routing.OpsPair
public import Idealize.ShloMosaic.Lib.Routing.OpsSet

@[expose] public section
set_option maxRecDepth 16384
noncomputable section
open Idealize.ShloMosaic Idealize.ShloMosaic.TcCoe Idealize.SL.Sem
open Idealize.ShloMosaic.Pipeline (Dat)
namespace Cert.KernelIdeal.Value
open Cert.KernelIdeal Cert.KernelIdeal.Gen
variable (m : (ℓ : Loc nD τ sig) → Buf (Elt Ideal) ℓ)

/-! # One grid point's stores -/

section
variable (i : grid0.Coords) (Q : Vec Ideal S256x1024 .f32) (G : Vec Ideal S256x128 .f32) (K0 K1 V0 V1 : Vec Ideal S1x128x128 .bf16)
  (O : Vec Ideal S32x128 .f32)

/-- Head 0's tile. -/
abbrev tile0 : FVec Ideal S256x128 .f32 := k0_pay74 (k0_pay67 G) (k0_pay68 i) (k0_pay69 i (View.ld (Val := Elt Ideal) (S := S256x1024) (e' := .f32) Q (Rect.unit ![0, 0] ![256, 128] inb_S256x1024_S256x128_0_0)) (View.ld (Val := Elt Ideal) (S := S256x1024) (e' := .f32) Q (Rect.unit ![0, 128] ![256, 128] inb_S256x1024_S256x128_0_128)) (View.ld (Val := Elt Ideal) (S := S256x1024) (e' := .f32) Q (Rect.unit ![0, 256] ![256, 128] inb_S256x1024_S256x128_0_256)) (View.ld (Val := Elt Ideal) (S := S256x1024) (e' := .f32) Q (Rect.unit ![0, 384] ![256, 128] inb_S256x1024_S256x128_0_384)) K0) (FloatOps.ofBits FTy.f32 0#32) V0
/-- Head 1's tile. -/
abbrev tile1 : FVec Ideal S256x128 .f32 := k0_pay75 (k0_pay67 G) (k0_pay68 i) (k0_pay69 i (View.ld (Val := Elt Ideal) (S := S256x1024) (e' := .f32) Q (Rect.unit ![0, 0] ![256, 128] inb_S256x1024_S256x128_0_0)) (View.ld (Val := Elt Ideal) (S := S256x1024) (e' := .f32) Q (Rect.unit ![0, 128] ![256, 128] inb_S256x1024_S256x128_0_128)) (View.ld (Val := Elt Ideal) (S := S256x1024) (e' := .f32) Q (Rect.unit ![0, 256] ![256, 128] inb_S256x1024_S256x128_0_256)) (View.ld (Val := Elt Ideal) (S := S256x1024) (e' := .f32) Q (Rect.unit ![0, 384] ![256, 128] inb_S256x1024_S256x128_0_384)) K0) (FloatOps.ofBits FTy.f32 0#32) V0
/-- Head 2's tile. -/
abbrev tile2 : FVec Ideal S256x128 .f32 := k0_pay77 (k0_pay72 (k0_pay68 i) (k0_pay69 i (View.ld (Val := Elt Ideal) (S := S256x1024) (e' := .f32) Q (Rect.unit ![0, 0] ![256, 128] inb_S256x1024_S256x128_0_0)) (View.ld (Val := Elt Ideal) (S := S256x1024) (e' := .f32) Q (Rect.unit ![0, 128] ![256, 128] inb_S256x1024_S256x128_0_128)) (View.ld (Val := Elt Ideal) (S := S256x1024) (e' := .f32) Q (Rect.unit ![0, 256] ![256, 128] inb_S256x1024_S256x128_0_256)) (View.ld (Val := Elt Ideal) (S := S256x1024) (e' := .f32) Q (Rect.unit ![0, 384] ![256, 128] inb_S256x1024_S256x128_0_384)) K0) (FloatOps.ofBits FTy.f32 0#32) V0) (k0_pay76 (k0_pay67 G)) (FloatOps.ofBits FTy.f32 0#32)
/-- Head 3's tile. -/
abbrev tile3 : FVec Ideal S256x128 .f32 := k0_pay78 (k0_pay67 G) (k0_pay73 (k0_pay68 i) (k0_pay69 i (View.ld (Val := Elt Ideal) (S := S256x1024) (e' := .f32) Q (Rect.unit ![0, 0] ![256, 128] inb_S256x1024_S256x128_0_0)) (View.ld (Val := Elt Ideal) (S := S256x1024) (e' := .f32) Q (Rect.unit ![0, 128] ![256, 128] inb_S256x1024_S256x128_0_128)) (View.ld (Val := Elt Ideal) (S := S256x1024) (e' := .f32) Q (Rect.unit ![0, 256] ![256, 128] inb_S256x1024_S256x128_0_256)) (View.ld (Val := Elt Ideal) (S := S256x1024) (e' := .f32) Q (Rect.unit ![0, 384] ![256, 128] inb_S256x1024_S256x128_0_384)) K0) (FloatOps.ofBits FTy.f32 0#32) V0)
/-- Head 4's tile. -/
abbrev tile4 : FVec Ideal S256x128 .f32 := k0_pay87 (k0_pay82 (k0_pay68 i) (View.ld (Val := Elt Ideal) (S := S256x1024) (e' := .f32) Q (Rect.unit ![0, 512] ![256, 128] inb_S256x1024_S256x128_0_512)) (View.ld (Val := Elt Ideal) (S := S256x1024) (e' := .f32) Q (Rect.unit ![0, 640] ![256, 128] inb_S256x1024_S256x128_0_640)) (View.ld (Val := Elt Ideal) (S := S256x1024) (e' := .f32) Q (Rect.unit ![0, 768] ![256, 128] inb_S256x1024_S256x128_0_768)) (View.ld (Val := Elt Ideal) (S := S256x1024) (e' := .f32) Q (Rect.unit ![0, 896] ![256, 128] inb_S256x1024_S256x128_0_896)) K1 V1) (k0_pay86 (k0_pay67 G))
/-- Head 5's tile. -/
abbrev tile5 : FVec Ideal S256x128 .f32 := k0_pay88 (k0_pay67 G) (k0_pay83 (k0_pay68 i) (View.ld (Val := Elt Ideal) (S := S256x1024) (e' := .f32) Q (Rect.unit ![0, 512] ![256, 128] inb_S256x1024_S256x128_0_512)) (View.ld (Val := Elt Ideal) (S := S256x1024) (e' := .f32) Q (Rect.unit ![0, 640] ![256, 128] inb_S256x1024_S256x128_0_640)) (View.ld (Val := Elt Ideal) (S := S256x1024) (e' := .f32) Q (Rect.unit ![0, 768] ![256, 128] inb_S256x1024_S256x128_0_768)) (View.ld (Val := Elt Ideal) (S := S256x1024) (e' := .f32) Q (Rect.unit ![0, 896] ![256, 128] inb_S256x1024_S256x128_0_896)) K1 V1)
/-- Head 6's tile. -/
abbrev tile6 : FVec Ideal S256x128 .f32 := k0_pay89 (k0_pay67 G) (k0_pay84 (k0_pay68 i) (View.ld (Val := Elt Ideal) (S := S256x1024) (e' := .f32) Q (Rect.unit ![0, 512] ![256, 128] inb_S256x1024_S256x128_0_512)) (View.ld (Val := Elt Ideal) (S := S256x1024) (e' := .f32) Q (Rect.unit ![0, 640] ![256, 128] inb_S256x1024_S256x128_0_640)) (View.ld (Val := Elt Ideal) (S := S256x1024) (e' := .f32) Q (Rect.unit ![0, 768] ![256, 128] inb_S256x1024_S256x128_0_768)) (View.ld (Val := Elt Ideal) (S := S256x1024) (e' := .f32) Q (Rect.unit ![0, 896] ![256, 128] inb_S256x1024_S256x128_0_896)) K1 V1)
/-- Head 7's tile. -/
abbrev tile7 : FVec Ideal S256x128 .f32 := k0_pay90 (k0_pay67 G) (k0_pay85 (k0_pay68 i) (View.ld (Val := Elt Ideal) (S := S256x1024) (e' := .f32) Q (Rect.unit ![0, 512] ![256, 128] inb_S256x1024_S256x128_0_512)) (View.ld (Val := Elt Ideal) (S := S256x1024) (e' := .f32) Q (Rect.unit ![0, 640] ![256, 128] inb_S256x1024_S256x128_0_640)) (View.ld (Val := Elt Ideal) (S := S256x1024) (e' := .f32) Q (Rect.unit ![0, 768] ![256, 128] inb_S256x1024_S256x128_0_768)) (View.ld (Val := Elt Ideal) (S := S256x1024) (e' := .f32) Q (Rect.unit ![0, 896] ![256, 128] inb_S256x1024_S256x128_0_896)) K1 V1)
/-- Group 0's block scores. -/
abbrev scores0 : FVec Ideal S1x32x256 .f32 := k0_pay79 (k0_pay70 (k0_pay68 i) (k0_pay69 i (View.ld (Val := Elt Ideal) (S := S256x1024) (e' := .f32) Q (Rect.unit ![0, 0] ![256, 128] inb_S256x1024_S256x128_0_0)) (View.ld (Val := Elt Ideal) (S := S256x1024) (e' := .f32) Q (Rect.unit ![0, 128] ![256, 128] inb_S256x1024_S256x128_0_128)) (View.ld (Val := Elt Ideal) (S := S256x1024) (e' := .f32) Q (Rect.unit ![0, 256] ![256, 128] inb_S256x1024_S256x128_0_256)) (View.ld (Val := Elt Ideal) (S := S256x1024) (e' := .f32) Q (Rect.unit ![0, 384] ![256, 128] inb_S256x1024_S256x128_0_384)) K0) (FloatOps.ofBits FTy.f32 0#32)) O
/-- Group 1's block scores. -/
abbrev scores1 : FVec Ideal S1x32x256 .f32 := k0_pay1 (k0_pay80 (k0_pay68 i) (View.ld (Val := Elt Ideal) (S := S256x1024) (e' := .f32) Q (Rect.unit ![0, 512] ![256, 128] inb_S256x1024_S256x128_0_512)) (View.ld (Val := Elt Ideal) (S := S256x1024) (e' := .f32) Q (Rect.unit ![0, 640] ![256, 128] inb_S256x1024_S256x128_0_640)) (View.ld (Val := Elt Ideal) (S := S256x1024) (e' := .f32) Q (Rect.unit ![0, 768] ![256, 128] inb_S256x1024_S256x128_0_768)) (View.ld (Val := Elt Ideal) (S := S256x1024) (e' := .f32) Q (Rect.unit ![0, 896] ![256, 128] inb_S256x1024_S256x128_0_896)) K1) O
/-- The eight tiles together. -/
abbrev tiles : S256x1024.Idx → EReal := View.canon (Val := Elt Ideal) (s := S256x1024) (e := .f32) [
  ⟨Rect.unit ![0, 896] ![256, 128] inb_S256x1024_S256x128_0_896, tile7 i Q G K1 V1⟩,
  ⟨Rect.unit ![0, 768] ![256, 128] inb_S256x1024_S256x128_0_768, tile6 i Q G K1 V1⟩,
  ⟨Rect.unit ![0, 640] ![256, 128] inb_S256x1024_S256x128_0_640, tile5 i Q G K1 V1⟩,
  ⟨Rect.unit ![0, 512] ![256, 128] inb_S256x1024_S256x128_0_512, tile4 i Q G K1 V1⟩,
  ⟨Rect.unit ![0, 384] ![256, 128] inb_S256x1024_S256x128_0_384, tile3 i Q G K0 V0⟩,
  ⟨Rect.unit ![0, 256] ![256, 128] inb_S256x1024_S256x128_0_256, tile2 i Q G K0 V0⟩,
  ⟨Rect.unit ![0, 128] ![256, 128] inb_S256x1024_S256x128_0_128, tile1 i Q G K0 V0⟩,
  ⟨Rect.unit ![0, 0] ![256, 128] inb_S256x1024_S256x128_0_0, tile0 i Q G K0 V0⟩]
/-- The two groups' block scores together. -/
abbrev scores : S2x32x256.Idx → EReal := View.canon (Val := Elt Ideal) (s := S2x32x256) (e := .f32) [
  ⟨Rect.unit ![1, 0, 0] ![1, 32, 256] inb_S2x32x256_S1x32x256_1_0_0, scores1 i Q K1 O⟩,
  ⟨Rect.unit ![0, 0, 0] ![1, 32, 256] inb_S2x32x256_S1x32x256_0_0_0, scores0 i Q K0 O⟩]
/-- Two slabs one after the other. -/
abbrev slabs (A B : S1x128x128.Idx → EReal) : S2x128x128.Idx → EReal := View.canon (Val := Elt Ideal) (s := S2x128x128) (e := .bf16) [
  ⟨Rect.unit ![1, 0, 0] ![1, 128, 128] inb_S2x128x128_S1x128x128_1_0_0, B⟩,
  ⟨Rect.unit ![0, 0, 0] ![1, 128, 128] inb_S2x128x128_S1x128x128_0_0_0, A⟩]
end

theorem slabs_at (A B : S1x128x128.Idx → EReal) (y : S2x128x128.Idx) :
    slabs A B y = if (y 0).val = 0 then A (ix3 0 (y 1) (y 2)) else B (ix3 0 (y 1) (y 2)) := by
  have hx : ∀ x : S1x128x128.Idx, x = ix3 0 (x 1) (x 2) := fun x =>
    (eq_ix3 x).trans (congrArg (fun a => ix3 a (x 1) (x 2)) (Fin.ext (by have : (x 0).val < 1 := (x 0).isLt; show (x 0).val = 0; omega)))
  canon_tiles x hy
  · have y1 : y 1 = (x 1 : Fin 128) := Fin.ext (by omega)
    have y2 : y 2 = (x 2 : Fin 128) := Fin.ext (by omega)
    rw [if_neg (by omega), y1, y2]
    exact congrArg B (hx x)
  · have y1 : y 1 = (x 1 : Fin 128) := Fin.ext (by omega)
    have y2 : y 2 = (x 2 : Fin 128) := Fin.ext (by omega)
    rw [if_pos (by omega), y1, y2]
    exact congrArg A (hx x)

set_option maxHeartbeats 0 in
/-- At every point both outputs are computed from the four slabs the scratch holds. -/
theorem stores_A (c : Dev nD) (t : Fin cfg0.N) (h : t.val % 8 = 0) : ∃ K0 K1 V0 V1 : S1x128x128.Idx → EReal,
    (outsAt0 m c t.val t.isLt).2.2.1 = slabs K0 K1 ∧ (outsAt0 m c t.val t.isLt).2.2.2 = slabs V0 V1 ∧
    (outsAt0 m c t.val t.isLt).1 = tiles (grid0.coords t) (iblk m c 1 t) (iblk m c 2 t) K0 K1 V0 V1 ∧
    (outsAt0 m c t.val t.isLt).2.1 = scores (grid0.coords t) (iblk m c 1 t) K0 K1 (iblk m c 6 t) := by
  refine ⟨?_, ?_, ?_, ?_, ?_, ?_, ?_, ?_⟩
  rotate_left 4
  · rw [outsAt0_A m c t h]; frame_out
    rfl
  · rw [outsAt0_A m c t h]; frame_out
    rfl
  · rw [outsAt0_A m c t h]
    frame_open
    simp (disch := decide) only [↓ View.readCov_skip, ↓ View.readCov_cons_toLoadRect, ↓ View.readCov_fill]
    frame_out
  · rw [outsAt0_A m c t h]
    frame_open
    simp (disch := decide) only [↓ View.readCov_skip, ↓ View.readCov_cons_toLoadRect, ↓ View.readCov_fill]
    frame_out

/-- Later points of a sequence keep the compressed keys … -/
theorem kept_0 (c : Dev nD) (t : Fin cfg0.N) (h : ¬ t.val % 8 = 0) : (outsAt0 m c t.val t.isLt).2.2.1 =
    (outsAt0 m c (t.val - 1) (Nat.lt_of_le_of_lt (Nat.sub_le _ _) t.isLt)).2.2.1 := by
  rw [outsAt0_B m c t h]
  unfold sout0_B_0
  rfl
/-- … and values. -/
theorem kept_1 (c : Dev nD) (t : Fin cfg0.N) (h : ¬ t.val % 8 = 0) : (outsAt0 m c t.val t.isLt).2.2.2 =
    (outsAt0 m c (t.val - 1) (Nat.lt_of_le_of_lt (Nat.sub_le _ _) t.isLt)).2.2.2 := by
  rw [outsAt0_B m c t h]
  unfold sout0_B_1
  rfl

set_option maxHeartbeats 0 in
theorem stores_B (c : Dev nD) (t : Fin cfg0.N) (h : ¬ t.val % 8 = 0) : ∃ K0 K1 V0 V1 : S1x128x128.Idx → EReal,
    (∀ a b : Fin 128, K0 (ix3 0 a b) = (outsAt0 m c t.val t.isLt).2.2.1 (ix3 0 a b)) ∧
    (∀ a b : Fin 128, K1 (ix3 0 a b) = (outsAt0 m c t.val t.isLt).2.2.1 (ix3 1 a b)) ∧
    (∀ a b : Fin 128, V0 (ix3 0 a b) = (outsAt0 m c t.val t.isLt).2.2.2 (ix3 0 a b)) ∧
    (∀ a b : Fin 128, V1 (ix3 0 a b) = (outsAt0 m c t.val t.isLt).2.2.2 (ix3 1 a b)) ∧
    (outsAt0 m c t.val t.isLt).1 = tiles (grid0.coords t) (iblk m c 1 t) (iblk m c 2 t) K0 K1 V0 V1 ∧
    (outsAt0 m c t.val t.isLt).2.1 = scores (grid0.coords t) (iblk m c 1 t) K0 K1 (iblk m c 6 t) := by
  refine ⟨?_, ?_, ?_, ?_, ?_, ?_, ?_, ?_, ?_, ?_⟩
  rotate_left 8
  · rw [outsAt0_B m c t h]; frame_out
    simp only [read_unread_whole]
    rfl
  · rw [outsAt0_B m c t h]; frame_out
    simp only [read_unread_whole]
  · intro a b
    rw [kept_0 m c t h]
    pointwise
  · intro a b
    rw [kept_0 m c t h]
    pointwise
  · intro a b
    rw [kept_1 m c t h]
    pointwise
  · intro a b
    rw [kept_1 m c t h]
    pointwise
end Cert.KernelIdeal.Value
end
-- ==== Proof.Compress.lean ====
module

public import proofs.«01_k».proof.Proof.Spec

@[expose] public section
set_option backward.proofsInPublic true
set_option maxRecDepth 16384
noncomputable section
open Idealize.ShloMosaic Idealize.ShloMosaic.TcCoe Idealize.SL.Sem
namespace Cert.Cmp

/-! # The compression as the kernel groups it

Tokens two at a time: eight steps, each a product of 256 entries (two tokens) with the weights of both halves side by
side; then the second half's sums are taken one chunk further on, and the positions' share is added. -/

abbrev Slab := (⟨3, ![1, 8192, 128]⟩ : Shape).Idx → EReal
abbrev W1Cat := (⟨4, ![2, 8, 256, 256]⟩ : Shape).Idx → EReal
abbrev PosCat := (⟨4, ![2, 8, 8, 256]⟩ : Shape).Idx → EReal

/-- The slab is layer 1's rows of sequence `b`. -/
abbrev IsSlab (X : Cache) (b : Fin 8) (X0 : Slab) : Prop :=
  ∀ (r : Fin 8192) (d : Fin 128), X0 (ix3 0 r d) = X (ix3 1 ⟨b.val * 8192 + r.val, by omega⟩ d)
/-- Both halves' first-layer weights side by side, two tokens to a block. -/
abbrev IsCat (w : W1) (X3 : W1Cat) : Prop := ∀ (j : Fin 2) (p : Fin 8) (f h : Fin 256), X3 (ix4 j p f h) =
  w (ix3 j ⟨(h.val / 128) * 2048 + p.val * 256 + f.val, by omega⟩ ⟨h.val % 128, by omega⟩)
/-- Row 0 of the positions: the first half's, two tokens to a block. -/
abbrev IsPos0 (pe : Pos) (X5 : PosCat) : Prop := ∀ (j : Fin 2) (p : Fin 8) (f : Fin 256),
  X5 (ix4 j p 0 f) = pe (ix3 j ⟨p.val * 2 + f.val / 128, by omega⟩ ⟨f.val % 128, by omega⟩)
/-- Row 1 of the positions: the second half's. -/
abbrev IsPos1 (pe : Pos) (X5 : PosCat) : Prop := ∀ (j : Fin 2) (p : Fin 8) (f : Fin 256),
  X5 (ix4 j p 1 f) = pe (ix3 j ⟨16 + (p.val * 2 + f.val / 128), by omega⟩ ⟨f.val % 128, by omega⟩)
/-- The chunk after `a`, around the end. -/
abbrev after (a : Fin 128) : Fin 128 := ⟨(1 + a.val) % 128, by omega⟩

/-- Step `p`: tokens `2 p` and `2 p + 1` of chunk `a`. -/
def step (X0 : Slab) (X3 : W1Cat) (j g : Fin 2) (a : Fin 128) (h : Fin 256) (p : Fin 8) : EReal :=
  ∑ x : Fin 128, X0 (ix3 0 ⟨(8 * p.val + 2 * j.val + g.val) + 64 * a.val, by omega⟩ x) * X3 (ix4 j p ⟨x.val, by omega⟩ h) +
  ∑ x : Fin 128, X0 (ix3 0 ⟨(8 * p.val + 4 + 2 * j.val + g.val) + 64 * a.val, by omega⟩ x) * X3 (ix4 j p ⟨128 + x.val, by omega⟩ h)

/-- The eight steps. -/
def acc (X0 : Slab) (X3 : W1Cat) (j g : Fin 2) (a : Fin 128) (h : Fin 256) : EReal := ∑ p, step X0 X3 j g a h p

/-- The positions' eight steps; row `i` is half `i`. -/
def accPos (X5 : PosCat) (X3 : W1Cat) (j : Fin 2) (i : Fin 8) (h : Fin 256) : EReal :=
  ∑ p : Fin 8, ∑ x : Fin 256, X5 (ix4 j p i x) * X3 (ix4 j p x h)

/-- The first layer's sum. -/
def pre (X0 : Slab) (X3 : W1Cat) (X5 : PosCat) (j g : Fin 2) (a : Fin 128) (h : Fin 128) : EReal :=
  acc X0 X3 j g a ⟨h.val, by omega⟩ + acc X0 X3 j g ⟨(a.val + 128 - 127) % 128, by omega⟩ ⟨128 + h.val, by omega⟩ +
    (accPos X5 X3 j 0 ⟨h.val, by omega⟩ + accPos X5 X3 j 1 ⟨128 + h.val, by omega⟩)

/-- One entry of the compressed rows, as the kernel computes it. -/
def cell (X0 : Slab) (X3 : W1Cat) (X4 : W2) (X5 : PosCat) (j g : Fin 2) (a e : Fin 128) : EReal :=
  ∑ h : Fin 128, pre X0 X3 X5 j g a h * Ideal.div 1 (1 + Ideal.exp (0 - pre X0 X3 X5 j g a h)) * X4 (ix3 j h e)

section
variable (X : Cache) (w : W1) (v : W2) (pe : Pos) (X0 : Slab) (X3 : W1Cat) (X4 : W2) (X5 : PosCat) (b : Fin 8)
  (h0 : IsSlab X b X0) (h3 : IsCat w X3) (h4 : ∀ (j : Fin 2) (h e : Fin 128), X4 (ix3 j h e) = v (ix3 j h e))
  (h5 : IsPos0 pe X5) (h5' : IsPos1 pe X5)

/-- A sum of 256 products, first 128 and last 128. -/
theorem split (F : Fin 256 → EReal) : ∑ x, F x = ∑ x : Fin 128, F ⟨x.val, by omega⟩ + ∑ x : Fin 128, F ⟨128 + x.val, by omega⟩ :=
  Fin.sum_univ_add (a := 128) (b := 128) F

theorem split2 (F : Fin 4096 → EReal) : ∑ x, F x = ∑ x : Fin 2048, F ⟨x.val, by omega⟩ + ∑ x : Fin 2048, F ⟨2048 + x.val, by omega⟩ :=
  Fin.sum_univ_add (a := 2048) (b := 2048) F

include h0 h3 in
theorem acc_half (j g : Fin 2) (a h : Fin 128) (i : Fin 2) :
    acc X0 X3 j g a ⟨i.val * 128 + h.val, by omega⟩ = ∑ f : Fin 2048, w (ix3 j ⟨i.val * 2048 + f.val, by omega⟩ h) * chunk X j g b a f := by
  rw [Fin.sum_univ_tiles 8 256 rfl]
  refine Finset.sum_congr rfl fun p _ => ?_
  rw [split]
  refine congrArg₂ (· + ·) (Finset.sum_congr rfl fun x _ => ?_) (Finset.sum_congr rfl fun x _ => ?_)
  · rw [h0, h3, mul_comm]
    refine congrArg₂ (· * ·) ?_ ?_
    · exact congrArg w (congrArg₂ (fun x y => ix3 j x y) (Fin.ext (by dsimp only; omega)) (Fin.ext (by dsimp only; omega)))
    · exact congrArg X (congrArg₂ (fun x y => ix3 1 x y) (Fin.ext (by dsimp only; omega)) (Fin.ext (by dsimp only; omega)))
  · rw [h0, h3, mul_comm]
    refine congrArg₂ (· * ·) ?_ ?_
    · exact congrArg w (congrArg₂ (fun x y => ix3 j x y) (Fin.ext (by dsimp only; omega)) (Fin.ext (by dsimp only; omega)))
    · exact congrArg X (congrArg₂ (fun x y => ix3 1 x y) (Fin.ext (by dsimp only; omega)) (Fin.ext (by dsimp only; omega)))

include h3 h5 h5' in
theorem pos_sum (j : Fin 2) (h : Fin 128) :
    accPos X5 X3 j 0 ⟨h.val, by omega⟩ + accPos X5 X3 j 1 ⟨128 + h.val, by omega⟩ = bias w pe j h := by
  unfold bias
  rw [split2, Fin.sum_univ_tiles 8 256 rfl, Fin.sum_univ_tiles 8 256 rfl]
  refine congrArg₂ (· + ·) (Finset.sum_congr rfl fun p _ => Finset.sum_congr rfl fun x _ => ?_) (Finset.sum_congr rfl fun p _ => Finset.sum_congr rfl fun x _ => ?_)
  · rw [h5, h3]
    refine congrArg₂ (· * ·) ?_ ?_
    · exact congrArg pe (congrArg₂ (fun x y => ix3 j x y) (Fin.ext (by dsimp only; omega)) (Fin.ext (by dsimp only; omega)))
    · exact congrArg w (congrArg₂ (fun x y => ix3 j x y) (Fin.ext (by dsimp only; omega)) (Fin.ext (by dsimp only; omega)))
  · rw [h5', h3]
    refine congrArg₂ (· * ·) ?_ ?_
    · exact congrArg pe (congrArg₂ (fun x y => ix3 j x y) (Fin.ext (by dsimp only; omega)) (Fin.ext (by dsimp only; omega)))
    · exact congrArg w (congrArg₂ (fun x y => ix3 j x y) (Fin.ext (by dsimp only; omega)) (Fin.ext (by dsimp only; omega)))

include h0 h3 h5 h5' in
theorem pre_eq (j g : Fin 2) (a h : Fin 128) :
    pre X0 X3 X5 j g a h = lo X w j g b a h + hi X w j g b ⟨(1 + a.val) % 128, by omega⟩ h + bias w pe j h := by
  unfold pre lo hi
  rw [pos_sum w pe X3 X5 h3 h5 h5']
  have e0 := acc_half X w X0 X3 b h0 h3 j g a h 0
  have e1 := acc_half X w X0 X3 b h0 h3 j g ⟨(1 + a.val) % 128, by omega⟩ h 1
  have i0 : (⟨h.val, by omega⟩ : Fin 256) = ⟨(0 : Fin 2).val * 128 + h.val, by show 0 * 128 + h.val < 256; omega⟩ := Fin.ext (by show h.val = 0 * 128 + h.val; omega)
  have i1 : (⟨128 + h.val, by omega⟩ : Fin 256) = ⟨(1 : Fin 2).val * 128 + h.val, by show 1 * 128 + h.val < 256; omega⟩ := Fin.ext (by show 128 + h.val = 1 * 128 + h.val; omega)
  have i2 : (⟨(a.val + 128 - 127) % 128, by omega⟩ : Fin 128) = ⟨(1 + a.val) % 128, by omega⟩ := Fin.ext (by dsimp only; omega)
  rw [i0, i1, i2, e0, e1]
  refine congrArg₂ (· + ·) (congrArg₂ (· + ·) (Finset.sum_congr rfl fun f _ => ?_) (Finset.sum_congr rfl fun f _ => ?_)) rfl
  · exact congrArg (· * _) (congrArg w (congrArg (fun x => ix3 j x h) (Fin.ext (by show 0 * 2048 + f.val = f.val; omega))))
  · exact congrArg (· * _) (congrArg w (congrArg (fun x => ix3 j x h) (Fin.ext (by show 1 * 2048 + f.val = 2048 + f.val; omega))))

include h0 h3 h4 h5 h5' in
/-- The kernel's grouping computes the compressed row. -/
theorem cell_eq (j g : Fin 2) (a e : Fin 128) :
    cell X0 X3 X4 X5 j g a e = comp X w v pe j g b a (after a) e := by
  unfold cell comp silu
  refine Finset.sum_congr rfl fun h _ => ?_
  rw [pre_eq X w pe X0 X3 X5 b h0 h3 h5 h5', h4, mul_comm, zero_sub]
end
end Cert.Cmp
end
-- ==== Proof.Strided.lean ====
module

public import proofs.«01_k».proof.Proof.Gen.KernelIdeal.Value
public import proofs.«01_k».proof.Proof.Spec
public import Idealize.ShloMosaic.Lib.Pipeline.ReadBack
public import Idealize.ShloMosaic.Lib.WholeRead
public import Idealize.ShloMosaic.Lib.Routing.OpsPair
public import Idealize.ShloMosaic.Lib.Routing.OpsSet
public import proofs.«01_k».proof.Proof.Compress

@[expose] public section
set_option maxRecDepth 16384
noncomputable section
open Idealize.ShloMosaic Idealize.ShloMosaic.TcCoe Idealize.SL.Sem
open Idealize.ShloMosaic.Pipeline (Dat)
namespace Cert.KernelIdeal.Value
open Cert.KernelIdeal Cert.KernelIdeal.Gen
variable (m : (ℓ : Loc nD τ sig) → Buf (Elt Ideal) ℓ)

/-! # Strided loads of the slab -/

/-- A load of the slab reads the slab. -/
theorem strided (t : Fin cfg0.N) (L : LoadRect S1x8192x128) (h : (ms0_0 t).IsWhole) (X : S1x8192x128.Idx → EReal) (x : L.shape.Idx) :
    View.readAt (Elt Ideal) (ms0_0 t).view L (h.unread X) x = X (L.idx x) := Memref.IsWhole.readAt_unread (Val := Elt Ideal) (m := ms0_0 t) h X L x
/-- Every 64th row, from row `o` on. -/
theorem strided_at (t : Fin cfg0.N) (o : ℕ) (ho : o < 64) (inb) (h : (ms0_0 t).IsWhole) (X : S1x8192x128.Idx → EReal) (i d : Fin 128) :
    View.readAt (Elt Ideal) (ms0_0 t).view { off := ![0, o, 0], size := ![1, 128, 128], stride := ![1, 64, 1], inb := inb : LoadRect S1x8192x128} (h.unread X) (ix3 0 i d)
      = X (ix3 0 ⟨o + 64 * i.val, by omega⟩ d) := by
  rw [strided]
  refine congrArg X (funext fun a => Fin.ext ?_)
  match a with
  | ⟨0, _⟩ => rfl
  | ⟨1, _⟩ => rfl
  | ⟨2, _⟩ => show 0 + 1 * d.val = d.val; omega
end Cert.KernelIdeal.Value
end
-- ==== Proof.Chain.lean ====
module

public import proofs.«01_k».proof.Proof.Gen.KernelIdeal.Value
public import proofs.«01_k».proof.Proof.Spec
public import Idealize.ShloMosaic.Lib.Pipeline.ReadBack
public import Idealize.ShloMosaic.Lib.WholeRead
public import Idealize.ShloMosaic.Lib.Routing.OpsPair
public import Idealize.ShloMosaic.Lib.Routing.OpsSet
public import proofs.«01_k».proof.Proof.Strided

@[expose] public section
set_option maxRecDepth 16384
noncomputable section
open Idealize.ShloMosaic Idealize.ShloMosaic.TcCoe Idealize.SL.Sem
open Idealize.ShloMosaic.Pipeline (Dat)
namespace Cert.KernelIdeal.Value
open Cert.KernelIdeal Cert.KernelIdeal.Gen
variable (m : (ℓ : Loc nD τ sig) → Buf (Elt Ideal) ℓ)

/-! # The compression's products, one at a time -/

section
variable (A B C D : Vec Ideal S1x128x128 .f32) (w : Vec Ideal S1x1x256x256 .bf16) (p : Vec Ideal S1x1x8x256 .bf16) (acc : FVec Ideal S256x256 .f32) (pos : FVec Ideal S8x256 .f32)

/-- Two tokens' products. -/
def two (A B : Vec Ideal S1x128x128 .f32) (w : Vec Ideal S1x1x256x256 .bf16) (a : Fin 128) (h : Fin 256) : EReal :=
  ∑ x : Fin 128, A (ix3 0 a x) * w (ix4 0 0 ⟨x.val, by omega⟩ h) + ∑ x : Fin 128, B (ix3 0 a x) * w (ix4 0 0 ⟨128 + x.val, by omega⟩ h)

theorem first_0 (r : Fin 256) (a : Fin 128) (hr : r.val = a.val) (h : Fin 256) : addf (broadcast S256x256 (FloatOps.ofBits (F := Ideal) FTy.f32 0#32)) (matmul (φ₁ := .bf16) (φ₂ := .bf16) dot_S256x256_S256x256_S256x256_1_0_0_1_n_n none (truncf .bf16 (concatenate (α := Ideal FTy.f32) S256x256 0 [⟨S128x256, concatenate (α := Ideal FTy.f32) S128x256 1 [⟨S128x128, shapeCast (α := Ideal FTy.f32) S128x128 A shapeCasts_S1x128x128_S128x128⟩, ⟨S128x128, shapeCast (α := Ideal FTy.f32) S128x128 B shapeCasts_S1x128x128_S128x128⟩] concatenates_S128x128_S128x128_S128x256_d1⟩, ⟨S128x256, concatenate (α := Ideal FTy.f32) S128x256 1 [⟨S128x128, shapeCast (α := Ideal FTy.f32) S128x128 C shapeCasts_S1x128x128_S128x128⟩, ⟨S128x128, shapeCast (α := Ideal FTy.f32) S128x128 D shapeCasts_S1x128x128_S128x128⟩] concatenates_S128x128_S128x128_S128x256_d1⟩] concatenates_S128x256_S128x256_S256x256_d0) bitsLt_bf16_f32) (shapeCast (α := Ideal FTy.bf16) S256x256 w shapeCasts_S1x1x256x256_S256x256) (constant (F := Ideal) S256x256 FTy.f32 0#32)) (ix2 r h) = two A B w a h := by
  obtain rfl : r = ⟨a.val, by clear hr; omega⟩ := Fin.ext hr
  unfold two
  pointwise
theorem next_0 (r : Fin 256) (a : Fin 128) (hr : r.val = a.val) (h : Fin 256) : addf acc (matmul (φ₁ := .bf16) (φ₂ := .bf16) dot_S256x256_S256x256_S256x256_1_0_0_1_n_n none (truncf .bf16 (concatenate (α := Ideal FTy.f32) S256x256 0 [⟨S128x256, concatenate (α := Ideal FTy.f32) S128x256 1 [⟨S128x128, shapeCast (α := Ideal FTy.f32) S128x128 A shapeCasts_S1x128x128_S128x128⟩, ⟨S128x128, shapeCast (α := Ideal FTy.f32) S128x128 B shapeCasts_S1x128x128_S128x128⟩] concatenates_S128x128_S128x128_S128x256_d1⟩, ⟨S128x256, concatenate (α := Ideal FTy.f32) S128x256 1 [⟨S128x128, shapeCast (α := Ideal FTy.f32) S128x128 C shapeCasts_S1x128x128_S128x128⟩, ⟨S128x128, shapeCast (α := Ideal FTy.f32) S128x128 D shapeCasts_S1x128x128_S128x128⟩] concatenates_S128x128_S128x128_S128x256_d1⟩] concatenates_S128x256_S128x256_S256x256_d0) bitsLt_bf16_f32) (shapeCast (α := Ideal FTy.bf16) S256x256 w shapeCasts_S1x1x256x256_S256x256) (constant (F := Ideal) S256x256 FTy.f32 0#32)) (ix2 r h) = acc (ix2 r h) + two A B w a h := by
  obtain rfl : r = ⟨a.val, by clear hr; omega⟩ := Fin.ext hr
  unfold two
  pointwise
theorem first_1 (r : Fin 256) (a : Fin 128) (hr : r.val = 128 + a.val) (h : Fin 256) : addf (broadcast S256x256 (FloatOps.ofBits (F := Ideal) FTy.f32 0#32)) (matmul (φ₁ := .bf16) (φ₂ := .bf16) dot_S256x256_S256x256_S256x256_1_0_0_1_n_n none (truncf .bf16 (concatenate (α := Ideal FTy.f32) S256x256 0 [⟨S128x256, concatenate (α := Ideal FTy.f32) S128x256 1 [⟨S128x128, shapeCast (α := Ideal FTy.f32) S128x128 A shapeCasts_S1x128x128_S128x128⟩, ⟨S128x128, shapeCast (α := Ideal FTy.f32) S128x128 B shapeCasts_S1x128x128_S128x128⟩] concatenates_S128x128_S128x128_S128x256_d1⟩, ⟨S128x256, concatenate (α := Ideal FTy.f32) S128x256 1 [⟨S128x128, shapeCast (α := Ideal FTy.f32) S128x128 C shapeCasts_S1x128x128_S128x128⟩, ⟨S128x128, shapeCast (α := Ideal FTy.f32) S128x128 D shapeCasts_S1x128x128_S128x128⟩] concatenates_S128x128_S128x128_S128x256_d1⟩] concatenates_S128x256_S128x256_S256x256_d0) bitsLt_bf16_f32) (shapeCast (α := Ideal FTy.bf16) S256x256 w shapeCasts_S1x1x256x256_S256x256) (constant (F := Ideal) S256x256 FTy.f32 0#32)) (ix2 r h) = two C D w a h := by
  obtain rfl : r = ⟨128 + a.val, by clear hr; omega⟩ := Fin.ext hr
  unfold two
  pointwise
theorem next_1 (r : Fin 256) (a : Fin 128) (hr : r.val = 128 + a.val) (h : Fin 256) : addf acc (matmul (φ₁ := .bf16) (φ₂ := .bf16) dot_S256x256_S256x256_S256x256_1_0_0_1_n_n none (truncf .bf16 (concatenate (α := Ideal FTy.f32) S256x256 0 [⟨S128x256, concatenate (α := Ideal FTy.f32) S128x256 1 [⟨S128x128, shapeCast (α := Ideal FTy.f32) S128x128 A shapeCasts_S1x128x128_S128x128⟩, ⟨S128x128, shapeCast (α := Ideal FTy.f32) S128x128 B shapeCasts_S1x128x128_S128x128⟩] concatenates_S128x128_S128x128_S128x256_d1⟩, ⟨S128x256, concatenate (α := Ideal FTy.f32) S128x256 1 [⟨S128x128, shapeCast (α := Ideal FTy.f32) S128x128 C shapeCasts_S1x128x128_S128x128⟩, ⟨S128x128, shapeCast (α := Ideal FTy.f32) S128x128 D shapeCasts_S1x128x128_S128x128⟩] concatenates_S128x128_S128x128_S128x256_d1⟩] concatenates_S128x256_S128x256_S256x256_d0) bitsLt_bf16_f32) (shapeCast (α := Ideal FTy.bf16) S256x256 w shapeCasts_S1x1x256x256_S256x256) (constant (F := Ideal) S256x256 FTy.f32 0#32)) (ix2 r h) = acc (ix2 r h) + two C D w a h := by
  obtain rfl : r = ⟨128 + a.val, by clear hr; omega⟩ := Fin.ext hr
  unfold two
  pointwise
theorem pos_first (i : Fin 8) (h : Fin 256) : addf (broadcast S8x256 (FloatOps.ofBits (F := Ideal) FTy.f32 0#32)) (matmul (φ₁ := .bf16) (φ₂ := .bf16) dot_S8x256_S256x256_S8x256_1_0_0_1_n_n none (shapeCast (α := Ideal FTy.bf16) S8x256 p shapeCasts_S1x1x8x256_S8x256) (shapeCast (α := Ideal FTy.bf16) S256x256 w shapeCasts_S1x1x256x256_S256x256) (constant (F := Ideal) S8x256 FTy.f32 0#32)) (ix2 i h) = ∑ x : Fin 256, p (ix4 0 0 i x) * w (ix4 0 0 x h) := by
  pointwise
theorem pos_next (i : Fin 8) (h : Fin 256) : addf pos (matmul (φ₁ := .bf16) (φ₂ := .bf16) dot_S8x256_S256x256_S8x256_1_0_0_1_n_n none (shapeCast (α := Ideal FTy.bf16) S8x256 p shapeCasts_S1x1x8x256_S8x256) (shapeCast (α := Ideal FTy.bf16) S256x256 w shapeCasts_S1x1x256x256_S256x256) (constant (F := Ideal) S8x256 FTy.f32 0#32)) (ix2 i h) = pos (ix2 i h) + ∑ x : Fin 256, p (ix4 0 0 i x) * w (ix4 0 0 x h) := by
  pointwise
theorem pos_row (h : Fin 128) : addf (extractStridedSlice S1x128 ![0, 0] pos slices_S8x256_o0_0_S1x128) (extractStridedSlice S1x128 ![1, 128] pos slices_S8x256_o1_128_S1x128) (ix2 0 h) =
    pos (ix2 0 ⟨h.val, by omega⟩) + pos (ix2 1 ⟨128 + h.val, by omega⟩) := by
  pointwise

/-- The first layer's sum for key head 0. -/
def raw0 (R : FVec Ideal S1x128 .f32) : FVec Ideal S128x128 .f32 :=
  addf (addf (extractStridedSlice S128x128 ![0, 0] acc slices_S256x256_o0_0_S128x128)
    (dynamicRotate 0 127#32 none (extractStridedSlice S128x128 ![0, 128] acc slices_S256x256_o0_128_S128x128) rotates_S128x128_d0))
    (broadcastTo S128x128 R broadcasts_S1x128_S128x128)
/-- The first layer's sum for key head 1. -/
def raw1 (R : FVec Ideal S1x128 .f32) : FVec Ideal S128x128 .f32 :=
  addf (addf (extractStridedSlice S128x128 ![128, 0] acc slices_S256x256_o128_0_S128x128)
    (dynamicRotate 0 127#32 none (extractStridedSlice S128x128 ![128, 128] acc slices_S256x256_o128_128_S128x128) rotates_S128x128_d0))
    (broadcastTo S128x128 R broadcasts_S1x128_S128x128)
theorem raw0_at (R : FVec Ideal S1x128 .f32) (a h : Fin 128) : raw0 acc R (ix2 a h) =
    acc (ix2 ⟨a.val, by omega⟩ ⟨h.val, by omega⟩) + acc (ix2 ⟨(a.val + 128 - 127) % 128, by omega⟩ ⟨128 + h.val, by omega⟩) + R (ix2 0 h) := by
  pointwise [raw0]
theorem raw1_at (R : FVec Ideal S1x128 .f32) (a h : Fin 128) : raw1 acc R (ix2 a h) =
    acc (ix2 ⟨128 + a.val, by omega⟩ ⟨h.val, by omega⟩) + acc (ix2 ⟨128 + (a.val + 128 - 127) % 128, by omega⟩ ⟨128 + h.val, by omega⟩) + R (ix2 0 h) := by
  pointwise [raw1]

/-- The second layer, from the first layer's sum `u`. -/
def second (u : FVec Ideal S128x128 .f32) (v : Vec Ideal S1x128x128 .bf16) : FVec Ideal S1x128x128 .bf16 :=
  k0_pay65 (k0_pay28 u (divf (broadcast S128x128 (Scalar.ofBits .f32 0x3F800000#32)) (addf (broadcast S128x128 (Scalar.ofBits .f32 0x3F800000#32)) (exp (subf (broadcast S128x128 (Scalar.ofBits .f32 0x00000000#32)) u)))) v)
theorem second_at (u : FVec Ideal S128x128 .f32) (v : Vec Ideal S1x128x128 .bf16) (a e : Fin 128) : second u v (ix3 0 a e) =
    ∑ h : Fin 128, u (ix2 a h) * Ideal.div 1 (1 + Ideal.exp (0 - u (ix2 a h))) * v (ix3 0 h e) := by
  pointwise [second, k0_pay65, k0_pay28]

/-- The second layer's entry is the compressed entry, once its two operands are read. -/
theorem cell_of (X0 : Cert.Cmp.Slab) (X3 : Cert.Cmp.W1Cat) (X4 : Cert.Cmp.W2) (X5 : Cert.Cmp.PosCat) (j g : Fin 2)
    (u : FVec Ideal S128x128 .f32) (v : Vec Ideal S1x128x128 .bf16) (a e : Fin 128)
    (hu : ∀ h : Fin 128, u (ix2 a h) = Cert.Cmp.pre X0 X3 X5 j g a h) (hv : ∀ h : Fin 128, v (ix3 0 h e) = X4 (ix3 j h e)) :
    second u v (ix3 0 a e) = Cert.Cmp.cell X0 X3 X4 X5 j g a e := by
  rw [second_at]
  exact Finset.sum_congr rfl fun h _ => by rw [hu, hv]
theorem pre_of (X0 : Cert.Cmp.Slab) (X3 : Cert.Cmp.W1Cat) (X5 : Cert.Cmp.PosCat) (j g : Fin 2) (a h : Fin 128) (x y r : EReal)
    (hx : x = Cert.Cmp.acc X0 X3 j g a ⟨h.val, by omega⟩)
    (hy : y = Cert.Cmp.acc X0 X3 j g ⟨(a.val + 128 - 127) % 128, by omega⟩ ⟨128 + h.val, by omega⟩)
    (hr : r = Cert.Cmp.accPos X5 X3 j 0 ⟨h.val, by omega⟩ + Cert.Cmp.accPos X5 X3 j 1 ⟨128 + h.val, by omega⟩) :
    x + y + r = Cert.Cmp.pre X0 X3 X5 j g a h := by rw [hx, hy, hr]; rfl
theorem acc_of (X0 : Cert.Cmp.Slab) (X3 : Cert.Cmp.W1Cat) (j g : Fin 2) (a : Fin 128) (h : Fin 256) (x : EReal)
    (hx : x = Cert.Cmp.step X0 X3 j g a h 0 + Cert.Cmp.step X0 X3 j g a h 1 + Cert.Cmp.step X0 X3 j g a h 2 + Cert.Cmp.step X0 X3 j g a h 3 +
      Cert.Cmp.step X0 X3 j g a h 4 + Cert.Cmp.step X0 X3 j g a h 5 + Cert.Cmp.step X0 X3 j g a h 6 + Cert.Cmp.step X0 X3 j g a h 7) :
    x = Cert.Cmp.acc X0 X3 j g a h := by rw [hx, Cert.Cmp.acc, Fin.sum_univ_eight]
/-- One step's share of the positions. -/
def posStep (X3 : Cert.Cmp.W1Cat) (X5 : Cert.Cmp.PosCat) (j : Fin 2) (i : Fin 8) (h : Fin 256) (p : Fin 8) : EReal :=
  ∑ x : Fin 256, X5 (ix4 j p i x) * X3 (ix4 j p x h)
theorem pos_of (X3 : Cert.Cmp.W1Cat) (X5 : Cert.Cmp.PosCat) (j : Fin 2) (i : Fin 8) (h : Fin 256) (x : EReal)
    (hx : x = posStep X3 X5 j i h 0 + posStep X3 X5 j i h 1 + posStep X3 X5 j i h 2 + posStep X3 X5 j i h 3 +
      posStep X3 X5 j i h 4 + posStep X3 X5 j i h 5 + posStep X3 X5 j i h 6 + posStep X3 X5 j i h 7) :
    x = Cert.Cmp.accPos X5 X3 j i h := by rw [hx, Cert.Cmp.accPos, Fin.sum_univ_eight]; rfl
theorem step_of (X0 : Cert.Cmp.Slab) (X3 : Cert.Cmp.W1Cat) (j g : Fin 2) (p : Fin 8) (a : Fin 128) (h : Fin 256)
    (hA : ∀ x : Fin 128, A (ix3 0 a x) = X0 (ix3 0 ⟨(8 * p.val + 2 * j.val + g.val) + 64 * a.val, by omega⟩ x))
    (hB : ∀ x : Fin 128, B (ix3 0 a x) = X0 (ix3 0 ⟨(8 * p.val + 4 + 2 * j.val + g.val) + 64 * a.val, by omega⟩ x))
    (hw : ∀ x : Fin 256, w (ix4 0 0 x h) = X3 (ix4 j p x h)) : two A B w a h = Cert.Cmp.step X0 X3 j g a h p := by
  unfold two Cert.Cmp.step
  simp only [hA, hB, hw]
theorem posStep_of (X3 : Cert.Cmp.W1Cat) (X5 : Cert.Cmp.PosCat) (j : Fin 2) (p' i : Fin 8) (h : Fin 256)
    (hp : ∀ x : Fin 256, p (ix4 0 0 i x) = X5 (ix4 j p' i x)) (hw : ∀ x : Fin 256, w (ix4 0 0 x h) = X3 (ix4 j p' x h)) :
    ∑ x : Fin 256, p (ix4 0 0 i x) * w (ix4 0 0 x h) = posStep X3 X5 j i h p' := by
  unfold posStep
  simp only [hp, hw]
end
end Cert.KernelIdeal.Value
end
-- ==== Proof.CompK.lean ====
module

public import proofs.«01_k».proof.Proof.Gen.KernelIdeal.Value
public import proofs.«01_k».proof.Proof.Spec
public import Idealize.ShloMosaic.Lib.Pipeline.ReadBack
public import Idealize.ShloMosaic.Lib.WholeRead
public import Idealize.ShloMosaic.Lib.Routing.OpsPair
public import Idealize.ShloMosaic.Lib.Routing.OpsSet
public import proofs.«01_k».proof.Proof.Chain

@[expose] public section
set_option maxRecDepth 16384
noncomputable section
open Idealize.ShloMosaic Idealize.ShloMosaic.TcCoe Idealize.SL.Sem
open Idealize.ShloMosaic.Pipeline (Dat)
namespace Cert.KernelIdeal.Value
open Cert.KernelIdeal Cert.KernelIdeal.Gen
variable (m : (ℓ : Loc nD τ sig) → Buf (Elt Ideal) ℓ)

set_option maxHeartbeats 0 in
/-- The first grid point of a sequence stores the compressed keys. -/
theorem first_k (c : Dev nD) (t : Fin cfg0.N) (h : t.val % 8 = 0) (y : S2x128x128.Idx) :
    (outsAt0 m c t.val t.isLt).2.2.1 y =
      Cert.Cmp.cell (iblk m c 0 t) (iblk m c 3 t) (iblk m c 4 t) (iblk m c 5 t) 0 (y 0) (y 1) (y 2) := by
  rw [outsAt0_A m c t h]
  frame_out
  canon_tiles x hy
  · have z : x = ix3 0 (x 1) (x 2) := (eq_ix3 x).trans (congrArg (fun a => ix3 a (x 1) (x 2)) (Fin.ext (by have : (x 0).val < 1 := (x 0).isLt; show (x 0).val = 0; omega)))
    have y0 : y 0 = (1 : Fin 2) := Fin.ext (by show (y 0).val = 1; omega)
    have y1 : y 1 = (x 1 : Fin 128) := Fin.ext (by omega)
    have y2 : y 2 = (x 2 : Fin 128) := Fin.ext (by omega)
    rw [z, y0, y1, y2]
    clear y0 y1 y2 z hy0 hy1 hy2 x0_lt x1_lt x2_lt
    generalize (x 1 : Fin 128) = a
    generalize (x 2 : Fin 128) = e
    generalize iblk m c 0 t = X0
    generalize iblk m c 3 t = X3
    generalize iblk m c 4 t = X4
    generalize iblk m c 5 t = X5
    refine cell_of X0 X3 X4 X5 0 1 _ _ a e (fun h => ?_) (fun h => by pointwise)
    refine (raw1_at _ _ a h).trans (pre_of X0 X3 X5 0 1 a h _ _ _ ?_ ?_ ?_)
    · refine acc_of _ _ _ _ _ _ _ ?_
      refine (next_1 _ _ _ _ _ _ _ a (by rfl) _).trans (congrArg₂ (· + ·) ?_ ?_)
      refine (next_1 _ _ _ _ _ _ _ a (by rfl) _).trans (congrArg₂ (· + ·) ?_ ?_)
      refine (next_1 _ _ _ _ _ _ _ a (by rfl) _).trans (congrArg₂ (· + ·) ?_ ?_)
      refine (next_1 _ _ _ _ _ _ _ a (by rfl) _).trans (congrArg₂ (· + ·) ?_ ?_)
      refine (next_1 _ _ _ _ _ _ _ a (by rfl) _).trans (congrArg₂ (· + ·) ?_ ?_)
      refine (next_1 _ _ _ _ _ _ _ a (by rfl) _).trans (congrArg₂ (· + ·) ?_ ?_)
      refine (next_1 _ _ _ _ _ _ _ a (by rfl) _).trans (congrArg₂ (· + ·) ?_ ?_)
      refine (first_1 _ _ _ _ _ _ a (by rfl) _).trans ?_
      all_goals
        refine step_of _ _ _ _ _ _ _ _ _ _ ?_ ?_ ?_
        · intro x; exact strided_at t _ (by decide) _ _ _ _ x
        · intro x; exact strided_at t _ (by decide) _ _ _ _ x
        · intro x; pointwise
    · refine acc_of _ _ _ _ _ _ _ ?_
      refine (next_1 _ _ _ _ _ _ _ ⟨(a.val + 128 - 127) % 128, by omega⟩ (by rfl) _).trans (congrArg₂ (· + ·) ?_ ?_)
      refine (next_1 _ _ _ _ _ _ _ ⟨(a.val + 128 - 127) % 128, by omega⟩ (by rfl) _).trans (congrArg₂ (· + ·) ?_ ?_)
      refine (next_1 _ _ _ _ _ _ _ ⟨(a.val + 128 - 127) % 128, by omega⟩ (by rfl) _).trans (congrArg₂ (· + ·) ?_ ?_)
      refine (next_1 _ _ _ _ _ _ _ ⟨(a.val + 128 - 127) % 128, by omega⟩ (by rfl) _).trans (congrArg₂ (· + ·) ?_ ?_)
      refine (next_1 _ _ _ _ _ _ _ ⟨(a.val + 128 - 127) % 128, by omega⟩ (by rfl) _).trans (congrArg₂ (· + ·) ?_ ?_)
      refine (next_1 _ _ _ _ _ _ _ ⟨(a.val + 128 - 127) % 128, by omega⟩ (by rfl) _).trans (congrArg₂ (· + ·) ?_ ?_)
      refine (next_1 _ _ _ _ _ _ _ ⟨(a.val + 128 - 127) % 128, by omega⟩ (by rfl) _).trans (congrArg₂ (· + ·) ?_ ?_)
      refine (first_1 _ _ _ _ _ _ ⟨(a.val + 128 - 127) % 128, by omega⟩ (by rfl) _).trans ?_
      all_goals
        refine step_of _ _ _ _ _ _ _ _ _ _ ?_ ?_ ?_
        · intro x; exact strided_at t _ (by decide) _ _ _ _ x
        · intro x; exact strided_at t _ (by decide) _ _ _ _ x
        · intro x; pointwise
    · refine (pos_row _ _).trans (congrArg₂ (· + ·) (pos_of _ _ _ _ _ _ ?_) (pos_of _ _ _ _ _ _ ?_))
      all_goals
        refine (pos_next _ _ _ _ _).trans (congrArg₂ (· + ·) ?_ ?_)
        refine (pos_next _ _ _ _ _).trans (congrArg₂ (· + ·) ?_ ?_)
        refine (pos_next _ _ _ _ _).trans (congrArg₂ (· + ·) ?_ ?_)
        refine (pos_next _ _ _ _ _).trans (congrArg₂ (· + ·) ?_ ?_)
        refine (pos_next _ _ _ _ _).trans (congrArg₂ (· + ·) ?_ ?_)
        refine (pos_next _ _ _ _ _).trans (congrArg₂ (· + ·) ?_ ?_)
        refine (pos_next _ _ _ _ _).trans (congrArg₂ (· + ·) ?_ ?_)
        refine (pos_first _ _ _ _).trans ?_
        all_goals
          refine posStep_of _ _ _ _ _ _ _ _ ?_ ?_
          · intro x; pointwise
          · intro x; pointwise
  · have z : x = ix3 0 (x 1) (x 2) := (eq_ix3 x).trans (congrArg (fun a => ix3 a (x 1) (x 2)) (Fin.ext (by have : (x 0).val < 1 := (x 0).isLt; show (x 0).val = 0; omega)))
    have y0 : y 0 = (0 : Fin 2) := Fin.ext (by show (y 0).val = 0; omega)
    have y1 : y 1 = (x 1 : Fin 128) := Fin.ext (by omega)
    have y2 : y 2 = (x 2 : Fin 128) := Fin.ext (by omega)
    rw [z, y0, y1, y2]
    clear y0 y1 y2 z hy0 hy1 hy2 x0_lt x1_lt x2_lt
    generalize (x 1 : Fin 128) = a
    generalize (x 2 : Fin 128) = e
    generalize iblk m c 0 t = X0
    generalize iblk m c 3 t = X3
    generalize iblk m c 4 t = X4
    generalize iblk m c 5 t = X5
    refine cell_of X0 X3 X4 X5 0 0 _ _ a e (fun h => ?_) (fun h => by pointwise)
    refine (raw0_at _ _ a h).trans (pre_of X0 X3 X5 0 0 a h _ _ _ ?_ ?_ ?_)
    · refine acc_of _ _ _ _ _ _ _ ?_
      refine (next_0 _ _ _ _ _ _ _ a (by rfl) _).trans (congrArg₂ (· + ·) ?_ ?_)
      refine (next_0 _ _ _ _ _ _ _ a (by rfl) _).trans (congrArg₂ (· + ·) ?_ ?_)
      refine (next_0 _ _ _ _ _ _ _ a (by rfl) _).trans (congrArg₂ (· + ·) ?_ ?_)
      refine (next_0 _ _ _ _ _ _ _ a (by rfl) _).trans (congrArg₂ (· + ·) ?_ ?_)
      refine (next_0 _ _ _ _ _ _ _ a (by rfl) _).trans (congrArg₂ (· + ·) ?_ ?_)
      refine (next_0 _ _ _ _ _ _ _ a (by rfl) _).trans (congrArg₂ (· + ·) ?_ ?_)
      refine (next_0 _ _ _ _ _ _ _ a (by rfl) _).trans (congrArg₂ (· + ·) ?_ ?_)
      refine (first_0 _ _ _ _ _ _ a (by rfl) _).trans ?_
      all_goals
        refine step_of _ _ _ _ _ _ _ _ _ _ ?_ ?_ ?_
        · intro x; exact strided_at t _ (by decide) _ _ _ _ x
        · intro x; exact strided_at t _ (by decide) _ _ _ _ x
        · intro x; pointwise
    · refine acc_of _ _ _ _ _ _ _ ?_
      refine (next_0 _ _ _ _ _ _ _ ⟨(a.val + 128 - 127) % 128, by omega⟩ (by rfl) _).trans (congrArg₂ (· + ·) ?_ ?_)
      refine (next_0 _ _ _ _ _ _ _ ⟨(a.val + 128 - 127) % 128, by omega⟩ (by rfl) _).trans (congrArg₂ (· + ·) ?_ ?_)
      refine (next_0 _ _ _ _ _ _ _ ⟨(a.val + 128 - 127) % 128, by omega⟩ (by rfl) _).trans (congrArg₂ (· + ·) ?_ ?_)
      refine (next_0 _ _ _ _ _ _ _ ⟨(a.val + 128 - 127) % 128, by omega⟩ (by rfl) _).trans (congrArg₂ (· + ·) ?_ ?_)
      refine (next_0 _ _ _ _ _ _ _ ⟨(a.val + 128 - 127) % 128, by omega⟩ (by rfl) _).trans (congrArg₂ (· + ·) ?_ ?_)
      refine (next_0 _ _ _ _ _ _ _ ⟨(a.val + 128 - 127) % 128, by omega⟩ (by rfl) _).trans (congrArg₂ (· + ·) ?_ ?_)
      refine (next_0 _ _ _ _ _ _ _ ⟨(a.val + 128 - 127) % 128, by omega⟩ (by rfl) _).trans (congrArg₂ (· + ·) ?_ ?_)
      refine (first_0 _ _ _ _ _ _ ⟨(a.val + 128 - 127) % 128, by omega⟩ (by rfl) _).trans ?_
      all_goals
        refine step_of _ _ _ _ _ _ _ _ _ _ ?_ ?_ ?_
        · intro x; exact strided_at t _ (by decide) _ _ _ _ x
        · intro x; exact strided_at t _ (by decide) _ _ _ _ x
        · intro x; pointwise
    · refine (pos_row _ _).trans (congrArg₂ (· + ·) (pos_of _ _ _ _ _ _ ?_) (pos_of _ _ _ _ _ _ ?_))
      all_goals
        refine (pos_next _ _ _ _ _).trans (congrArg₂ (· + ·) ?_ ?_)
        refine (pos_next _ _ _ _ _).trans (congrArg₂ (· + ·) ?_ ?_)
        refine (pos_next _ _ _ _ _).trans (congrArg₂ (· + ·) ?_ ?_)
        refine (pos_next _ _ _ _ _).trans (congrArg₂ (· + ·) ?_ ?_)
        refine (pos_next _ _ _ _ _).trans (congrArg₂ (· + ·) ?_ ?_)
        refine (pos_next _ _ _ _ _).trans (congrArg₂ (· + ·) ?_ ?_)
        refine (pos_next _ _ _ _ _).trans (congrArg₂ (· + ·) ?_ ?_)
        refine (pos_first _ _ _ _).trans ?_
        all_goals
          refine posStep_of _ _ _ _ _ _ _ _ ?_ ?_
          · intro x; pointwise
          · intro x; pointwise
end Cert.KernelIdeal.Value
end
-- ==== Proof.CompV.lean ====
module

public import proofs.«01_k».proof.Proof.Gen.KernelIdeal.Value
public import proofs.«01_k».proof.Proof.Spec
public import Idealize.ShloMosaic.Lib.Pipeline.ReadBack
public import Idealize.ShloMosaic.Lib.WholeRead
public import Idealize.ShloMosaic.Lib.Routing.OpsPair
public import Idealize.ShloMosaic.Lib.Routing.OpsSet
public import proofs.«01_k».proof.Proof.Chain

@[expose] public section
set_option maxRecDepth 16384
noncomputable section
open Idealize.ShloMosaic Idealize.ShloMosaic.TcCoe Idealize.SL.Sem
open Idealize.ShloMosaic.Pipeline (Dat)
namespace Cert.KernelIdeal.Value
open Cert.KernelIdeal Cert.KernelIdeal.Gen
variable (m : (ℓ : Loc nD τ sig) → Buf (Elt Ideal) ℓ)

set_option maxHeartbeats 0 in
/-- The first grid point of a sequence stores the compressed values. -/
theorem first_v (c : Dev nD) (t : Fin cfg0.N) (h : t.val % 8 = 0) (y : S2x128x128.Idx) :
    (outsAt0 m c t.val t.isLt).2.2.2 y =
      Cert.Cmp.cell (iblk m c 0 t) (iblk m c 3 t) (iblk m c 4 t) (iblk m c 5 t) 1 (y 0) (y 1) (y 2) := by
  rw [outsAt0_A m c t h]
  frame_out
  canon_tiles x hy
  · have z : x = ix3 0 (x 1) (x 2) := (eq_ix3 x).trans (congrArg (fun a => ix3 a (x 1) (x 2)) (Fin.ext (by have : (x 0).val < 1 := (x 0).isLt; show (x 0).val = 0; omega)))
    have y0 : y 0 = (1 : Fin 2) := Fin.ext (by show (y 0).val = 1; omega)
    have y1 : y 1 = (x 1 : Fin 128) := Fin.ext (by omega)
    have y2 : y 2 = (x 2 : Fin 128) := Fin.ext (by omega)
    rw [z, y0, y1, y2]
    clear y0 y1 y2 z hy0 hy1 hy2 x0_lt x1_lt x2_lt
    generalize (x 1 : Fin 128) = a
    generalize (x 2 : Fin 128) = e
    generalize iblk m c 0 t = X0
    generalize iblk m c 3 t = X3
    generalize iblk m c 4 t = X4
    generalize iblk m c 5 t = X5
    refine cell_of X0 X3 X4 X5 1 1 _ _ a e (fun h => ?_) (fun h => by pointwise)
    refine (raw1_at _ _ a h).trans (pre_of X0 X3 X5 1 1 a h _ _ _ ?_ ?_ ?_)
    · refine acc_of _ _ _ _ _ _ _ ?_
      refine (next_1 _ _ _ _ _ _ _ a (by rfl) _).trans (congrArg₂ (· + ·) ?_ ?_)
      refine (next_1 _ _ _ _ _ _ _ a (by rfl) _).trans (congrArg₂ (· + ·) ?_ ?_)
      refine (next_1 _ _ _ _ _ _ _ a (by rfl) _).trans (congrArg₂ (· + ·) ?_ ?_)
      refine (next_1 _ _ _ _ _ _ _ a (by rfl) _).trans (congrArg₂ (· + ·) ?_ ?_)
      refine (next_1 _ _ _ _ _ _ _ a (by rfl) _).trans (congrArg₂ (· + ·) ?_ ?_)
      refine (next_1 _ _ _ _ _ _ _ a (by rfl) _).trans (congrArg₂ (· + ·) ?_ ?_)
      refine (next_1 _ _ _ _ _ _ _ a (by rfl) _).trans (congrArg₂ (· + ·) ?_ ?_)
      refine (first_1 _ _ _ _ _ _ a (by rfl) _).trans ?_
      all_goals
        refine step_of _ _ _ _ _ _ _ _ _ _ ?_ ?_ ?_
        · intro x; exact strided_at t _ (by decide) _ _ _ _ x
        · intro x; exact strided_at t _ (by decide) _ _ _ _ x
        · intro x; pointwise
    · refine acc_of _ _ _ _ _ _ _ ?_
      refine (next_1 _ _ _ _ _ _ _ ⟨(a.val + 128 - 127) % 128, by omega⟩ (by rfl) _).trans (congrArg₂ (· + ·) ?_ ?_)
      refine (next_1 _ _ _ _ _ _ _ ⟨(a.val + 128 - 127) % 128, by omega⟩ (by rfl) _).trans (congrArg₂ (· + ·) ?_ ?_)
      refine (next_1 _ _ _ _ _ _ _ ⟨(a.val + 128 - 127) % 128, by omega⟩ (by rfl) _).trans (congrArg₂ (· + ·) ?_ ?_)
      refine (next_1 _ _ _ _ _ _ _ ⟨(a.val + 128 - 127) % 128, by omega⟩ (by rfl) _).trans (congrArg₂ (· + ·) ?_ ?_)
      refine (next_1 _ _ _ _ _ _ _ ⟨(a.val + 128 - 127) % 128, by omega⟩ (by rfl) _).trans (congrArg₂ (· + ·) ?_ ?_)
      refine (next_1 _ _ _ _ _ _ _ ⟨(a.val + 128 - 127) % 128, by omega⟩ (by rfl) _).trans (congrArg₂ (· + ·) ?_ ?_)
      refine (next_1 _ _ _ _ _ _ _ ⟨(a.val + 128 - 127) % 128, by omega⟩ (by rfl) _).trans (congrArg₂ (· + ·) ?_ ?_)
      refine (first_1 _ _ _ _ _ _ ⟨(a.val + 128 - 127) % 128, by omega⟩ (by rfl) _).trans ?_
      all_goals
        refine step_of _ _ _ _ _ _ _ _ _ _ ?_ ?_ ?_
        · intro x; exact strided_at t _ (by decide) _ _ _ _ x
        · intro x; exact strided_at t _ (by decide) _ _ _ _ x
        · intro x; pointwise
    · refine (pos_row _ _).trans (congrArg₂ (· + ·) (pos_of _ _ _ _ _ _ ?_) (pos_of _ _ _ _ _ _ ?_))
      all_goals
        refine (pos_next _ _ _ _ _).trans (congrArg₂ (· + ·) ?_ ?_)
        refine (pos_next _ _ _ _ _).trans (congrArg₂ (· + ·) ?_ ?_)
        refine (pos_next _ _ _ _ _).trans (congrArg₂ (· + ·) ?_ ?_)
        refine (pos_next _ _ _ _ _).trans (congrArg₂ (· + ·) ?_ ?_)
        refine (pos_next _ _ _ _ _).trans (congrArg₂ (· + ·) ?_ ?_)
        refine (pos_next _ _ _ _ _).trans (congrArg₂ (· + ·) ?_ ?_)
        refine (pos_next _ _ _ _ _).trans (congrArg₂ (· + ·) ?_ ?_)
        refine (pos_first _ _ _ _).trans ?_
        all_goals
          refine posStep_of _ _ _ _ _ _ _ _ ?_ ?_
          · intro x; pointwise
          · intro x; pointwise
  · have z : x = ix3 0 (x 1) (x 2) := (eq_ix3 x).trans (congrArg (fun a => ix3 a (x 1) (x 2)) (Fin.ext (by have : (x 0).val < 1 := (x 0).isLt; show (x 0).val = 0; omega)))
    have y0 : y 0 = (0 : Fin 2) := Fin.ext (by show (y 0).val = 0; omega)
    have y1 : y 1 = (x 1 : Fin 128) := Fin.ext (by omega)
    have y2 : y 2 = (x 2 : Fin 128) := Fin.ext (by omega)
    rw [z, y0, y1, y2]
    clear y0 y1 y2 z hy0 hy1 hy2 x0_lt x1_lt x2_lt
    generalize (x 1 : Fin 128) = a
    generalize (x 2 : Fin 128) = e
    generalize iblk m c 0 t = X0
    generalize iblk m c 3 t = X3
    generalize iblk m c 4 t = X4
    generalize iblk m c 5 t = X5
    refine cell_of X0 X3 X4 X5 1 0 _ _ a e (fun h => ?_) (fun h => by pointwise)
    refine (raw0_at _ _ a h).trans (pre_of X0 X3 X5 1 0 a h _ _ _ ?_ ?_ ?_)
    · refine acc_of _ _ _ _ _ _ _ ?_
      refine (next_0 _ _ _ _ _ _ _ a (by rfl) _).trans (congrArg₂ (· + ·) ?_ ?_)
      refine (next_0 _ _ _ _ _ _ _ a (by rfl) _).trans (congrArg₂ (· + ·) ?_ ?_)
      refine (next_0 _ _ _ _ _ _ _ a (by rfl) _).trans (congrArg₂ (· + ·) ?_ ?_)
      refine (next_0 _ _ _ _ _ _ _ a (by rfl) _).trans (congrArg₂ (· + ·) ?_ ?_)
      refine (next_0 _ _ _ _ _ _ _ a (by rfl) _).trans (congrArg₂ (· + ·) ?_ ?_)
      refine (next_0 _ _ _ _ _ _ _ a (by rfl) _).trans (congrArg₂ (· + ·) ?_ ?_)
      refine (next_0 _ _ _ _ _ _ _ a (by rfl) _).trans (congrArg₂ (· + ·) ?_ ?_)
      refine (first_0 _ _ _ _ _ _ a (by rfl) _).trans ?_
      all_goals
        refine step_of _ _ _ _ _ _ _ _ _ _ ?_ ?_ ?_
        · intro x; exact strided_at t _ (by decide) _ _ _ _ x
        · intro x; exact strided_at t _ (by decide) _ _ _ _ x
        · intro x; pointwise
    · refine acc_of _ _ _ _ _ _ _ ?_
      refine (next_0 _ _ _ _ _ _ _ ⟨(a.val + 128 - 127) % 128, by omega⟩ (by rfl) _).trans (congrArg₂ (· + ·) ?_ ?_)
      refine (next_0 _ _ _ _ _ _ _ ⟨(a.val + 128 - 127) % 128, by omega⟩ (by rfl) _).trans (congrArg₂ (· + ·) ?_ ?_)
      refine (next_0 _ _ _ _ _ _ _ ⟨(a.val + 128 - 127) % 128, by omega⟩ (by rfl) _).trans (congrArg₂ (· + ·) ?_ ?_)
      refine (next_0 _ _ _ _ _ _ _ ⟨(a.val + 128 - 127) % 128, by omega⟩ (by rfl) _).trans (congrArg₂ (· + ·) ?_ ?_)
      refine (next_0 _ _ _ _ _ _ _ ⟨(a.val + 128 - 127) % 128, by omega⟩ (by rfl) _).trans (congrArg₂ (· + ·) ?_ ?_)
      refine (next_0 _ _ _ _ _ _ _ ⟨(a.val + 128 - 127) % 128, by omega⟩ (by rfl) _).trans (congrArg₂ (· + ·) ?_ ?_)
      refine (next_0 _ _ _ _ _ _ _ ⟨(a.val + 128 - 127) % 128, by omega⟩ (by rfl) _).trans (congrArg₂ (· + ·) ?_ ?_)
      refine (first_0 _ _ _ _ _ _ ⟨(a.val + 128 - 127) % 128, by omega⟩ (by rfl) _).trans ?_
      all_goals
        refine step_of _ _ _ _ _ _ _ _ _ _ ?_ ?_ ?_
        · intro x; exact strided_at t _ (by decide) _ _ _ _ x
        · intro x; exact strided_at t _ (by decide) _ _ _ _ x
        · intro x; pointwise
    · refine (pos_row _ _).trans (congrArg₂ (· + ·) (pos_of _ _ _ _ _ _ ?_) (pos_of _ _ _ _ _ _ ?_))
      all_goals
        refine (pos_next _ _ _ _ _).trans (congrArg₂ (· + ·) ?_ ?_)
        refine (pos_next _ _ _ _ _).trans (congrArg₂ (· + ·) ?_ ?_)
        refine (pos_next _ _ _ _ _).trans (congrArg₂ (· + ·) ?_ ?_)
        refine (pos_next _ _ _ _ _).trans (congrArg₂ (· + ·) ?_ ?_)
        refine (pos_next _ _ _ _ _).trans (congrArg₂ (· + ·) ?_ ?_)
        refine (pos_next _ _ _ _ _).trans (congrArg₂ (· + ·) ?_ ?_)
        refine (pos_next _ _ _ _ _).trans (congrArg₂ (· + ·) ?_ ?_)
        refine (pos_first _ _ _ _).trans ?_
        all_goals
          refine posStep_of _ _ _ _ _ _ _ _ ?_ ?_
          · intro x; pointwise
          · intro x; pointwise
end Cert.KernelIdeal.Value
end
-- ==== Proof.Scratch.lean ====
module

public import proofs.«01_k».proof.Proof.Gen.KernelIdeal.Value
public import proofs.«01_k».proof.Proof.Spec
public import Idealize.ShloMosaic.Lib.Pipeline.ReadBack
public import Idealize.ShloMosaic.Lib.WholeRead
public import Idealize.ShloMosaic.Lib.Routing.OpsPair
public import Idealize.ShloMosaic.Lib.Routing.OpsSet
public import proofs.«01_k».proof.Proof.Operands
public import proofs.«01_k».proof.Proof.Stores
public import proofs.«01_k».proof.Proof.CompK
public import proofs.«01_k».proof.Proof.CompV

@[expose] public section
set_option backward.proofsInPublic true
set_option maxRecDepth 16384
noncomputable section
open Idealize.ShloMosaic Idealize.ShloMosaic.TcCoe Idealize.SL.Sem
open Idealize.ShloMosaic.Pipeline (Dat)
namespace Cert.KernelIdeal.Value
open Cert.KernelIdeal Cert.KernelIdeal.Gen
variable (m : (ℓ : Loc nD τ sig) → Buf (Elt Ideal) ℓ)

/-! # What the scratch holds: the compressed rows of the sequence in hand -/

/-- Compressed row `a` (its window ends with chunk `a + 1`), as the scratch keeps it. -/
def kept (c : Dev nD) (j g : Fin 2) (b : Fin 8) (a e : Fin 128) : EReal :=
  Cert.Cmp.comp (m ((c : Thread nD τ).loc main_arg0)) (m ((c : Thread nD τ).loc main_arg3)) (m ((c : Thread nD τ).loc main_arg4)) (m ((c : Thread nD τ).loc main_arg5)) j g b a (Cert.Cmp.after a) e

theorem cell_kept (c : Dev nD) (t : Fin cfg0.N) (j g : Fin 2) (a e : Fin 128) :
    Cert.Cmp.cell (iblk m c 0 t) (iblk m c 3 t) (iblk m c 4 t) (iblk m c 5 t) j g a e =
      kept m c j g ⟨t.val / 8, (idx t).2.2.2.2.2.2.2.2.2.2⟩ a e :=
  Cert.Cmp.cell_eq (m ((c : Thread nD τ).loc main_arg0)) (m ((c : Thread nD τ).loc main_arg3)) (m ((c : Thread nD τ).loc main_arg4)) (m ((c : Thread nD τ).loc main_arg5)) _ _ _ _ ⟨t.val / 8, (idx t).2.2.2.2.2.2.2.2.2.2⟩ (k0 m c t) (k3 m c t) (k4 m c t)
    (fun j p f => ((k5 m c t j p 0 (by decide) f).trans ((if_neg (by decide)).trans (if_pos rfl))).trans (pos0_at m c j p f))
    (fun j p f => ((k5 m c t j p 1 (by decide) f).trans (if_pos rfl)).trans (pos1_at m c j p f)) j g a e

/-- The key scratch after point `n`: the compressed keys of sequence `n / 8`. -/
theorem held_k (c : Dev nD) : ∀ (n : ℕ) (hn : n < cfg0.N) (g : Fin 2) (a e : Fin 128),
    (outsAt0 m c n hn).2.2.1 (ix3 g a e) = kept m c 0 g ⟨n / 8, (idx ⟨n, hn⟩).2.2.2.2.2.2.2.2.2.2⟩ a e
  | 0, hn, g, a, e => (first_k m c ⟨0, hn⟩ rfl _).trans (cell_kept m c ⟨0, hn⟩ 0 g a e)
  | n + 1, hn, g, a, e => by
    by_cases h : (n + 1) % 8 = 0
    · exact (first_k m c ⟨n + 1, hn⟩ h _).trans (cell_kept m c ⟨n + 1, hn⟩ 0 g a e)
    · have hk := congrFun (kept_0 m c ⟨n + 1, hn⟩ h) (ix3 g a e)
      refine hk.trans ((held_k c n (by omega) g a e).trans ?_)
      exact congrArg (fun b => kept m c 0 g b a e) (Fin.ext (by dsimp only; omega))
/-- The value scratch likewise. -/
theorem held_v (c : Dev nD) : ∀ (n : ℕ) (hn : n < cfg0.N) (g : Fin 2) (a e : Fin 128),
    (outsAt0 m c n hn).2.2.2 (ix3 g a e) = kept m c 1 g ⟨n / 8, (idx ⟨n, hn⟩).2.2.2.2.2.2.2.2.2.2⟩ a e
  | 0, hn, g, a, e => (first_v m c ⟨0, hn⟩ rfl _).trans (cell_kept m c ⟨0, hn⟩ 1 g a e)
  | n + 1, hn, g, a, e => by
    by_cases h : (n + 1) % 8 = 0
    · exact (first_v m c ⟨n + 1, hn⟩ h _).trans (cell_kept m c ⟨n + 1, hn⟩ 1 g a e)
    · have hk := congrFun (kept_1 m c ⟨n + 1, hn⟩ h) (ix3 g a e)
      refine hk.trans ((held_v c n (by omega) g a e).trans ?_)
      exact congrArg (fun b => kept m c 1 g b a e) (Fin.ext (by dsimp only; omega))

/-- Every point stores the tiles of its sequence's compressed rows. -/
theorem point (c : Dev nD) (t : Fin cfg0.N) : ∃ K0 K1 V0 V1 : S1x128x128.Idx → EReal,
    (∀ a e : Fin 128, K0 (ix3 0 a e) = kept m c 0 0 ⟨t.val / 8, (idx t).2.2.2.2.2.2.2.2.2.2⟩ a e) ∧
    (∀ a e : Fin 128, K1 (ix3 0 a e) = kept m c 0 1 ⟨t.val / 8, (idx t).2.2.2.2.2.2.2.2.2.2⟩ a e) ∧
    (∀ a e : Fin 128, V0 (ix3 0 a e) = kept m c 1 0 ⟨t.val / 8, (idx t).2.2.2.2.2.2.2.2.2.2⟩ a e) ∧
    (∀ a e : Fin 128, V1 (ix3 0 a e) = kept m c 1 1 ⟨t.val / 8, (idx t).2.2.2.2.2.2.2.2.2.2⟩ a e) ∧
    (outsAt0 m c t.val t.isLt).1 = tiles (grid0.coords t) (iblk m c 1 t) (iblk m c 2 t) K0 K1 V0 V1 ∧
    (outsAt0 m c t.val t.isLt).2.1 = scores (grid0.coords t) (iblk m c 1 t) K0 K1 (iblk m c 6 t) := by
  by_cases h : t.val % 8 = 0
  · obtain ⟨K0, K1, V0, V1, hk, hv, h7, h8⟩ := stores_A m c t h
    refine ⟨K0, K1, V0, V1, fun a e => ?_, fun a e => ?_, fun a e => ?_, fun a e => ?_, h7, h8⟩
    · exact ((slabs_at K0 K1 (ix3 0 a e)).trans (if_pos rfl)).symm.trans ((congrFun hk _).symm.trans (held_k m c t.val t.isLt 0 a e))
    · exact ((slabs_at K0 K1 (ix3 1 a e)).trans (if_neg (by show ¬ (1 = 0); omega))).symm.trans ((congrFun hk _).symm.trans (held_k m c t.val t.isLt 1 a e))
    · exact ((slabs_at V0 V1 (ix3 0 a e)).trans (if_pos rfl)).symm.trans ((congrFun hv _).symm.trans (held_v m c t.val t.isLt 0 a e))
    · exact ((slabs_at V0 V1 (ix3 1 a e)).trans (if_neg (by show ¬ (1 = 0); omega))).symm.trans ((congrFun hv _).symm.trans (held_v m c t.val t.isLt 1 a e))
  · obtain ⟨K0, K1, V0, V1, h0, h1, h2, h3, h7, h8⟩ := stores_B m c t h
    exact ⟨K0, K1, V0, V1, fun a e => (h0 a e).trans (held_k m c t.val t.isLt 0 a e), fun a e => (h1 a e).trans (held_k m c t.val t.isLt 1 a e),
      fun a e => (h2 a e).trans (held_v m c t.val t.isLt 0 a e), fun a e => (h3 a e).trans (held_v m c t.val t.isLt 1 a e), h7, h8⟩
end Cert.KernelIdeal.Value
end
-- ==== Proof.Attend.lean ====
module

public import proofs.«01_k».proof.Proof.Gen.KernelIdeal.Value
public import proofs.«01_k».proof.Proof.Spec
public import Idealize.ShloMosaic.Lib.Pipeline.ReadBack
public import Idealize.ShloMosaic.Lib.WholeRead
public import Idealize.ShloMosaic.Lib.Routing.OpsPair
public import Idealize.ShloMosaic.Lib.Routing.OpsSet

@[expose] public section
set_option maxRecDepth 16384
noncomputable section
open Idealize.ShloMosaic Idealize.ShloMosaic.TcCoe Idealize.SL.Sem
open Idealize.ShloMosaic.Pipeline (Dat)
namespace Cert.KernelIdeal.Value
open Cert.KernelIdeal Cert.KernelIdeal.Gen
variable (m : (ℓ : Loc nD τ sig) → Buf (Elt Ideal) ℓ)

/-! # The attention payloads, read at an index -/

/-- The mask's value. -/
theorem mask_bot : (Named.named (F := Ideal) (φ := .f32) κ "mask" (4048155338#32) : EReal) = ⊥ := IdealRules.named_const.ideal_named_scalar _ _ _ _ rfl

theorem lin (a b : ℕ) : IntOp.addi (Scalar.muli (BitVec.ofNat 32 a) 256#32) (BitVec.ofNat 32 b) = BitVec.ofNat 32 (a * 256 + b) := by
  simp [IntOp.addi, Scalar.muli, IntOp.muli, BitVec.ofNat_add, BitVec.ofNat_mul]

/-- Nobody sees row 127: its window ends past the last token. -/
theorem sees_last : ∀ q : Fin 2048, Cert.Cmp.sees q.val 127 = 0#1 := by decide +kernel

section
variable (i : grid0.Coords) (q0 q1 q2 q3 : Vec Ideal S256x128 .f32) (K V : Vec Ideal S1x128x128 .bf16)

/-- Row `j` of the four query blocks stacked. -/
def stacked (j : Fin 1024) (d : Fin 128) : EReal :=
  if h : j.val < 256 then q0 (ix2 ⟨j.val, h⟩ d) else if h : j.val - 256 < 256 then q1 (ix2 ⟨j.val - 256, h⟩ d)
    else if h : j.val - 256 - 256 < 256 then q2 (ix2 ⟨j.val - 256 - 256, h⟩ d) else q3 (ix2 ⟨j.val - 256 - 256 - 256, by omega⟩ d)

/-- The query block that tile `r` of the stack is. -/
def pick (r : Fin 4) : Vec Ideal S256x128 .f32 := ![q0, q1, q2, q3] r

theorem stacked_at (j : Fin 1024) (r : Fin 4) (a : Fin 256) (hj : j.val = r.val * 256 + a.val) (d : Fin 128) :
    stacked q0 q1 q2 q3 j d = pick q0 q1 q2 q3 r (ix2 a d) := by
  have ha := a.isLt
  unfold stacked
  match r, hj with
  | ⟨0, _⟩, hj =>
    dsimp only at hj
    rw [dif_pos (by omega)]; exact congrArg (fun x => q0 (ix2 x d)) (Fin.ext (by dsimp only; omega))
  | ⟨1, _⟩, hj =>
    dsimp only at hj
    rw [dif_neg (by omega), dif_pos (by omega)]; exact congrArg (fun x => q1 (ix2 x d)) (Fin.ext (by dsimp only; omega))
  | ⟨2, _⟩, hj =>
    dsimp only at hj
    rw [dif_neg (by omega), dif_neg (by omega), dif_pos (by omega)]; exact congrArg (fun x => q2 (ix2 x d)) (Fin.ext (by dsimp only; omega))
  | ⟨3, _⟩, hj =>
    dsimp only at hj
    rw [dif_neg (by omega), dif_neg (by omega), dif_neg (by omega)]; exact congrArg (fun x => q3 (ix2 x d)) (Fin.ext (by dsimp only; omega))

set_option maxHeartbeats 0 in
theorem prob_at (M : IVec S128x1024 1) (c : Fin 128) (j : Fin 1024) :
    k0_pay80 (F := Ideal) M q0 q1 q2 q3 K (ix2 c j) = Cert.Cmp.prob (fun x => M (ix2 x j))
      (fun x => (∑ d : Fin 128, K (ix3 0 x d) * stacked q0 q1 q2 q3 j d) * Ideal.ofBits FTy.f32 1035273459#32) c := by
  have hb : Ideal.ofBits FTy.f32 4286578688#32 = ⊥ := Cert.Cmp.ninf
  pointwise [k0_pay80]
  simp only [mask_bot, hb]
  rfl

theorem prob_same : k0_pay70 (F := Ideal) (k0_pay68 i) (k0_pay69 i q0 q1 q2 q3 K) (FloatOps.ofBits FTy.f32 0#32) = k0_pay80 (k0_pay68 i) q0 q1 q2 q3 K := rfl
theorem val_same : k0_pay71 (F := Ideal) (k0_pay68 i) (k0_pay69 i q0 q1 q2 q3 K) (FloatOps.ofBits FTy.f32 0#32) V = k0_pay81 (k0_pay68 i) q0 q1 q2 q3 K V := rfl

theorem mask_at (c : Fin 128) (j : Fin 1024) : k0_pay68 i (ix2 c j) = Cert.Cmp.sees ((i 1).val * 256 + j.val % 256) c.val := by
  pointwise [k0_pay68]
  simp only [lin]
  split_ifs
  · rw [show j.val % 256 = j.val by omega]; rfl
  · rw [show j.val % 256 = j.val - 256 by omega]; rfl
  · rw [show j.val % 256 = j.val - 256 - 256 by omega]; rfl
  · rw [show j.val % 256 = j.val - 256 - 256 - 256 by omega]; rfl

/-- The weights of one head's 256 queries. -/
def wt (q : Vec Ideal S256x128 .f32) (a : Fin 256) (c : Fin 128) : EReal :=
  Cert.Cmp.prob (fun x : Fin 128 => Cert.Cmp.sees ((i 1).val * 256 + a.val) x.val)
    (fun x => (∑ d : Fin 128, K (ix3 0 x d) * q (ix2 a d)) * Ideal.ofBits FTy.f32 1035273459#32) c

theorem wt_at (j : Fin 1024) (r : Fin 4) (a : Fin 256) (hj : j.val = r.val * 256 + a.val) (c : Fin 128) :
    k0_pay80 (F := Ideal) (k0_pay68 i) q0 q1 q2 q3 K (ix2 c j) = wt i K (pick q0 q1 q2 q3 r) a c := by
  have e : j.val % 256 = a.val := by omega
  rw [prob_at]
  unfold wt
  simp only [mask_at, stacked_at q0 q1 q2 q3 j r a hj, e]

theorem val_at (M : IVec S128x1024 1) (e : Fin 128) (j : Fin 1024) :
    k0_pay81 (F := Ideal) M q0 q1 q2 q3 K V (ix2 e j) = ∑ c : Fin 128, V (ix3 0 c e) * k0_pay80 (F := Ideal) M q0 q1 q2 q3 K (ix2 c j) := by
  pointwise [k0_pay81]

/-- The values summed under one head's weights. -/
theorem val_wt (j : Fin 1024) (r : Fin 4) (a : Fin 256) (hj : j.val = r.val * 256 + a.val) (e : Fin 128) :
    k0_pay81 (F := Ideal) (k0_pay68 i) q0 q1 q2 q3 K V (ix2 e j) = ∑ c : Fin 128, V (ix3 0 c e) * wt i K (pick q0 q1 q2 q3 r) a c := by
  rw [val_at]
  exact Finset.sum_congr rfl fun c _ => by rw [wt_at i q0 q1 q2 q3 K j r a hj]

/-- One group's block scores. -/
theorem ov_at (O : Vec Ideal S32x128 .f32) (s : Fin 32) (a : Fin 256) :
    k0_pay1 (F := Ideal) (k0_pay80 (k0_pay68 i) q0 q1 q2 q3 K) O (ix3 0 s a) =
      ∑ c : Fin 128, O (ix2 s c) * (wt i K q0 a c + wt i K q1 a c + wt i K q2 a c + wt i K q3 a c) := by
  pointwise [k0_pay1]
  refine Finset.sum_congr rfl fun c _ => congrArg (O (ix2 s c) * ·) ?_
  refine congrArg₂ (· + ·) (congrArg₂ (· + ·) (congrArg₂ (· + ·) ?_ ?_) ?_) ?_
  · exact wt_at i q0 q1 q2 q3 K _ 0 a (by simp) c
  · exact wt_at i q0 q1 q2 q3 K _ 1 a (by simp) c
  · exact wt_at i q0 q1 q2 q3 K _ 2 a (by simp) c
  · exact wt_at i q0 q1 q2 q3 K _ 3 a (by simp) c
theorem ov_same (O : Vec Ideal S32x128 .f32) : k0_pay79 (F := Ideal) (k0_pay70 (k0_pay68 i) (k0_pay69 i q0 q1 q2 q3 K) (FloatOps.ofBits FTy.f32 0#32)) O = k0_pay1 (k0_pay80 (k0_pay68 i) q0 q1 q2 q3 K) O := rfl

/-- One head's stored column block: the summed values times the head's gate. -/
def head (q : Vec Ideal S256x128 .f32) (G : Vec Ideal S256x128 .f32) (k : Fin 128) (a : Fin 256) (e : Fin 128) : EReal :=
  (∑ c : Fin 128, V (ix3 0 c e) * wt i K q a c) * Ideal.div 1 (1 + Ideal.exp (0 - G (ix2 a k)))
end
end Cert.KernelIdeal.Value
end
-- ==== Proof.Heads.lean ====
module

public import proofs.«01_k».proof.Proof.Gen.KernelIdeal.Value
public import proofs.«01_k».proof.Proof.Spec
public import proofs.«01_k».proof.Proof.Stores
public import proofs.«01_k».proof.Proof.Attend
public import Idealize.ShloMosaic.Lib.Pipeline.ReadBack
public import Idealize.ShloMosaic.Lib.WholeRead
public import Idealize.ShloMosaic.Lib.Routing.OpsPair
public import Idealize.ShloMosaic.Lib.Routing.OpsSet

@[expose] public section
set_option maxRecDepth 16384
noncomputable section
open Idealize.ShloMosaic Idealize.ShloMosaic.TcCoe Idealize.SL.Sem
open Idealize.ShloMosaic.Pipeline (Dat)
namespace Cert.KernelIdeal.Value
open Cert.KernelIdeal Cert.KernelIdeal.Gen
variable (m : (ℓ : Loc nD τ sig) → Buf (Elt Ideal) ℓ)

/-! # What the stored tiles hold, entry by entry -/

section
variable (i : grid0.Coords) (Q : Vec Ideal S256x1024 .f32) (G : Vec Ideal S256x128 .f32) (K V : Vec Ideal S1x128x128 .bf16)

/-- The weights of head `n`'s query `a`, over the 128 rows. -/
def weigh (n : Fin 8) (a : Fin 256) (c : Fin 128) : EReal :=
  Cert.Cmp.prob (fun x : Fin 128 => Cert.Cmp.sees ((i 1).val * 256 + a.val) x.val)
    (fun x => (∑ d : Fin 128, K (ix3 0 x d) * Q (ix2 a ⟨n.val * 128 + d.val, by omega⟩)) * Ideal.ofBits FTy.f32 1035273459#32) c

/-- Head `n`'s output for query `a`: the values under its weights, times its gate. -/
def entry (n : Fin 8) (a : Fin 256) (e : Fin 128) : EReal :=
  (∑ c : Fin 128, V (ix3 0 c e) * weigh i Q K n a c) * Ideal.div 1 (1 + Ideal.exp (0 - G (ix2 a ⟨n.val * 3, by omega⟩)))

theorem block_at (n : Fin 8) (q : Vec Ideal S256x128 .f32)
    (hq : ∀ (a : Fin 256) (d : Fin 128), q (ix2 a d) = Q (ix2 a ⟨n.val * 128 + d.val, by omega⟩)) (a : Fin 256) (c : Fin 128) :
    wt i K q a c = weigh i Q K n a c := by
  unfold wt weigh
  simp only [hq]

theorem zero_bits : (0 : EReal) = (FloatOps.ofBits (F := Ideal) FTy.f32 0#32 : EReal) := Ideal.ofBits_zero_f32.symm

theorem tile0_at (a : Fin 256) (e : Fin 128) : tile0 i Q G K V (ix2 a e) = entry i Q G K V 0 a e := by
  unfold tile0 entry
  pointwise [k0_pay74, k0_pay67]
  refine congrArg₂ (· * ·) ?_ rfl
  rw [zero_bits]; refine (congrFun (val_same ..) _).trans ?_
  refine (val_wt _ _ _ _ _ _ _ _ 0 a (by simp) e).trans ?_
  refine Finset.sum_congr rfl fun c _ => congrArg (V (ix3 0 c e) * ·) ?_
  exact block_at i Q K 0 (View.ld (Val := Elt Ideal) (S := S256x1024) (e' := .f32) Q (Rect.unit ![0, 0] ![256, 128] inb_S256x1024_S256x128_0_0)) (fun a d => by pointwise) a c

theorem tile1_at (a : Fin 256) (e : Fin 128) : tile1 i Q G K V (ix2 a e) = entry i Q G K V 1 a e := by
  unfold tile1 entry
  pointwise [k0_pay75, k0_pay67]
  refine congrArg₂ (· * ·) ?_ rfl
  rw [zero_bits]; refine (congrFun (val_same ..) _).trans ?_
  refine (val_wt _ _ _ _ _ _ _ _ 1 a (by simp) e).trans ?_
  refine Finset.sum_congr rfl fun c _ => congrArg (V (ix3 0 c e) * ·) ?_
  exact block_at i Q K 1 (View.ld (Val := Elt Ideal) (S := S256x1024) (e' := .f32) Q (Rect.unit ![0, 128] ![256, 128] inb_S256x1024_S256x128_0_128)) (fun a d => by pointwise) a c

theorem tile2_at (a : Fin 256) (e : Fin 128) : tile2 i Q G K V (ix2 a e) = entry i Q G K V 2 a e := by
  unfold tile2 entry
  pointwise [k0_pay77, k0_pay72, k0_pay76, k0_pay67]
  refine congrArg₂ (· * ·) ?_ rfl
  rw [zero_bits]; refine (congrFun (val_same ..) _).trans ?_
  refine (val_wt _ _ _ _ _ _ _ _ 2 a (by simp) e).trans ?_
  refine Finset.sum_congr rfl fun c _ => congrArg (V (ix3 0 c e) * ·) ?_
  exact block_at i Q K 2 (View.ld (Val := Elt Ideal) (S := S256x1024) (e' := .f32) Q (Rect.unit ![0, 256] ![256, 128] inb_S256x1024_S256x128_0_256)) (fun a d => by pointwise) a c

theorem tile3_at (a : Fin 256) (e : Fin 128) : tile3 i Q G K V (ix2 a e) = entry i Q G K V 3 a e := by
  unfold tile3 entry
  pointwise [k0_pay78, k0_pay73, k0_pay67]
  refine congrArg₂ (· * ·) ?_ rfl
  rw [zero_bits]; refine (congrFun (val_same ..) _).trans ?_
  refine (val_wt _ _ _ _ _ _ _ _ 3 a (by simp) e).trans ?_
  refine Finset.sum_congr rfl fun c _ => congrArg (V (ix3 0 c e) * ·) ?_
  exact block_at i Q K 3 (View.ld (Val := Elt Ideal) (S := S256x1024) (e' := .f32) Q (Rect.unit ![0, 384] ![256, 128] inb_S256x1024_S256x128_0_384)) (fun a d => by pointwise) a c

theorem tile4_at (a : Fin 256) (e : Fin 128) : tile4 i Q G K V (ix2 a e) = entry i Q G K V 4 a e := by
  unfold tile4 entry
  pointwise [k0_pay87, k0_pay82, k0_pay86, k0_pay67]
  refine congrArg₂ (· * ·) ?_ rfl
  skip
  refine (val_wt _ _ _ _ _ _ _ _ 0 a (by simp) e).trans ?_
  refine Finset.sum_congr rfl fun c _ => congrArg (V (ix3 0 c e) * ·) ?_
  exact block_at i Q K 4 (View.ld (Val := Elt Ideal) (S := S256x1024) (e' := .f32) Q (Rect.unit ![0, 512] ![256, 128] inb_S256x1024_S256x128_0_512)) (fun a d => by pointwise) a c

theorem tile5_at (a : Fin 256) (e : Fin 128) : tile5 i Q G K V (ix2 a e) = entry i Q G K V 5 a e := by
  unfold tile5 entry
  pointwise [k0_pay88, k0_pay83, k0_pay67]
  refine congrArg₂ (· * ·) ?_ rfl
  skip
  refine (val_wt _ _ _ _ _ _ _ _ 1 a (by simp) e).trans ?_
  refine Finset.sum_congr rfl fun c _ => congrArg (V (ix3 0 c e) * ·) ?_
  exact block_at i Q K 5 (View.ld (Val := Elt Ideal) (S := S256x1024) (e' := .f32) Q (Rect.unit ![0, 640] ![256, 128] inb_S256x1024_S256x128_0_640)) (fun a d => by pointwise) a c

theorem tile6_at (a : Fin 256) (e : Fin 128) : tile6 i Q G K V (ix2 a e) = entry i Q G K V 6 a e := by
  unfold tile6 entry
  pointwise [k0_pay89, k0_pay84, k0_pay67]
  refine congrArg₂ (· * ·) ?_ rfl
  skip
  refine (val_wt _ _ _ _ _ _ _ _ 2 a (by simp) e).trans ?_
  refine Finset.sum_congr rfl fun c _ => congrArg (V (ix3 0 c e) * ·) ?_
  exact block_at i Q K 6 (View.ld (Val := Elt Ideal) (S := S256x1024) (e' := .f32) Q (Rect.unit ![0, 768] ![256, 128] inb_S256x1024_S256x128_0_768)) (fun a d => by pointwise) a c

theorem tile7_at (a : Fin 256) (e : Fin 128) : tile7 i Q G K V (ix2 a e) = entry i Q G K V 7 a e := by
  unfold tile7 entry
  pointwise [k0_pay90, k0_pay85, k0_pay67]
  refine congrArg₂ (· * ·) ?_ rfl
  skip
  refine (val_wt _ _ _ _ _ _ _ _ 3 a (by simp) e).trans ?_
  refine Finset.sum_congr rfl fun c _ => congrArg (V (ix3 0 c e) * ·) ?_
  exact block_at i Q K 7 (View.ld (Val := Elt Ideal) (S := S256x1024) (e' := .f32) Q (Rect.unit ![0, 896] ![256, 128] inb_S256x1024_S256x128_0_896)) (fun a d => by pointwise) a c

theorem scores0_at (O : Vec Ideal S32x128 .f32) (s : Fin 32) (a : Fin 256) : scores0 i Q K O (ix3 0 s a) =
    ∑ c : Fin 128, O (ix2 s c) * (weigh i Q K 0 a c + weigh i Q K 1 a c + weigh i Q K 2 a c + weigh i Q K 3 a c) := by
  unfold scores0
  rw [ov_same, ov_at]
  refine Finset.sum_congr rfl fun c _ => congrArg (O (ix2 s c) * ·) ?_
  rw [block_at i Q K 0 _ (fun a d => by pointwise) a c, block_at i Q K 1 _ (fun a d => by pointwise) a c,
    block_at i Q K 2 _ (fun a d => by pointwise) a c, block_at i Q K 3 _ (fun a d => by pointwise) a c]
theorem scores1_at (O : Vec Ideal S32x128 .f32) (s : Fin 32) (a : Fin 256) : scores1 i Q K O (ix3 0 s a) =
    ∑ c : Fin 128, O (ix2 s c) * (weigh i Q K 4 a c + weigh i Q K 5 a c + weigh i Q K 6 a c + weigh i Q K 7 a c) := by
  unfold scores1
  rw [ov_at]
  refine Finset.sum_congr rfl fun c _ => congrArg (O (ix2 s c) * ·) ?_
  rw [block_at i Q K 4 _ (fun a d => by pointwise) a c, block_at i Q K 5 _ (fun a d => by pointwise) a c,
    block_at i Q K 6 _ (fun a d => by pointwise) a c, block_at i Q K 7 _ (fun a d => by pointwise) a c]
end
end Cert.KernelIdeal.Value
end
-- ==== Proof.Points.lean ====
module

public import proofs.«01_k».proof.Proof.Gen.KernelIdeal.Value
public import proofs.«01_k».proof.Proof.Spec
public import Idealize.ShloMosaic.Lib.Pipeline.ReadBack
public import Idealize.ShloMosaic.Lib.WholeRead
public import Idealize.ShloMosaic.Lib.Routing.OpsPair
public import Idealize.ShloMosaic.Lib.Routing.OpsSet
public import proofs.«01_k».proof.Proof.Scratch
public import proofs.«01_k».proof.Proof.Heads

@[expose] public section
set_option backward.proofsInPublic true
set_option maxRecDepth 16384
noncomputable section
open Idealize.ShloMosaic Idealize.ShloMosaic.TcCoe Idealize.SL.Sem
open Idealize.ShloMosaic.Pipeline (Dat)
namespace Cert.KernelIdeal.Value
open Cert.KernelIdeal Cert.KernelIdeal.Gen
variable (m : (ℓ : Loc nD τ sig) → Buf (Elt Ideal) ℓ)

/-! # What each grid point stores, as mathematics -/

theorem row_lt (t : Fin cfg0.N) (a : Fin 256) : t.val * 256 + a.val < 16384 := by
  have := (idx t).2.2.2.2.2.2.2.2.2.2
  omega

section
variable (c : Dev nD) (t : Fin cfg0.N)

/-- Row 127 of the scratch gets weight zero. -/
theorem weigh_last (i : grid0.Coords) (Q : Vec Ideal S256x1024 .f32) (K : Vec Ideal S1x128x128 .bf16) (hi : (i 1).val < 8)
    (n : Fin 8) (a : Fin 256) : weigh i Q K n a (Fin.last 127) = 0 :=
  Cert.Cmp.prob_last (n := 127) _ _ (sees_last ⟨(i 1).val * 256 + a.val, by omega⟩)

/-- The other rows get the mathematics' weights. -/
theorem weigh_eq (n : Fin 8) (K : Vec Ideal S1x128x128 .bf16)
    (hK : ∀ a e : Fin 128, K (ix3 0 a e) = kept m c 0 ⟨n.val / 4, by omega⟩ ⟨t.val / 8, (idx t).2.2.2.2.2.2.2.2.2.2⟩ a e) (a : Fin 256) (x : Fin 127) :
    weigh (grid0.coords t) (iblk m c 1 t) K n a x.castSucc =
      Cert.Cmp.weight (m ((c : Thread nD τ).loc main_arg0)) (m ((c : Thread nD τ).loc main_arg1)) (m ((c : Thread nD τ).loc main_arg3)) (m ((c : Thread nD τ).loc main_arg4)) (m ((c : Thread nD τ).loc main_arg5)) ⟨t.val * 256 + a.val, row_lt t a⟩ ⟨n.val / 4, by omega⟩ ⟨n.val % 4, by omega⟩ x := by
  have hi := (idx t).2.2.2.2.2.2.2.2.2.1
  have hq : (grid0.coords t 1).val * 256 + a.val = (t.val * 256 + a.val) % 2048 := by rw [hi]; omega
  refine (Cert.Cmp.prob_succ (n := 127) _ _ (sees_last ⟨(grid0.coords t 1).val * 256 + a.val, by rw [hi]; omega⟩) x).trans ?_
  unfold Cert.Cmp.weight
  refine congrFun (congrArg₂ Cert.Cmp.prob (funext fun y => ?_) (funext fun y => ?_)) x
  · exact congrArg (fun q => Cert.Cmp.sees q y.val) hq
  · refine congrArg (· * _) (Finset.sum_congr rfl fun d _ => congrArg₂ (· * ·) ?_ ?_)
    · refine (hK _ _).trans ?_
      unfold kept
      exact congrArg₂ (fun b e' => Cert.Cmp.comp (m ((c : Thread nD τ).loc main_arg0)) (m ((c : Thread nD τ).loc main_arg3)) (m ((c : Thread nD τ).loc main_arg4)) (m ((c : Thread nD τ).loc main_arg5)) 0 ⟨n.val / 4, by omega⟩ b ⟨y.val, by omega⟩ e' d)
        (Fin.ext (by dsimp only; omega)) (Fin.ext (by show (1 + y.val) % 128 = 1 + y.val; omega))
    · refine (k1 m c t a _).trans ?_
      exact congrArg (fun k => (m ((c : Thread nD τ).loc main_arg1)) (ix2 ⟨t.val * 256 + a.val, row_lt t a⟩ k)) (Fin.ext (by dsimp only; omega))

/-- A head's stored entry is the gated attention output. -/
theorem entry_eq (n : Fin 8) (K V : Vec Ideal S1x128x128 .bf16)
    (hK : ∀ a e : Fin 128, K (ix3 0 a e) = kept m c 0 ⟨n.val / 4, by omega⟩ ⟨t.val / 8, (idx t).2.2.2.2.2.2.2.2.2.2⟩ a e)
    (hV : ∀ a e : Fin 128, V (ix3 0 a e) = kept m c 1 ⟨n.val / 4, by omega⟩ ⟨t.val / 8, (idx t).2.2.2.2.2.2.2.2.2.2⟩ a e) (a : Fin 256) (e : Fin 128) :
    entry (grid0.coords t) (iblk m c 1 t) (iblk m c 2 t) K V n a e =
      Cert.Cmp.attend (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) ⟨t.val * 256 + a.val, row_lt t a⟩ n e := by
  have hi := (idx t).2.2.2.2.2.2.2.2.2.1
  unfold entry Cert.Cmp.attend
  rw [Fin.sum_univ_castSucc, weigh_last (grid0.coords t) _ _ (by rw [hi]; omega), mul_zero, add_zero, mul_comm, zero_sub]
  refine congrArg₂ (· * ·) ?_ (Finset.sum_congr rfl fun x _ => congrArg₂ (· * ·) ?_ (weigh_eq m c t n K hK a x))
  · refine congrArg (fun y => Ideal.div 1 (1 + Ideal.exp (-y))) (k2 m c t a _)
  · refine (hV _ _).trans ?_
    unfold kept
    exact congrArg₂ (fun b e' => Cert.Cmp.comp (m ((c : Thread nD τ).loc main_arg0)) (m ((c : Thread nD τ).loc main_arg3)) (m ((c : Thread nD τ).loc main_arg4)) (m ((c : Thread nD τ).loc main_arg5)) 1 ⟨n.val / 4, by omega⟩ b ⟨x.val, by omega⟩ e' e)
      (Fin.ext (by dsimp only; omega)) (Fin.ext (by show (1 + x.val) % 128 = 1 + x.val; omega))

theorem score_sum (g : Fin 2) (O : S32x128.Idx → EReal) (hO : O = iblk m c 6 t) (K : Vec Ideal S1x128x128 .bf16) (hK : ∀ a e : Fin 128, K (ix3 0 a e) = kept m c 0 g ⟨t.val / 8, (idx t).2.2.2.2.2.2.2.2.2.2⟩ a e)
    (s : Fin 32) (a : Fin 256) (n0 n1 n2 n3 : Fin 8) (e0 : n0.val = g.val * 4) (e1 : n1.val = g.val * 4 + 1)
    (e2 : n2.val = g.val * 4 + 2) (e3 : n3.val = g.val * 4 + 3) :
    ∑ x : Fin 128, O (ix2 s x) * (weigh (grid0.coords t) (iblk m c 1 t) K n0 a x + weigh (grid0.coords t) (iblk m c 1 t) K n1 a x +
        weigh (grid0.coords t) (iblk m c 1 t) K n2 a x + weigh (grid0.coords t) (iblk m c 1 t) K n3 a x) =
      Cert.Cmp.blockScore (m ((c : Thread nD τ).loc main_arg0)) (m ((c : Thread nD τ).loc main_arg1)) (m ((c : Thread nD τ).loc main_arg3)) (m ((c : Thread nD τ).loc main_arg4)) (m ((c : Thread nD τ).loc main_arg5)) g s ⟨t.val * 256 + a.val, row_lt t a⟩ := by
  have hi := (idx t).2.2.2.2.2.2.2.2.2.1
  have hi' : (grid0.coords t 1).val < 8 := by rw [hi]; omega
  have w : ∀ (n : Fin 8) (r : Fin 4), n.val = g.val * 4 + r.val → ∀ x : Fin 127,
      weigh (grid0.coords t) (iblk m c 1 t) K n a x.castSucc = Cert.Cmp.weight (m ((c : Thread nD τ).loc main_arg0)) (m ((c : Thread nD τ).loc main_arg1)) (m ((c : Thread nD τ).loc main_arg3)) (m ((c : Thread nD τ).loc main_arg4)) (m ((c : Thread nD τ).loc main_arg5)) ⟨t.val * 256 + a.val, row_lt t a⟩ g r x := by
    intro n r hn x
    have g' : (⟨n.val / 4, by omega⟩ : Fin 2) = g := Fin.ext (by dsimp only; omega)
    have r' : (⟨n.val % 4, by omega⟩ : Fin 4) = r := Fin.ext (by dsimp only; omega)
    have := weigh_eq m c t n K (by rw [g']; exact hK) a x
    rw [g', r'] at this
    exact this
  unfold Cert.Cmp.blockScore
  rw [Fin.sum_univ_castSucc]
  simp only [weigh_last (grid0.coords t) _ _ hi', add_zero, mul_zero]
  refine Finset.sum_congr rfl fun x _ => ?_
  rw [Fin.sum_univ_four, w n0 0 e0, w n1 1 e1, w n2 2 e2, w n3 3 e3, hO, k6]
  unfold Scalar.select
  have hx : (x.castSucc : Fin 128).val < 127 := x.isLt
  by_cases ho : Cert.Cmp.overlaps x.val s.val = 1#1
  · rw [if_pos ⟨hx, ho⟩]; exact (one_mul _).trans (if_pos ho).symm
  · rw [if_neg (fun h => ho h.2)]; exact (zero_mul _).trans (if_neg ho).symm
end
end Cert.KernelIdeal.Value
end
-- ==== Proof.Results.lean ====
module

public import proofs.«01_k».proof.Proof.Gen.KernelIdeal.Value
public import proofs.«01_k».proof.Proof.Spec
public import Idealize.ShloMosaic.Lib.Pipeline.ReadBack
public import Idealize.ShloMosaic.Lib.WholeRead
public import Idealize.ShloMosaic.Lib.Routing.OpsPair
public import Idealize.ShloMosaic.Lib.Routing.OpsSet
public import proofs.«01_k».proof.Proof.Points

@[expose] public section
set_option backward.proofsInPublic true
set_option maxRecDepth 16384
noncomputable section
open Idealize.ShloMosaic Idealize.ShloMosaic.TcCoe Idealize.SL.Sem
open Idealize.ShloMosaic.Pipeline (Dat)
namespace Cert.KernelIdeal.Value
open Cert.KernelIdeal Cert.KernelIdeal.Gen
variable (m : (ℓ : Loc nD τ sig) → Buf (Elt Ideal) ℓ)

/-! # The two results -/

theorem out7_at (c : Dev nD) (t : Fin cfg0.N) (y : S256x1024.Idx) : (outsAt0 m c t.val t.isLt).1 y =
    Cert.Cmp.attend (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) ⟨t.val * 256 + (y 0 : Fin 256).val, row_lt t (y 0)⟩
      ⟨(y 1).val / 128, by have : (y 1).val < 1024 := (y 1).isLt; omega⟩ ⟨(y 1).val % 128, by omega⟩ := by
  obtain ⟨K0, K1, V0, V1, h0, h1, w0, w1, h7, -⟩ := point m c t
  rw [h7]
  canon_tiles x hy
  · have z : x = ix2 (x 0) (x 1) := eq_ix2 x
    have hx : (x 1).val < 128 := x1_lt
    rw [z]
    refine (tile7_at _ _ _ _ _ (x 0) (x 1)).trans ((entry_eq m c t 7 K1 V1 h1 w1 (x 0) (x 1)).trans ?_)
    refine congr (congrArg₂ (fun n h => Cert.Cmp.attend (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) n h) (Fin.ext ?_) (Fin.ext ?_)) (Fin.ext ?_)
    · show t.val * 256 + (x 0).val = t.val * 256 + (y 0).val; omega
    · show 7 = (y 1).val / 128; omega
    · show (x 1).val = (y 1).val % 128; omega
  · have z : x = ix2 (x 0) (x 1) := eq_ix2 x
    have hx : (x 1).val < 128 := x1_lt
    rw [z]
    refine (tile6_at _ _ _ _ _ (x 0) (x 1)).trans ((entry_eq m c t 6 K1 V1 h1 w1 (x 0) (x 1)).trans ?_)
    refine congr (congrArg₂ (fun n h => Cert.Cmp.attend (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) n h) (Fin.ext ?_) (Fin.ext ?_)) (Fin.ext ?_)
    · show t.val * 256 + (x 0).val = t.val * 256 + (y 0).val; omega
    · show 6 = (y 1).val / 128; omega
    · show (x 1).val = (y 1).val % 128; omega
  · have z : x = ix2 (x 0) (x 1) := eq_ix2 x
    have hx : (x 1).val < 128 := x1_lt
    rw [z]
    refine (tile5_at _ _ _ _ _ (x 0) (x 1)).trans ((entry_eq m c t 5 K1 V1 h1 w1 (x 0) (x 1)).trans ?_)
    refine congr (congrArg₂ (fun n h => Cert.Cmp.attend (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) n h) (Fin.ext ?_) (Fin.ext ?_)) (Fin.ext ?_)
    · show t.val * 256 + (x 0).val = t.val * 256 + (y 0).val; omega
    · show 5 = (y 1).val / 128; omega
    · show (x 1).val = (y 1).val % 128; omega
  · have z : x = ix2 (x 0) (x 1) := eq_ix2 x
    have hx : (x 1).val < 128 := x1_lt
    rw [z]
    refine (tile4_at _ _ _ _ _ (x 0) (x 1)).trans ((entry_eq m c t 4 K1 V1 h1 w1 (x 0) (x 1)).trans ?_)
    refine congr (congrArg₂ (fun n h => Cert.Cmp.attend (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) n h) (Fin.ext ?_) (Fin.ext ?_)) (Fin.ext ?_)
    · show t.val * 256 + (x 0).val = t.val * 256 + (y 0).val; omega
    · show 4 = (y 1).val / 128; omega
    · show (x 1).val = (y 1).val % 128; omega
  · have z : x = ix2 (x 0) (x 1) := eq_ix2 x
    have hx : (x 1).val < 128 := x1_lt
    rw [z]
    refine (tile3_at _ _ _ _ _ (x 0) (x 1)).trans ((entry_eq m c t 3 K0 V0 h0 w0 (x 0) (x 1)).trans ?_)
    refine congr (congrArg₂ (fun n h => Cert.Cmp.attend (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) n h) (Fin.ext ?_) (Fin.ext ?_)) (Fin.ext ?_)
    · show t.val * 256 + (x 0).val = t.val * 256 + (y 0).val; omega
    · show 3 = (y 1).val / 128; omega
    · show (x 1).val = (y 1).val % 128; omega
  · have z : x = ix2 (x 0) (x 1) := eq_ix2 x
    have hx : (x 1).val < 128 := x1_lt
    rw [z]
    refine (tile2_at _ _ _ _ _ (x 0) (x 1)).trans ((entry_eq m c t 2 K0 V0 h0 w0 (x 0) (x 1)).trans ?_)
    refine congr (congrArg₂ (fun n h => Cert.Cmp.attend (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) n h) (Fin.ext ?_) (Fin.ext ?_)) (Fin.ext ?_)
    · show t.val * 256 + (x 0).val = t.val * 256 + (y 0).val; omega
    · show 2 = (y 1).val / 128; omega
    · show (x 1).val = (y 1).val % 128; omega
  · have z : x = ix2 (x 0) (x 1) := eq_ix2 x
    have hx : (x 1).val < 128 := x1_lt
    rw [z]
    refine (tile1_at _ _ _ _ _ (x 0) (x 1)).trans ((entry_eq m c t 1 K0 V0 h0 w0 (x 0) (x 1)).trans ?_)
    refine congr (congrArg₂ (fun n h => Cert.Cmp.attend (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) n h) (Fin.ext ?_) (Fin.ext ?_)) (Fin.ext ?_)
    · show t.val * 256 + (x 0).val = t.val * 256 + (y 0).val; omega
    · show 1 = (y 1).val / 128; omega
    · show (x 1).val = (y 1).val % 128; omega
  · have z : x = ix2 (x 0) (x 1) := eq_ix2 x
    have hx : (x 1).val < 128 := x1_lt
    rw [z]
    refine (tile0_at _ _ _ _ _ (x 0) (x 1)).trans ((entry_eq m c t 0 K0 V0 h0 w0 (x 0) (x 1)).trans ?_)
    refine congr (congrArg₂ (fun n h => Cert.Cmp.attend (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) n h) (Fin.ext ?_) (Fin.ext ?_)) (Fin.ext ?_)
    · show t.val * 256 + (x 0).val = t.val * 256 + (y 0).val; omega
    · show 0 = (y 1).val / 128; omega
    · show (x 1).val = (y 1).val % 128; omega

theorem out8_at (c : Dev nD) (t : Fin cfg0.N) (y : S2x32x256.Idx) : (outsAt0 m c t.val t.isLt).2.1 y =
    Cert.Cmp.blockScore (m ((c : Thread nD τ).loc main_arg0)) (m ((c : Thread nD τ).loc main_arg1)) (m ((c : Thread nD τ).loc main_arg3)) (m ((c : Thread nD τ).loc main_arg4)) (m ((c : Thread nD τ).loc main_arg5)) (y 0) (y 1) ⟨t.val * 256 + (y 2 : Fin 256).val, row_lt t (y 2)⟩ := by
  obtain ⟨K0, K1, V0, V1, h0, h1, w0, w1, -, h8⟩ := point m c t
  rw [h8]
  canon_tiles x hy
  · have z : x = ix3 0 (x 1) (x 2) := (eq_ix3 x).trans (congrArg (fun a => ix3 a (x 1) (x 2)) (Fin.ext (by have : (x 0).val < 1 := (x 0).isLt; show (x 0).val = 0; omega)))
    have y0 : y 0 = (1 : Fin 2) := Fin.ext (by show (y 0).val = 1; omega)
    have y1 : y 1 = (x 1 : Fin 32) := Fin.ext (by omega)
    have y2 : y 2 = (x 2 : Fin 256) := Fin.ext (by omega)
    rw [z, y0, y1, y2]
    exact (scores1_at _ _ _ _ (x 1) (x 2)).trans (score_sum m c t 1 _ rfl K1 h1 (x 1) (x 2) 4 5 6 7 rfl rfl rfl rfl)
  · have z : x = ix3 0 (x 1) (x 2) := (eq_ix3 x).trans (congrArg (fun a => ix3 a (x 1) (x 2)) (Fin.ext (by have : (x 0).val < 1 := (x 0).isLt; show (x 0).val = 0; omega)))
    have y0 : y 0 = (0 : Fin 2) := Fin.ext (by show (y 0).val = 0; omega)
    have y1 : y 1 = (x 1 : Fin 32) := Fin.ext (by omega)
    have y2 : y 2 = (x 2 : Fin 256) := Fin.ext (by omega)
    rw [z, y0, y1, y2]
    exact (scores0_at _ _ _ _ (x 1) (x 2)).trans (score_sum m c t 0 _ rfl K0 h0 (x 1) (x 2) 0 1 2 3 rfl rfl rfl rfl)

/-- The attention result. -/
theorem attend_out (c : Dev nD) : (dats m 0 c).arrAt 7 cfg0.N = fun y : S16384x1024.Idx =>
    Cert.Cmp.attend (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (y 0) ⟨(y 1).val / 128, by have : (y 1).val < 1024 := (y 1).isLt; omega⟩ ⟨(y 1).val % 128, by omega⟩ := by
  refine (dats m 0 c).arrAt_eq_of_covers 7 _ (by decide +kernel) fun t hf y => ?_
  blk_simp [idx t]
  rw [after0_7]
  refine (out7_at m c t y).trans ?_
  refine congrArg (fun n => Cert.Cmp.attend (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) n _ _) (Fin.ext ?_)
  blk_simp [idx t]
/-- The block scores. -/
theorem score_out (c : Dev nD) : (dats m 0 c).arrAt 8 cfg0.N = fun y : S2x32x16384.Idx =>
    Cert.Cmp.blockScore (m ((c : Thread nD τ).loc main_arg0)) (m ((c : Thread nD τ).loc main_arg1)) (m ((c : Thread nD τ).loc main_arg3)) (m ((c : Thread nD τ).loc main_arg4)) (m ((c : Thread nD τ).loc main_arg5)) (y 0) (y 1) (y 2) := by
  refine (dats m 0 c).arrAt_eq_of_covers 8 _ (by decide +kernel) fun t hf y => ?_
  blk_simp [idx t]
  rw [after0_8]
  refine (out8_at m c t y).trans ?_
  refine congr (congrArg₂ (fun g s => Cert.Cmp.blockScore (m ((c : Thread nD τ).loc main_arg0)) (m ((c : Thread nD τ).loc main_arg1)) (m ((c : Thread nD τ).loc main_arg3)) (m ((c : Thread nD τ).loc main_arg4)) (m ((c : Thread nD τ).loc main_arg5)) g s) (Fin.ext ?_) (Fin.ext ?_)) (Fin.ext ?_)
  all_goals blk_simp [idx t]
end Cert.KernelIdeal.Value
end
-- ==== Proof.Sums.lean ====
module

public import Idealize.ShloMosaic.Lib.IdealHost

@[expose] public section
noncomputable section
open Idealize.ShloMosaic
namespace Cert.Sums

/-- Two dot products of equal factors are equal. -/
theorem dot_congr {n : ℕ} {a a' b b' : Fin n → EReal} (ha : ∀ k, a k = a' k) (hb : ∀ k, b k = b' k) :
    (∑ k, a k * b k) = ∑ k, a' k * b' k :=
  Finset.sum_congr rfl fun k _ => by rw [ha k, hb k]

/-- The root-mean-square norm of a row of 2048 entries with the scale `g`, at entry `j`. -/
def rms (v g : Fin 2048 → EReal) (j : Fin 2048) : EReal :=
  v j * Ideal.rsqrt (Ideal.div (∑ k, v k * v k) (Ideal.ofBits FTy.f32 0x45000000#32) + Ideal.ofBits FTy.f32 0x358637BD#32) * g j

end Cert.Sums
end
-- ==== Proof.GateUp.lean ====
module

public import proofs.«01_k».proof.Proof.Gen.KernelUpIdeal.Value
public import proofs.«01_k».proof.Proof.Gen.ReferenceUpIdeal.Run
public import Idealize.ShloMosaic.Lib.Pipeline.ReadBack
public import Idealize.ShloMosaic.Lib.Pipeline.ValueKit
public import Idealize.ShloMosaic.Lib.WholeRead
public import Idealize.ShloMosaic.Lib.IdealHost
public import Idealize.ShloMosaic.Lib.Claim
public import proofs.«01_k».proof.Proof.Sums
public import proofs.«01_k».proof.Defs
public import proofs.«01_k».proof.Proof.Gen.ReferenceUpIdeal

@[expose] public section
set_option backward.proofsInPublic true
set_option maxRecDepth 16384
noncomputable section
open Idealize.ShloMosaic Idealize.ShloMosaic.TcCoe Idealize.SL.Sem
open Idealize.ShloMosaic.Pipeline (Dat)

/-! # The feed-forward part up to its gated product

The call walks the token blocks, and for each the column blocks of the hidden width: one product with the gate's columns,
one with the up-projection's, and `silu gate * up` of the two. -/

namespace Cert.GateUp

/-- Entry `f` of token `n`'s product with the last layer's weights, whose first 5632 columns are the gate's. -/
def lin (H : (⟨2, ![16384, 2048]⟩ : Shape).Idx → EReal) (W : (⟨3, ![2, 2048, 11264]⟩ : Shape).Idx → EReal)
    (n : Fin 16384) (f : Fin 11264) : EReal :=
  ∑ k : Fin 2048, H (ix2 n k) * W (ix3 1 k f)

/-- `silu g * u`. -/
def gated (g u : EReal) : EReal := g * Ideal.div 1 (1 + Ideal.exp (-g)) * u

/-- The gated product of token `n` at hidden entry `f`. -/
def act (H : (⟨2, ![16384, 2048]⟩ : Shape).Idx → EReal) (W : (⟨3, ![2, 2048, 11264]⟩ : Shape).Idx → EReal)
    (n : Fin 16384) (f : Fin 5632) : EReal :=
  gated (lin H W n ⟨f.val, by omega⟩) (lin H W n ⟨5632 + f.val, by omega⟩)

end Cert.GateUp

namespace Cert.KernelUpIdeal.Value
open Cert.KernelUpIdeal Cert.KernelUpIdeal.Gen
variable (m : (ℓ : Loc nD τ sig) → Buf (Elt Ideal) ℓ)

/-- Which block each window holds at a grid point. -/
theorem idx : ∀ t : Fin cfg0.N, win0_0.index t = ![t.val / 11, 0] ∧ win0_1.index t = ![1, 0, t.val % 11] ∧ win0_2.index t = ![1, 0, 11 + t.val % 11]
    ∧ win0_3.index t = ![t.val / 11, t.val % 11] ∧ t.val / 11 < 16 :=
  (by decide +kernel : ∀ t : Fin grid0.N, _)

/-- What one block's computation leaves at an entry. -/
theorem pay_at (a : S1024x2048.Idx → EReal) (b d : S1x2048x512.Idx → EReal) (i : Fin 1024) (j : Fin 512) :
    k0_pay1 (F := Ideal) a b d (ix2 i j)
      = Cert.GateUp.gated (∑ k : Fin 2048, a (ix2 i k) * b (ix3 0 k j)) (∑ k : Fin 2048, a (ix2 i k) * d (ix3 0 k j)) := by
  pointwise [k0_pay1]
  rw [sub_eq_add_neg, zero_add]
  rfl

/-- The tokens' block. -/
theorem k0 (c : Dev nD) (t : Fin cfg0.N) (r : Fin 1024) (d : Fin 2048) :
    iblk m c 0 t (ix2 r d) = m ((c : Thread nD τ).loc main_arg0) (ix2 ⟨t.val / 11 * 1024 + r.val, by have := (idx t).2.2.2.2; omega⟩ d) := by
  blk_ext [iblk, V, idx t]

theorem e1 (t : Fin cfg0.N) (d : Fin 2048) (h : Fin 512) :
    ((View.whole main_v0).slice (win0_1.rect t)).emb (ix3 0 d h) = ix3 1 d ⟨t.val % 11 * 512 + h.val, by omega⟩ := by
  blk_ext [idx t]
theorem e2 (t : Fin cfg0.N) (d : Fin 2048) (h : Fin 512) :
    ((View.whole main_v0).slice (win0_2.rect t)).emb (ix3 0 d h) = ix3 1 d ⟨5632 + (t.val % 11 * 512 + h.val), by omega⟩ := by
  blk_ext [idx t]
/-- The gate's columns. -/
theorem k1 (c : Dev nD) (t : Fin cfg0.N) (d : Fin 2048) (h : Fin 512) :
    iblk m c 1 t (ix3 0 d h) = m ((c : Thread nD τ).loc main_arg1) (ix3 1 d ⟨t.val % 11 * 512 + h.val, by omega⟩) := by
  blk_simp [iblk, idx t]
  entry_read
  rw [e1]
  pointwise
/-- The up-projection's columns. -/
theorem k2 (c : Dev nD) (t : Fin cfg0.N) (d : Fin 2048) (h : Fin 512) :
    iblk m c 2 t (ix3 0 d h) = m ((c : Thread nD τ).loc main_arg1) (ix3 1 d ⟨5632 + (t.val % 11 * 512 + h.val), by omega⟩) := by
  blk_simp [iblk, idx t]
  entry_read
  rw [e2]
  pointwise

/-- The result array: every entry the gated product. -/
theorem act_out (c : Dev nD) : (dats m 0 c).arrAt 3 cfg0.N = fun y : S16384x5632.Idx =>
    Cert.GateUp.act (m ((c : Thread nD τ).loc main_arg0)) (m ((c : Thread nD τ).loc main_arg1)) (y 0) (y 1) := by
  refine (dats m 0 c).arrAt_eq_of_covers 3 _ (by decide +kernel) fun t hf y => ?_
  blk_simp [idx t]
  rw [after0_3]
  unfold out0_3
  frame_out
  refine (congrArg (k0_pay1 (iblk m c 0 t) (iblk m c 1 t) (iblk m c 2 t)) (eq_ix2 y)).trans ((pay_at _ _ _ (y 0) (y 1)).trans ?_)
  refine (congrArg₂ Cert.GateUp.gated
    (Cert.Sums.dot_congr (k0 m c t (y 0)) (fun k => k1 m c t k (y 1)))
    (Cert.Sums.dot_congr (k0 m c t (y 0)) (fun k => k2 m c t k (y 1)))).trans ?_
  refine congrArg₂ (Cert.GateUp.act (m ((c : Thread nD τ).loc main_arg0)) (m ((c : Thread nD τ).loc main_arg1)))
    (x := ⟨t.val / 11 * 1024 + (y 0 : Fin 1024).val, by have := (idx t).2.2.2.2; have : (y 0 : Fin 1024).val < 1024 := (y 0).isLt; omega⟩)
    (y := ⟨t.val % 11 * 512 + (y 1 : Fin 512).val, by have : (y 1 : Fin 512).val < 512 := (y 1).isLt; omega⟩) (Fin.ext ?_) (Fin.ext ?_)
  all_goals blk_simp [idx t]

end Cert.KernelUpIdeal.Value

namespace Cert.GateUp

/-- The reference's frame: it declares no semaphore. -/
theorem frame_ref : Cert.quiescent_ReferenceUpIdeal := fun m ρ _ =>
  (θ_run Cert.ReferenceUpIdeal.defs _ _).mono (fun r h => ⟨fun c => (h c).2,
      Idealize.ShloMosaic.sem_eq_zero_of_no_sems (by decide) r.2⟩)
    (Cert.ReferenceUpIdeal.Value.run (F := Ideal) m ρ)

/-- Over the extended reals the call and the reference end with the same gated product. -/
theorem algebraic : Cert.algebraic_KernelUpIdeal_ReferenceUpIdeal := by
  intro m g m' g' _ hagree
  refine ⟨_, Cert.KernelUpIdeal.Value.run_blocks m g,
    (θ_run Cert.ReferenceUpIdeal.defs _ _).mono (fun r h c => ⟨(h c).1.trans ?_, (h c).2⟩)
      (Cert.ReferenceUpIdeal.Value.run m' g')⟩
  obtain ⟨e0, e1⟩ := hagree c
  refine Eq.trans ?_ (Cert.KernelUpIdeal.Value.act_out m c).symm
  rw [e0, e1]
  funext y
  obtain ⟨i, j, rfl⟩ : ∃ (i : Fin 16384) (j : Fin 5632), y = ix2 i j := ⟨y 0, y 1, eq_ix2 y⟩
  pointwise
  rfl

end Cert.GateUp
end
-- ==== Proof.Down.lean ====
module

public import proofs.«01_k».proof.Proof.Gen.KernelDownIdeal.Value
public import proofs.«01_k».proof.Proof.Gen.ReferenceDownIdeal.Run
public import Idealize.ShloMosaic.Lib.Pipeline.ReadBack
public import Idealize.ShloMosaic.Lib.Pipeline.ValueKit
public import Idealize.ShloMosaic.Lib.WholeRead
public import Idealize.ShloMosaic.Lib.IdealHost
public import Idealize.ShloMosaic.Lib.Claim
public import proofs.«01_k».proof.Proof.Sums
public import proofs.«01_k».proof.Defs
public import proofs.«01_k».proof.Proof.Gen.ReferenceDownIdeal

@[expose] public section
set_option backward.proofsInPublic true
set_option maxRecDepth 16384
noncomputable section
open Idealize.ShloMosaic Idealize.ShloMosaic.TcCoe Idealize.SL.Sem
open Idealize.ShloMosaic.Pipeline (Dat)

/-! # The feed-forward part from its gated product on

The call holds the whole of the last layer's down-projection and walks blocks of 256 tokens: the product, its norm, the
residual sum, and the norm with the scale of what follows. -/

namespace Cert.Down

/-- Token `n`'s product with the last layer's weights. -/
def lin (A : (⟨2, ![16384, 5632]⟩ : Shape).Idx → EReal) (W : (⟨3, ![2, 5632, 2048]⟩ : Shape).Idx → EReal)
    (n : Fin 16384) (j : Fin 2048) : EReal :=
  ∑ k : Fin 5632, A (ix2 n k) * W (ix3 1 k j)

/-- The residual stream of token `n` after it: the token and the normed product. -/
def resid (A : (⟨2, ![16384, 5632]⟩ : Shape).Idx → EReal) (W : (⟨3, ![2, 5632, 2048]⟩ : Shape).Idx → EReal)
    (X : (⟨2, ![16384, 2048]⟩ : Shape).Idx → EReal) (G : (⟨1, ![2048]⟩ : Shape).Idx → EReal) (n : Fin 16384) (j : Fin 2048) : EReal :=
  X (ix2 n j) + Cert.Sums.rms (lin A W n) (fun k => G (ix1 k)) j

/-- The norm of that row, for the layer's next part. -/
def next (A : (⟨2, ![16384, 5632]⟩ : Shape).Idx → EReal) (W : (⟨3, ![2, 5632, 2048]⟩ : Shape).Idx → EReal)
    (X : (⟨2, ![16384, 2048]⟩ : Shape).Idx → EReal) (G H : (⟨1, ![2048]⟩ : Shape).Idx → EReal) (n : Fin 16384) (j : Fin 2048) : EReal :=
  Cert.Sums.rms (resid A W X G n) (fun k => H (ix1 k)) j

end Cert.Down

namespace Cert.KernelDownIdeal.Value
open Cert.KernelDownIdeal Cert.KernelDownIdeal.Gen
variable (m : (ℓ : Loc nD τ sig) → Buf (Elt Ideal) ℓ)

/-- Which block each window holds at a grid point. -/
theorem idx : ∀ t : Fin cfg0.N, win0_0.index t = ![t.val, 0] ∧ win0_1.index t = ![1, 0, 0] ∧ win0_2.index t = ![t.val, 0]
    ∧ win0_3.index t = ![0, 0] ∧ win0_4.index t = ![0, 0] ∧ win0_5.index t = ![t.val, 0] ∧ win0_6.index t = ![t.val, 0] ∧ t.val < 64 :=
  (by decide +kernel : ∀ t : Fin grid0.N, _)

/-- What one block's computation leaves at an entry of the first result … -/
theorem pay_at (x : S256x2048.Idx → EReal) (a : S256x5632.Idx → EReal) (w : S1x5632x2048.Idx → EReal) (g : S1x2048.Idx → EReal) (i : Fin 256) (j : Fin 2048) :
    k0_pay1 (F := Ideal) x a w g (ix2 i j)
      = x (ix2 i j) + Cert.Sums.rms (fun j => ∑ k : Fin 5632, a (ix2 i k) * w (ix3 0 k j)) (fun k => g (ix2 0 k)) j := by
  pointwise [k0_pay1]
  rfl

/-- … and of the second. -/
theorem pay2_at (x : S256x2048.Idx → EReal) (a : S256x5632.Idx → EReal) (w : S1x5632x2048.Idx → EReal) (g : S1x2048.Idx → EReal) (h : S1x2048.Idx → EReal) (i : Fin 256) (j : Fin 2048) :
    k0_pay2 (F := Ideal) x a w g h (ix2 i j)
      = Cert.Sums.rms (fun j => k0_pay1 (F := Ideal) x a w g (ix2 i j)) (fun k => h (ix2 0 k)) j := by
  pointwise [k0_pay2]
  rfl

/-- The product's left operand. -/
theorem k0 (c : Dev nD) (t : Fin cfg0.N) (r : Fin 256) (d : Fin 5632) :
    iblk m c 0 t (ix2 r d) = m ((c : Thread nD τ).loc main_arg0) (ix2 ⟨t.val * 256 + r.val, by have := (idx t).2.2.2.2.2.2.2; omega⟩ d) := by
  blk_ext [iblk, V, idx t]
/-- The residual stream's rows. -/
theorem k2 (c : Dev nD) (t : Fin cfg0.N) (r : Fin 256) (d : Fin 2048) :
    iblk m c 2 t (ix2 r d) = m ((c : Thread nD τ).loc main_arg2) (ix2 ⟨t.val * 256 + r.val, by have := (idx t).2.2.2.2.2.2.2; omega⟩ d) := by
  blk_ext [iblk, V, idx t]

theorem e1 (t : Fin cfg0.N) (d : Fin 5632) (h : Fin 2048) :
    ((View.whole main_v0).slice (win0_1.rect t)).emb (ix3 0 d h) = ix3 1 d h := by
  blk_ext [idx t]
theorem e3 (t : Fin cfg0.N) (h : Fin 2048) : ((View.whole main_v1).slice (win0_3.rect t)).emb (ix2 0 h) = ix2 0 h := by
  blk_ext [idx t]
theorem e4 (t : Fin cfg0.N) (h : Fin 2048) : ((View.whole main_v2).slice (win0_4.rect t)).emb (ix2 0 h) = ix2 0 h := by
  blk_ext [idx t]
/-- The weights. -/
theorem k1 (c : Dev nD) (t : Fin cfg0.N) (d : Fin 5632) (h : Fin 2048) :
    iblk m c 1 t (ix3 0 d h) = m ((c : Thread nD τ).loc main_arg1) (ix3 1 d h) := by
  blk_simp [iblk, idx t]
  entry_read
  rw [e1]
  pointwise
/-- The first norm's scale. -/
theorem k3 (c : Dev nD) (t : Fin cfg0.N) (h : Fin 2048) :
    iblk m c 3 t (ix2 0 h) = m ((c : Thread nD τ).loc main_arg3) (ix1 h) := by
  blk_simp [iblk, idx t]
  entry_read
  rw [e3]
  pointwise
/-- The second norm's scale. -/
theorem k4 (c : Dev nD) (t : Fin cfg0.N) (h : Fin 2048) :
    iblk m c 4 t (ix2 0 h) = m ((c : Thread nD τ).loc main_arg4) (ix1 h) := by
  blk_simp [iblk, idx t]
  entry_read
  rw [e4]
  pointwise

/-- A row of the first result, at a grid point. -/
theorem row_at (c : Dev nD) (t : Fin cfg0.N) (i : Fin 256) (j : Fin 2048) :
    k0_pay1 (F := Ideal) (iblk m c 2 t) (iblk m c 0 t) (iblk m c 1 t) (iblk m c 3 t) (ix2 i j)
      = Cert.Down.resid (m ((c : Thread nD τ).loc main_arg0)) (m ((c : Thread nD τ).loc main_arg1)) (m ((c : Thread nD τ).loc main_arg2)) (m ((c : Thread nD τ).loc main_arg3)) ⟨t.val * 256 + i.val, by have := (idx t).2.2.2.2.2.2.2; omega⟩ j := by
  refine (pay_at _ _ _ _ i j).trans ?_
  exact congrArg₂ (fun u w : EReal => u + w) (k2 m c t i j)
    (congrArg₂ (fun v w => Cert.Sums.rms v w j)
      (funext fun j => Cert.Sums.dot_congr (k0 m c t i) (fun k => k1 m c t k j)) (funext fun k => k3 m c t k))

/-- The first result: the residual stream. -/
theorem resid_out (c : Dev nD) : (dats m 0 c).arrAt 5 cfg0.N = fun y : S16384x2048.Idx =>
    Cert.Down.resid (m ((c : Thread nD τ).loc main_arg0)) (m ((c : Thread nD τ).loc main_arg1)) (m ((c : Thread nD τ).loc main_arg2)) (m ((c : Thread nD τ).loc main_arg3)) (y 0) (y 1) := by
  refine (dats m 0 c).arrAt_eq_of_covers 5 _ (by decide +kernel) fun t hf y => ?_
  blk_simp [idx t]
  rw [after0_5]
  unfold out0_5
  frame_out
  refine (congrArg (k0_pay1 (iblk m c 2 t) (iblk m c 0 t) (iblk m c 1 t) (iblk m c 3 t)) (eq_ix2 y)).trans ((row_at m c t (y 0) (y 1)).trans ?_)
  refine congrArg₂ (Cert.Down.resid (m ((c : Thread nD τ).loc main_arg0)) (m ((c : Thread nD τ).loc main_arg1)) (m ((c : Thread nD τ).loc main_arg2)) (m ((c : Thread nD τ).loc main_arg3))) (Fin.ext ?_) (Fin.ext ?_)
  all_goals blk_simp [idx t]

/-- The second result: its norm. -/
theorem next_out (c : Dev nD) : (dats m 0 c).arrAt 6 cfg0.N = fun y : S16384x2048.Idx =>
    Cert.Down.next (m ((c : Thread nD τ).loc main_arg0)) (m ((c : Thread nD τ).loc main_arg1)) (m ((c : Thread nD τ).loc main_arg2)) (m ((c : Thread nD τ).loc main_arg3)) (m ((c : Thread nD τ).loc main_arg4)) (y 0) (y 1) := by
  refine (dats m 0 c).arrAt_eq_of_covers 6 _ (by decide +kernel) fun t hf y => ?_
  blk_simp [idx t]
  rw [after0_6]
  unfold out0_6
  frame_out
  refine (congrArg (k0_pay2 (iblk m c 2 t) (iblk m c 0 t) (iblk m c 1 t) (iblk m c 3 t) (iblk m c 4 t)) (eq_ix2 y)).trans ((pay2_at _ _ _ _ _ (y 0) (y 1)).trans ?_)
  refine (congrArg₂ (fun v w => Cert.Sums.rms v w (y 1)) (funext fun j => row_at m c t (y 0) j) (funext fun k => k4 m c t k)).trans ?_
  refine congrArg₂ (Cert.Down.next (m ((c : Thread nD τ).loc main_arg0)) (m ((c : Thread nD τ).loc main_arg1)) (m ((c : Thread nD τ).loc main_arg2)) (m ((c : Thread nD τ).loc main_arg3)) (m ((c : Thread nD τ).loc main_arg4))) (Fin.ext ?_) (Fin.ext ?_)
  all_goals blk_simp [idx t]

end Cert.KernelDownIdeal.Value

namespace Cert.Down

/-- The reference's frame: it declares no semaphore. -/
theorem frame_ref : Cert.quiescent_ReferenceDownIdeal := fun m ρ _ =>
  (θ_run Cert.ReferenceDownIdeal.defs _ _).mono (fun r h => ⟨fun c => (h c).2.2,
      Idealize.ShloMosaic.sem_eq_zero_of_no_sems (by decide) r.2⟩)
    (Cert.ReferenceDownIdeal.Value.run (F := Ideal) m ρ)

set_option maxHeartbeats 0 in
/-- Over the extended reals the call and the reference end with the same residual stream and the same norm of it. -/
theorem algebraic : Cert.algebraic_KernelDownIdeal_ReferenceDownIdeal := by
  intro m g m' g' _ hagree
  have hz : (id (constant (F := Ideal) Cert.ReferenceDownIdeal.S_ FTy.f32 0#32) ix0 : EReal) = 0 := Ideal.ofBits_zero_f32
  refine ⟨_, _, Cert.KernelDownIdeal.Value.run_blocks m g,
    (θ_run Cert.ReferenceDownIdeal.defs _ _).mono (fun r h c => ⟨(h c).1.trans ?_, (h c).2.1.trans ?_, (h c).2.2⟩)
      (Cert.ReferenceDownIdeal.Value.run m' g')⟩
  · obtain ⟨e0, e1, e2, e3, e4⟩ := hagree c
    refine Eq.trans ?_ (Cert.KernelDownIdeal.Value.resid_out m c).symm
    rw [e0, e1, e2, e3]
    funext y
    obtain ⟨i, j, rfl⟩ : ∃ (i : Fin 16384) (j : Fin 2048), y = ix2 i j := ⟨y 0, y 1, eq_ix2 y⟩
    pointwise
    rfl
  · obtain ⟨e0, e1, e2, e3, e4⟩ := hagree c
    refine Eq.trans ?_ (Cert.KernelDownIdeal.Value.next_out m c).symm
    unfold Cert.ReferenceDownIdeal.Value.res_main_v31
    rw [e0, e1, e2, e3, e4]
    funext y
    obtain ⟨i, j, rfl⟩ : ∃ (i : Fin 16384) (j : Fin 2048), y = ix2 i j := ⟨y 0, y 1, eq_ix2 y⟩
    pointwise
    rfl

end Cert.Down
end
-- ==== Proof.Proj.lean ====
module

public import proofs.«01_k».proof.Proof.Gen.KernelProjIdeal.Value
public import proofs.«01_k».proof.Proof.Gen.ReferenceProjIdeal.Run
public import Idealize.ShloMosaic.Lib.Pipeline.ReadBack
public import Idealize.ShloMosaic.Lib.Pipeline.ValueKit
public import Idealize.ShloMosaic.Lib.WholeRead
public import Idealize.ShloMosaic.Lib.IdealHost
public import Idealize.ShloMosaic.Lib.Claim
public import Idealize.ShloMosaic.Lib.StableHlo.RunRead
public import proofs.«01_k».proof.Proof.Sums
public import proofs.«01_k».proof.Defs
public import proofs.«01_k».proof.Proof.Gen.ReferenceProjIdeal

@[expose] public section
set_option backward.proofsInPublic true
set_option maxRecDepth 16384
noncomputable section
open Idealize.ShloMosaic Idealize.ShloMosaic.TcCoe Idealize.SL.Sem
open Idealize.ShloMosaic.Pipeline (Dat)

/-! # The plain part of the input projection

Of the projection's 13920 columns the call makes the last 9216: the merge's gates, then the short convolution's three parts.
The host code cuts them out of the weights and lays them side by side in that order; the call walks blocks of 1024 tokens by
1024 columns, each one whole product. -/

namespace Cert.Proj

/-- The column of the projection's weights that result column `j` is made with. -/
def col (j : Fin 9216) : Fin 13920 :=
  if h : j.val < 6144 then ⟨7776 + j.val, by have := j.isLt; omega⟩ else ⟨4704 + (j.val - 6144), by have := j.isLt; omega⟩

/-- Entry `j` of token `n`. -/
def proj (X : (⟨2, ![16384, 2048]⟩ : Shape).Idx → EReal) (W : (⟨2, ![2048, 13920]⟩ : Shape).Idx → EReal)
    (n : Fin 16384) (j : Fin 9216) : EReal :=
  ∑ k : Fin 2048, X (ix2 n k) * W (ix2 k (col j))

end Cert.Proj

namespace Cert.KernelProjIdeal.Value
open Cert.KernelProjIdeal Cert.KernelProjIdeal.Gen
variable (m : (ℓ : Loc nD τ sig) → Buf (Elt Ideal) ℓ)

/-- Which block each window holds at a grid point. -/
theorem idx : ∀ t : Fin cfg0.N, win0_0.index t = ![t.val / 9, 0] ∧ win0_1.index t = ![0, t.val % 9]
    ∧ win0_2.index t = ![t.val / 9, t.val % 9] ∧ t.val / 9 < 16 :=
  (by decide +kernel : ∀ t : Fin grid0.N, _)

/-- What one block's computation leaves at an entry. -/
theorem pay_at (a : S1024x2048.Idx → EReal) (b : S2048x1024.Idx → EReal) (i : Fin 1024) (j : Fin 1024) :
    k0_pay1 (F := Ideal) a b (ix2 i j) = ∑ k : Fin 2048, a (ix2 i k) * b (ix2 k j) := by
  pointwise [k0_pay1]

/-- The tokens' block. -/
theorem k0 (c : Dev nD) (t : Fin cfg0.N) (r : Fin 1024) (d : Fin 2048) :
    iblk m c 0 t (ix2 r d) = m ((c : Thread nD τ).loc main_arg0) (ix2 ⟨t.val / 9 * 1024 + r.val, by have := (idx t).2.2.2; omega⟩ d) := by
  blk_ext [iblk, V, idx t]

theorem e1 (t : Fin cfg0.N) (d : Fin 2048) (h : Fin 1024) :
    ((View.whole main_v23).slice (win0_1.rect t)).emb (ix2 d h) = ix2 d ⟨t.val % 9 * 1024 + h.val, by omega⟩ := by
  blk_ext [idx t]
set_option maxHeartbeats 2000000 in
/-- The weights the call is given: the four parts side by side. -/
theorem entry (c : Dev nD) : V m c main_v23 = truncf (F := Ideal) .bf16 (concatenate S2048x9216 1
    [⟨S2048x6144, extractStridedSlice S2048x6144 ![0, 7776] (m ((c : Thread nD τ).loc main_arg1)) slices_S2048x13920_S2048x6144_0_7776⟩,
     ⟨S2048x1024, extractStridedSlice S2048x1024 ![0, 4704] (m ((c : Thread nD τ).loc main_arg1)) slices_S2048x13920_S2048x1024_0_4704⟩,
     ⟨S2048x1024, extractStridedSlice S2048x1024 ![0, 5728] (m ((c : Thread nD τ).loc main_arg1)) slices_S2048x13920_S2048x1024_0_5728⟩,
     ⟨S2048x1024, extractStridedSlice S2048x1024 ![0, 6752] (m ((c : Thread nD τ).loc main_arg1)) slices_S2048x13920_S2048x1024_0_6752⟩]
    concatenates_S2048x6144_S2048x1024_S2048x1024_S2048x1024_S2048x9216_d1) bitsLt_bf16_f32 := by
  unfold V
  after_reads_simp
  rfl

/-- The weights' block: columns of the projection's weights. -/
theorem k1 (c : Dev nD) (t : Fin cfg0.N) (d : Fin 2048) (h : Fin 1024) :
    iblk m c 1 t (ix2 d h) = m ((c : Thread nD τ).loc main_arg1) (ix2 d (Cert.Proj.col ⟨t.val % 9 * 1024 + h.val, by omega⟩)) := by
  blk_simp [iblk, idx t]
  rw [entry, e1]
  generalize (⟨t.val % 9 * 1024 + h.val, by omega⟩ : Fin 9216) = j
  pointwise
  unfold Cert.Proj.col
  split_ifs <;> first | (exfalso; omega) | exact congrArg (fun a => m ((c : Thread nD τ).loc main_arg1) (ix2 d a)) (Fin.ext (by first | omega | (dsimp only; omega)))

/-- The result array: every entry the product. -/
theorem proj_out (c : Dev nD) : (dats m 0 c).arrAt 2 cfg0.N = fun y : S16384x9216.Idx =>
    Cert.Proj.proj (m ((c : Thread nD τ).loc main_arg0)) (m ((c : Thread nD τ).loc main_arg1)) (y 0) (y 1) := by
  refine (dats m 0 c).arrAt_eq_of_covers 2 _ (by decide +kernel) fun t hf y => ?_
  blk_simp [idx t]
  rw [after0_2]
  unfold out0_2
  frame_out
  refine (congrArg (k0_pay1 (iblk m c 0 t) (iblk m c 1 t)) (eq_ix2 y)).trans ((pay_at _ _ (y 0) (y 1)).trans ?_)
  refine (Cert.Sums.dot_congr (k0 m c t (y 0)) (fun k => k1 m c t k (y 1))).trans ?_
  refine congrArg₂ (Cert.Proj.proj (m ((c : Thread nD τ).loc main_arg0)) (m ((c : Thread nD τ).loc main_arg1)))
    (x := ⟨t.val / 9 * 1024 + (y 0 : Fin 1024).val, by have := (idx t).2.2.2; have : (y 0 : Fin 1024).val < 1024 := (y 0).isLt; omega⟩)
    (y := ⟨t.val % 9 * 1024 + (y 1 : Fin 1024).val, by have : (y 1 : Fin 1024).val < 1024 := (y 1).isLt; omega⟩) (Fin.ext ?_) (Fin.ext ?_)
  all_goals blk_simp [idx t]

end Cert.KernelProjIdeal.Value

namespace Cert.Proj

/-- The reference's frame: it declares no semaphore. -/
theorem frame_ref : Cert.quiescent_ReferenceProjIdeal := fun m ρ _ =>
  (θ_run Cert.ReferenceProjIdeal.defs _ _).mono (fun r h => ⟨fun c => (h c).2,
      Idealize.ShloMosaic.sem_eq_zero_of_no_sems (by decide) r.2⟩)
    (Cert.ReferenceProjIdeal.Value.run (F := Ideal) m ρ)

/-- Over the extended reals the call and the reference end with the same columns of the projection. -/
theorem algebraic : Cert.algebraic_KernelProjIdeal_ReferenceProjIdeal := by
  intro m g m' g' _ hagree
  refine ⟨_, Cert.KernelProjIdeal.Value.run_blocks m g,
    (θ_run Cert.ReferenceProjIdeal.defs _ _).mono (fun r h c => ⟨(h c).1.trans ?_, (h c).2⟩)
      (Cert.ReferenceProjIdeal.Value.run m' g')⟩
  obtain ⟨e0, e1⟩ := hagree c
  refine Eq.trans ?_ (Cert.KernelProjIdeal.Value.proj_out m c).symm
  rw [e0, e1]
  funext y
  obtain ⟨i, j, rfl⟩ : ∃ (i : Fin 16384) (j : Fin 9216), y = ix2 i j := ⟨y 0, y 1, eq_ix2 y⟩
  pointwise
  unfold proj col
  split_ifs <;> first | (exfalso; omega) | exact Cert.Sums.dot_congr (fun _ => rfl) fun k => congrArg (fun a => m ((c.tc : Thread Cert.KernelProjIdeal.nD Cert.KernelProjIdeal.τ).loc Cert.KernelProjIdeal.main_arg1) (ix2 k a)) (Fin.ext (by first | omega | (dsimp only; omega)))

end Cert.Proj
end
-- ==== Proof.Merge.lean ====
module

public import proofs.«01_k».proof.Proof.Gen.KernelMergeIdeal.Value
public import proofs.«01_k».proof.Proof.Gen.ReferenceMergeIdeal.Run
public import Idealize.ShloMosaic.Lib.Pipeline.ReadBack
public import Idealize.ShloMosaic.Lib.Pipeline.ValueKit
public import Idealize.ShloMosaic.Lib.WholeRead
public import Idealize.ShloMosaic.Lib.IdealHost
public import Idealize.ShloMosaic.Lib.Claim
public import proofs.«01_k».proof.Proof.Sums
public import proofs.«01_k».proof.Defs
public import proofs.«01_k».proof.Proof.Gen.ReferenceMergeIdeal

@[expose] public section
set_option backward.proofsInPublic true
set_option maxRecDepth 16384
noncomputable section
open Idealize.ShloMosaic Idealize.ShloMosaic.TcCoe Idealize.SL.Sem
open Idealize.ShloMosaic.Pipeline (Dat)

/-! # The merge of the mixer's three branches

The call walks blocks of 256 tokens and holds the three branches' weights whole: each branch's rows (the attention's are the
sum of its three parts) times the branch's weights, under the sigmoid of its gate, and the sum of the three. -/

namespace Cert.Merge

/-- The sigmoid. -/
def sig (g : EReal) : EReal := Ideal.div 1 (1 + Ideal.exp (-g))

/-- Entry `j` of a token whose branches are `a`, `b`, `d`, its gates `g0`, `g1`, `g2` and its weights `W`. -/
def merged (a b d : Fin 1024 → EReal) (W : Fin 3 → Fin 1024 → EReal) (g0 g1 g2 : EReal) : EReal :=
  sig g0 * (∑ k, a k * W 0 k) + sig g1 * (∑ k, b k * W 1 k) + sig g2 * ∑ k, d k * W 2 k

/-- Entry `j` of token `n`, from the arrays. -/
def merge (A1 A2 A3 B D : (⟨2, ![16384, 1024]⟩ : Shape).Idx → EReal) (W : (⟨4, ![2, 3, 1024, 2048]⟩ : Shape).Idx → EReal)
    (G : (⟨2, ![16384, 9216]⟩ : Shape).Idx → EReal) (n : Fin 16384) (j : Fin 2048) : EReal :=
  merged (fun k => A1 (ix2 n k) + A2 (ix2 n k) + A3 (ix2 n k)) (fun k => B (ix2 n k)) (fun k => D (ix2 n k))
    (fun i k => W (ix4 1 i k j)) (G (ix2 n ⟨j.val, by omega⟩)) (G (ix2 n ⟨2048 + j.val, by omega⟩)) (G (ix2 n ⟨4096 + j.val, by omega⟩))

/-- Equal operands merge alike. -/
theorem merged_congr {a a' b b' d d' : Fin 1024 → EReal} {W W' : Fin 3 → Fin 1024 → EReal} {g0 g0' g1 g1' g2 g2' : EReal}
    (ha : ∀ k, a k = a' k) (hb : ∀ k, b k = b' k) (hd : ∀ k, d k = d' k) (hW : ∀ i k, W i k = W' i k)
    (h0 : g0 = g0') (h1 : g1 = g1') (h2 : g2 = g2') : merged a b d W g0 g1 g2 = merged a' b' d' W' g0' g1' g2' := by
  rw [funext ha, funext hb, funext hd, funext fun i => funext (hW i), h0, h1, h2]

end Cert.Merge

namespace Cert.KernelMergeIdeal.Value
open Cert.KernelMergeIdeal Cert.KernelMergeIdeal.Gen
variable (m : (ℓ : Loc nD τ sig) → Buf (Elt Ideal) ℓ)

/-- Which block each window holds at a grid point. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![1, 0, 0, 0] ∧ win0_6.index t = ![t.val, 0]
    ∧ win0_7.index t = ![t.val, 1] ∧ win0_8.index t = ![t.val, 2] ∧ win0_9.index t = ![t.val, 0] ∧ t.val < 64 :=
  (by decide +kernel : ∀ t : Fin grid0.N, _)

/-- The token of a block's row. -/
def row (t : Fin cfg0.N) (r : Fin 256) : Fin 16384 := ⟨t.val * 256 + r.val, by have := (idx t).2.2.2.2.2.2.2.2.2.2; omega⟩

/-- What one block's computation leaves at an entry. -/
theorem pay_at (a1 a2 a3 b d : S256x1024.Idx → EReal) (w0 w1 w2 : S1x1x1024x2048.Idx → EReal) (g0 g1 g2 : S256x2048.Idx → EReal) (i : Fin 256) (j : Fin 2048) :
    k0_pay1 (F := Ideal) (k0_pay2 a1 a2 a3 g0 w0) (k0_pay3 g1) (k0_pay4 b) (k0_pay5 w1) (constant S256x2048 .f32 0x00000000#32) g2 d w2 (ix2 i j)
      = Cert.Merge.merged (fun k => a1 (ix2 i k) + a2 (ix2 i k) + a3 (ix2 i k)) (fun k => b (ix2 i k)) (fun k => d (ix2 i k))
          ![fun k => w0 (ix4 0 0 k j), fun k => w1 (ix4 0 0 k j), fun k => w2 (ix4 0 0 k j)] (g0 (ix2 i j)) (g1 (ix2 i j)) (g2 (ix2 i j)) := by
  pointwise [k0_pay1, k0_pay2, k0_pay3, k0_pay4, k0_pay5]
  simp only [sub_eq_add_neg, zero_add]
  rfl

/-- The first attention part's rows. -/
theorem k0 (c : Dev nD) (t : Fin cfg0.N) (r : Fin 256) (d : Fin 1024) :
    iblk m c 0 t (ix2 r d) = m ((c : Thread nD τ).loc main_arg0) (ix2 (row t r) d) := by
  blk_ext [iblk, V, row, idx t]
/-- The second's. -/
theorem k1 (c : Dev nD) (t : Fin cfg0.N) (r : Fin 256) (d : Fin 1024) :
    iblk m c 1 t (ix2 r d) = m ((c : Thread nD τ).loc main_arg1) (ix2 (row t r) d) := by
  blk_ext [iblk, V, row, idx t]
/-- The third's. -/
theorem k2 (c : Dev nD) (t : Fin cfg0.N) (r : Fin 256) (d : Fin 1024) :
    iblk m c 2 t (ix2 r d) = m ((c : Thread nD τ).loc main_arg2) (ix2 (row t r) d) := by
  blk_ext [iblk, V, row, idx t]
/-- The sparse attention's rows. -/
theorem k3 (c : Dev nD) (t : Fin cfg0.N) (r : Fin 256) (d : Fin 1024) :
    iblk m c 3 t (ix2 r d) = m ((c : Thread nD τ).loc main_arg3) (ix2 (row t r) d) := by
  blk_ext [iblk, V, row, idx t]
/-- The convolution's rows. -/
theorem k4 (c : Dev nD) (t : Fin cfg0.N) (r : Fin 256) (d : Fin 1024) :
    iblk m c 4 t (ix2 r d) = m ((c : Thread nD τ).loc main_arg4) (ix2 (row t r) d) := by
  blk_ext [iblk, V, row, idx t]
/-- Gate 0's columns, as the call finds them. -/
theorem k6 (c : Dev nD) (t : Fin cfg0.N) (r : Fin 256) (d : Fin 2048) :
    X0_6 m c t (ix2 r d) = m ((c : Thread nD τ).loc main_arg6) (ix2 (row t r) ⟨d.val, by omega⟩) := by
  unfold X0_6 Pipeline.Window.fill
  rw [dif_pos (moved0_6 t (ix2 r d))]
  blk_ext [iblk, V, row, idx t]
/-- Gate 1's columns, as the call finds them. -/
theorem k7 (c : Dev nD) (t : Fin cfg0.N) (r : Fin 256) (d : Fin 2048) :
    X0_7 m c t (ix2 r d) = m ((c : Thread nD τ).loc main_arg6) (ix2 (row t r) ⟨2048 + d.val, by omega⟩) := by
  unfold X0_7 Pipeline.Window.fill
  rw [dif_pos (moved0_7 t (ix2 r d))]
  blk_ext [iblk, V, row, idx t]
/-- Gate 2's columns, as the call finds them. -/
theorem k8 (c : Dev nD) (t : Fin cfg0.N) (r : Fin 256) (d : Fin 2048) :
    X0_8 m c t (ix2 r d) = m ((c : Thread nD τ).loc main_arg6) (ix2 (row t r) ⟨4096 + d.val, by omega⟩) := by
  unfold X0_8 Pipeline.Window.fill
  rw [dif_pos (moved0_8 t (ix2 r d))]
  blk_ext [iblk, V, row, idx t]

theorem e5 (t : Fin cfg0.N) (i : Fin 3) (d : Fin 1024) (h : Fin 2048) :
    ((View.whole main_v0).slice (win0_5.rect t)).emb (ix4 0 i d h) = ix4 1 i d h := by
  blk_ext [idx t]
/-- The weights. -/
theorem k5 (c : Dev nD) (t : Fin cfg0.N) (i : Fin 3) (d : Fin 1024) (h : Fin 2048) :
    iblk m c 5 t (ix4 0 i d h) = m ((c : Thread nD τ).loc main_arg5) (ix4 1 i d h) := by
  blk_simp [iblk, idx t]
  entry_read
  rw [e5]
  pointwise

/-- Branch 0's weights, as loaded from it. -/
theorem w0 (c : Dev nD) (t : Fin cfg0.N) (d : Fin 1024) (h : Fin 2048) :
    View.ld (Val := Elt Ideal) (S := S1x3x1024x2048) (e' := .bf16) (iblk m c 5 t) (Rect.unit ![0, 0, 0, 0] ![1, 1, 1024, 2048] inb_S1x3x1024x2048_S1x1x1024x2048_0_0_0_0) (ix4 0 0 d h)
      = m ((c : Thread nD τ).loc main_arg5) (ix4 1 0 d h) := by
  refine Eq.trans ?_ (k5 m c t 0 d h)
  pointwise
/-- Branch 1's weights, as loaded from it. -/
theorem w1 (c : Dev nD) (t : Fin cfg0.N) (d : Fin 1024) (h : Fin 2048) :
    View.ld (Val := Elt Ideal) (S := S1x3x1024x2048) (e' := .bf16) (iblk m c 5 t) (Rect.unit ![0, 1, 0, 0] ![1, 1, 1024, 2048] inb_S1x3x1024x2048_S1x1x1024x2048_0_1_0_0) (ix4 0 0 d h)
      = m ((c : Thread nD τ).loc main_arg5) (ix4 1 1 d h) := by
  refine Eq.trans ?_ (k5 m c t 1 d h)
  pointwise
/-- Branch 2's weights, as loaded from it. -/
theorem w2 (c : Dev nD) (t : Fin cfg0.N) (d : Fin 1024) (h : Fin 2048) :
    View.ld (Val := Elt Ideal) (S := S1x3x1024x2048) (e' := .bf16) (iblk m c 5 t) (Rect.unit ![0, 2, 0, 0] ![1, 1, 1024, 2048] inb_S1x3x1024x2048_S1x1x1024x2048_0_2_0_0) (ix4 0 0 d h)
      = m ((c : Thread nD τ).loc main_arg5) (ix4 1 2 d h) := by
  refine Eq.trans ?_ (k5 m c t 2 d h)
  pointwise

/-- The result array. -/
theorem merge_out (c : Dev nD) : (dats m 0 c).arrAt 9 cfg0.N = fun y : S16384x2048.Idx =>
    Cert.Merge.merge (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (y 0) (y 1) := by
  refine (dats m 0 c).arrAt_eq_of_covers 9 _ (by decide +kernel) fun t hf y => ?_
  blk_simp [idx t]
  rw [after0_9]
  unfold outsAt0 out0_A_9
  frame_out
  refine (congrArg (k0_pay1 (F := Ideal) (k0_pay2 (iblk m c 0 t) (iblk m c 1 t) (iblk m c 2 t) (X0_6 m c t) (View.ld (Val := Elt Ideal) (S := S1x3x1024x2048) (e' := .bf16) (iblk m c 5 t) (Rect.unit ![0, 0, 0, 0] ![1, 1, 1024, 2048] inb_S1x3x1024x2048_S1x1x1024x2048_0_0_0_0))) (k0_pay3 (X0_7 m c t))
    (k0_pay4 (iblk m c 3 t)) (k0_pay5 (View.ld (Val := Elt Ideal) (S := S1x3x1024x2048) (e' := .bf16) (iblk m c 5 t) (Rect.unit ![0, 1, 0, 0] ![1, 1, 1024, 2048] inb_S1x3x1024x2048_S1x1x1024x2048_0_1_0_0))) (constant S256x2048 .f32 0x00000000#32) (X0_8 m c t) (iblk m c 4 t) (View.ld (Val := Elt Ideal) (S := S1x3x1024x2048) (e' := .bf16) (iblk m c 5 t) (Rect.unit ![0, 2, 0, 0] ![1, 1, 1024, 2048] inb_S1x3x1024x2048_S1x1x1024x2048_0_2_0_0))) (eq_ix2 y)).trans
    ((pay_at _ _ _ _ _ _ _ _ _ _ _ (y 0) (y 1)).trans ?_)
  refine (Cert.Merge.merged_congr
    (fun k => congrArg₂ (fun u w : EReal => u + w) (congrArg₂ (fun u w : EReal => u + w) (k0 m c t (y 0) k) (k1 m c t (y 0) k)) (k2 m c t (y 0) k))
    (k3 m c t (y 0)) (k4 m c t (y 0))
    (W' := fun i k => m ((c : Thread nD τ).loc main_arg5) (ix4 1 i k (y 1)))
    (fun i k => by
      match i with
      | 0 => exact w0 m c t k (y 1)
      | 1 => exact w1 m c t k (y 1)
      | 2 => exact w2 m c t k (y 1))
    (k6 m c t (y 0) (y 1)) (k7 m c t (y 0) (y 1)) (k8 m c t (y 0) (y 1))).trans ?_
  refine congrArg₂ (Cert.Merge.merge (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) (x := row t (y 0)) (Fin.ext ?_) (Fin.ext ?_)
  all_goals blk_simp [row, idx t]

end Cert.KernelMergeIdeal.Value

namespace Cert.Merge

/-- The reference's frame: it declares no semaphore. -/
theorem frame_ref : Cert.quiescent_ReferenceMergeIdeal := fun m ρ _ =>
  (θ_run Cert.ReferenceMergeIdeal.defs _ _).mono (fun r h => ⟨fun c => (h c).2,
      Idealize.ShloMosaic.sem_eq_zero_of_no_sems (by decide) r.2⟩)
    (Cert.ReferenceMergeIdeal.Value.run (F := Ideal) m ρ)

/-- Over the extended reals the call and the reference end with the same merged rows. -/
theorem algebraic : Cert.algebraic_KernelMergeIdeal_ReferenceMergeIdeal := by
  intro m g m' g' _ hagree
  refine ⟨_, Cert.KernelMergeIdeal.Value.run_blocks m g,
    (θ_run Cert.ReferenceMergeIdeal.defs _ _).mono (fun r h c => ⟨(h c).1.trans ?_, (h c).2⟩)
      (Cert.ReferenceMergeIdeal.Value.run m' g')⟩
  clear h
  obtain ⟨e0, e1, e2, e3, e4, e5, e6⟩ := hagree c
  refine Eq.trans ?_ (Cert.KernelMergeIdeal.Value.merge_out m c).symm
  rw [e0, e1, e2, e3, e4, e5, e6]
  funext y
  obtain ⟨i, j, rfl⟩ : ∃ (i : Fin 16384) (j : Fin 2048), y = ix2 i j := ⟨y 0, y 1, eq_ix2 y⟩
  pointwise
  rfl

end Cert.Merge
end
-- ==== Proof.OutProj.lean ====
module

public import proofs.«01_k».proof.Proof.Gen.KernelOutIdeal.Value
public import proofs.«01_k».proof.Proof.Gen.ReferenceOutIdeal.Run
public import Idealize.ShloMosaic.Lib.Pipeline.ReadBack
public import Idealize.ShloMosaic.Lib.Pipeline.ValueKit
public import Idealize.ShloMosaic.Lib.WholeRead
public import Idealize.ShloMosaic.Lib.IdealHost
public import Idealize.ShloMosaic.Lib.Claim
public import proofs.«01_k».proof.Proof.Sums
public import proofs.«01_k».proof.Defs
public import proofs.«01_k».proof.Proof.Gen.ReferenceOutIdeal

@[expose] public section
set_option backward.proofsInPublic true
set_option maxRecDepth 16384
noncomputable section
open Idealize.ShloMosaic Idealize.ShloMosaic.TcCoe Idealize.SL.Sem
open Idealize.ShloMosaic.Pipeline (Dat)

/-! # The mixer's output projection

The call holds the whole of the last layer's output projection and walks blocks of 512 tokens: the product, its norm, the
residual sum, and the norm with the feed-forward part's scale. -/

namespace Cert.OutProj

/-- Token `n`'s product with the last layer's weights. -/
def lin (A : (⟨2, ![16384, 2048]⟩ : Shape).Idx → EReal) (W : (⟨3, ![2, 2048, 2048]⟩ : Shape).Idx → EReal)
    (n : Fin 16384) (j : Fin 2048) : EReal :=
  ∑ k : Fin 2048, A (ix2 n k) * W (ix3 1 k j)

/-- The residual stream of token `n` after it: the token and the normed product. -/
def resid (A : (⟨2, ![16384, 2048]⟩ : Shape).Idx → EReal) (W : (⟨3, ![2, 2048, 2048]⟩ : Shape).Idx → EReal)
    (X : (⟨2, ![16384, 2048]⟩ : Shape).Idx → EReal) (G : (⟨1, ![2048]⟩ : Shape).Idx → EReal) (n : Fin 16384) (j : Fin 2048) : EReal :=
  X (ix2 n j) + Cert.Sums.rms (lin A W n) (fun k => G (ix1 k)) j

/-- The norm of that row, for the layer's next part. -/
def next (A : (⟨2, ![16384, 2048]⟩ : Shape).Idx → EReal) (W : (⟨3, ![2, 2048, 2048]⟩ : Shape).Idx → EReal)
    (X : (⟨2, ![16384, 2048]⟩ : Shape).Idx → EReal) (G H : (⟨1, ![2048]⟩ : Shape).Idx → EReal) (n : Fin 16384) (j : Fin 2048) : EReal :=
  Cert.Sums.rms (resid A W X G n) (fun k => H (ix1 k)) j

end Cert.OutProj

namespace Cert.KernelOutIdeal.Value
open Cert.KernelOutIdeal Cert.KernelOutIdeal.Gen
variable (m : (ℓ : Loc nD τ sig) → Buf (Elt Ideal) ℓ)

/-- Which block each window holds at a grid point. -/
theorem idx : ∀ t : Fin cfg0.N, win0_0.index t = ![t.val, 0] ∧ win0_1.index t = ![1, 0, 0] ∧ win0_2.index t = ![t.val, 0]
    ∧ win0_3.index t = ![0, 0] ∧ win0_4.index t = ![0, 0] ∧ win0_5.index t = ![t.val, 0] ∧ win0_6.index t = ![t.val, 0] ∧ t.val < 32 :=
  (by decide +kernel : ∀ t : Fin grid0.N, _)

/-- What one block's computation leaves at an entry of the first result … -/
theorem pay_at (a : S512x2048.Idx → EReal) (w : S1x2048x2048.Idx → EReal) (x : S512x2048.Idx → EReal) (g : S1x2048.Idx → EReal) (i : Fin 512) (j : Fin 2048) :
    k0_pay1 (F := Ideal) a w x g (ix2 i j)
      = x (ix2 i j) + Cert.Sums.rms (fun j => ∑ k : Fin 2048, a (ix2 i k) * w (ix3 0 k j)) (fun k => g (ix2 0 k)) j := by
  pointwise [k0_pay1]
  rfl

/-- … and of the second. -/
theorem pay2_at (a : S512x2048.Idx → EReal) (w : S1x2048x2048.Idx → EReal) (x : S512x2048.Idx → EReal) (g : S1x2048.Idx → EReal) (h : S1x2048.Idx → EReal) (i : Fin 512) (j : Fin 2048) :
    k0_pay2 (F := Ideal) a w x g h (ix2 i j)
      = Cert.Sums.rms (fun j => k0_pay1 (F := Ideal) a w x g (ix2 i j)) (fun k => h (ix2 0 k)) j := by
  pointwise [k0_pay2]
  rfl

/-- The product's left operand. -/
theorem k0 (c : Dev nD) (t : Fin cfg0.N) (r : Fin 512) (d : Fin 2048) :
    iblk m c 0 t (ix2 r d) = m ((c : Thread nD τ).loc main_arg0) (ix2 ⟨t.val * 512 + r.val, by have := (idx t).2.2.2.2.2.2.2; omega⟩ d) := by
  blk_ext [iblk, V, idx t]
/-- The residual stream's rows. -/
theorem k2 (c : Dev nD) (t : Fin cfg0.N) (r : Fin 512) (d : Fin 2048) :
    iblk m c 2 t (ix2 r d) = m ((c : Thread nD τ).loc main_arg2) (ix2 ⟨t.val * 512 + r.val, by have := (idx t).2.2.2.2.2.2.2; omega⟩ d) := by
  blk_ext [iblk, V, idx t]

theorem e1 (t : Fin cfg0.N) (d : Fin 2048) (h : Fin 2048) :
    ((View.whole main_v0).slice (win0_1.rect t)).emb (ix3 0 d h) = ix3 1 d h := by
  blk_ext [idx t]
theorem e3 (t : Fin cfg0.N) (h : Fin 2048) : ((View.whole main_v1).slice (win0_3.rect t)).emb (ix2 0 h) = ix2 0 h := by
  blk_ext [idx t]
theorem e4 (t : Fin cfg0.N) (h : Fin 2048) : ((View.whole main_v2).slice (win0_4.rect t)).emb (ix2 0 h) = ix2 0 h := by
  blk_ext [idx t]
/-- The weights. -/
theorem k1 (c : Dev nD) (t : Fin cfg0.N) (d : Fin 2048) (h : Fin 2048) :
    iblk m c 1 t (ix3 0 d h) = m ((c : Thread nD τ).loc main_arg1) (ix3 1 d h) := by
  blk_simp [iblk, idx t]
  entry_read
  rw [e1]
  pointwise
/-- The first norm's scale. -/
theorem k3 (c : Dev nD) (t : Fin cfg0.N) (h : Fin 2048) :
    iblk m c 3 t (ix2 0 h) = m ((c : Thread nD τ).loc main_arg3) (ix1 h) := by
  blk_simp [iblk, idx t]
  entry_read
  rw [e3]
  pointwise
/-- The second norm's scale. -/
theorem k4 (c : Dev nD) (t : Fin cfg0.N) (h : Fin 2048) :
    iblk m c 4 t (ix2 0 h) = m ((c : Thread nD τ).loc main_arg4) (ix1 h) := by
  blk_simp [iblk, idx t]
  entry_read
  rw [e4]
  pointwise

/-- A row of the first result, at a grid point. -/
theorem row_at (c : Dev nD) (t : Fin cfg0.N) (i : Fin 512) (j : Fin 2048) :
    k0_pay1 (F := Ideal) (iblk m c 0 t) (iblk m c 1 t) (iblk m c 2 t) (iblk m c 3 t) (ix2 i j)
      = Cert.OutProj.resid (m ((c : Thread nD τ).loc main_arg0)) (m ((c : Thread nD τ).loc main_arg1)) (m ((c : Thread nD τ).loc main_arg2)) (m ((c : Thread nD τ).loc main_arg3)) ⟨t.val * 512 + i.val, by have := (idx t).2.2.2.2.2.2.2; omega⟩ j := by
  refine (pay_at _ _ _ _ i j).trans ?_
  exact congrArg₂ (fun u w : EReal => u + w) (k2 m c t i j)
    (congrArg₂ (fun v w => Cert.Sums.rms v w j)
      (funext fun j => Cert.Sums.dot_congr (k0 m c t i) (fun k => k1 m c t k j)) (funext fun k => k3 m c t k))

/-- The first result: the residual stream. -/
theorem resid_out (c : Dev nD) : (dats m 0 c).arrAt 5 cfg0.N = fun y : S16384x2048.Idx =>
    Cert.OutProj.resid (m ((c : Thread nD τ).loc main_arg0)) (m ((c : Thread nD τ).loc main_arg1)) (m ((c : Thread nD τ).loc main_arg2)) (m ((c : Thread nD τ).loc main_arg3)) (y 0) (y 1) := by
  refine (dats m 0 c).arrAt_eq_of_covers 5 _ (by decide +kernel) fun t hf y => ?_
  blk_simp [idx t]
  rw [after0_5]
  unfold out0_5
  frame_out
  refine (congrArg (k0_pay1 (iblk m c 0 t) (iblk m c 1 t) (iblk m c 2 t) (iblk m c 3 t)) (eq_ix2 y)).trans ((row_at m c t (y 0) (y 1)).trans ?_)
  refine congrArg₂ (Cert.OutProj.resid (m ((c : Thread nD τ).loc main_arg0)) (m ((c : Thread nD τ).loc main_arg1)) (m ((c : Thread nD τ).loc main_arg2)) (m ((c : Thread nD τ).loc main_arg3))) (Fin.ext ?_) (Fin.ext ?_)
  all_goals blk_simp [idx t]

/-- The second result: its norm. -/
theorem next_out (c : Dev nD) : (dats m 0 c).arrAt 6 cfg0.N = fun y : S16384x2048.Idx =>
    Cert.OutProj.next (m ((c : Thread nD τ).loc main_arg0)) (m ((c : Thread nD τ).loc main_arg1)) (m ((c : Thread nD τ).loc main_arg2)) (m ((c : Thread nD τ).loc main_arg3)) (m ((c : Thread nD τ).loc main_arg4)) (y 0) (y 1) := by
  refine (dats m 0 c).arrAt_eq_of_covers 6 _ (by decide +kernel) fun t hf y => ?_
  blk_simp [idx t]
  rw [after0_6]
  unfold out0_6
  frame_out
  refine (congrArg (k0_pay2 (iblk m c 0 t) (iblk m c 1 t) (iblk m c 2 t) (iblk m c 3 t) (iblk m c 4 t)) (eq_ix2 y)).trans ((pay2_at _ _ _ _ _ (y 0) (y 1)).trans ?_)
  refine (congrArg₂ (fun v w => Cert.Sums.rms v w (y 1)) (funext fun j => row_at m c t (y 0) j) (funext fun k => k4 m c t k)).trans ?_
  refine congrArg₂ (Cert.OutProj.next (m ((c : Thread nD τ).loc main_arg0)) (m ((c : Thread nD τ).loc main_arg1)) (m ((c : Thread nD τ).loc main_arg2)) (m ((c : Thread nD τ).loc main_arg3)) (m ((c : Thread nD τ).loc main_arg4))) (Fin.ext ?_) (Fin.ext ?_)
  all_goals blk_simp [idx t]

end Cert.KernelOutIdeal.Value

namespace Cert.OutProj

/-- The reference's frame: it declares no semaphore. -/
theorem frame_ref : Cert.quiescent_ReferenceOutIdeal := fun m ρ _ =>
  (θ_run Cert.ReferenceOutIdeal.defs _ _).mono (fun r h => ⟨fun c => (h c).2.2,
      Idealize.ShloMosaic.sem_eq_zero_of_no_sems (by decide) r.2⟩)
    (Cert.ReferenceOutIdeal.Value.run (F := Ideal) m ρ)

set_option maxHeartbeats 0 in
/-- Over the extended reals the call and the reference end with the same residual stream and the same norm of it. -/
theorem algebraic : Cert.algebraic_KernelOutIdeal_ReferenceOutIdeal := by
  intro m g m' g' _ hagree
  have hz : (id (constant (F := Ideal) Cert.ReferenceOutIdeal.S_ FTy.f32 0#32) ix0 : EReal) = 0 := Ideal.ofBits_zero_f32
  refine ⟨_, _, Cert.KernelOutIdeal.Value.run_blocks m g,
    (θ_run Cert.ReferenceOutIdeal.defs _ _).mono (fun r h c => ⟨(h c).1.trans ?_, (h c).2.1.trans ?_, (h c).2.2⟩)
      (Cert.ReferenceOutIdeal.Value.run m' g')⟩
  · obtain ⟨e0, e1, e2, e3, e4⟩ := hagree c
    refine Eq.trans ?_ (Cert.KernelOutIdeal.Value.resid_out m c).symm
    rw [e0, e1, e2, e3]
    funext y
    obtain ⟨i, j, rfl⟩ : ∃ (i : Fin 16384) (j : Fin 2048), y = ix2 i j := ⟨y 0, y 1, eq_ix2 y⟩
    pointwise
    rfl
  · obtain ⟨e0, e1, e2, e3, e4⟩ := hagree c
    refine Eq.trans ?_ (Cert.KernelOutIdeal.Value.next_out m c).symm
    unfold Cert.ReferenceOutIdeal.Value.res_main_v31
    rw [e0, e1, e2, e3, e4]
    funext y
    obtain ⟨i, j, rfl⟩ : ∃ (i : Fin 16384) (j : Fin 2048), y = ix2 i j := ⟨y 0, y 1, eq_ix2 y⟩
    pointwise
    rfl

end Cert.OutProj
end
-- ==== Proof.Conv.lean ====
module

public import proofs.«01_k».proof.Proof.Gen.KernelConvIdeal.Value
public import proofs.«01_k».proof.Proof.Gen.ReferenceConvIdeal.Run
public import Idealize.ShloMosaic.Lib.Pipeline.ReadBack
public import Idealize.ShloMosaic.Lib.Pipeline.ValueKit
public import Idealize.ShloMosaic.Lib.WholeRead
public import Idealize.ShloMosaic.Lib.IdealHost
public import Idealize.ShloMosaic.Lib.Claim
public import Idealize.ShloMosaic.Lib.WordCmp
public import proofs.«01_k».proof.Proof.Sums
public import proofs.«01_k».proof.Defs
public import proofs.«01_k».proof.Proof.Gen.ReferenceConvIdeal

@[expose] public section
set_option backward.proofsInPublic true
set_option maxRecDepth 16384
noncomputable section
open Idealize.ShloMosaic Idealize.ShloMosaic.TcCoe Idealize.SL.Sem
open Idealize.ShloMosaic.Pipeline (Dat)

/-! # The short convolution over the prompt

The call walks the 8 sequences by blocks of 256 channels, each block all 2048 positions: the gated input, the two shifts of it
by one and by two positions with zeros moved in at the start, the three taps, and the output gate. It also hands back the
last two gated inputs of each sequence, the state the next step continues from. -/

namespace Cert.Conv

/-- One output of the three taps `w` over the inputs `v` of a sequence, under the output gate `b`. -/
def taps (v : Fin 2048 → EReal) (w : Fin 3 → EReal) (b : EReal) (i : Fin 2048) : EReal :=
  b * (w 0 * (if 2 ≤ i.val then v ⟨i.val - 2, by omega⟩ else 0) + w 1 * (if 1 ≤ i.val then v ⟨i.val - 1, by omega⟩ else 0) + w 2 * v i)

/-- The row of position `p` of sequence `s`. -/
def tok (s : Fin 8) (p : Fin 2048) : Fin 16384 := ⟨s.val * 2048 + p.val, by omega⟩

/-- The gated input of channel `h` at position `p` of sequence `s`. -/
def gated (G : (⟨2, ![16384, 9216]⟩ : Shape).Idx → EReal) (s : Fin 8) (h : Fin 1024) (p : Fin 2048) : EReal :=
  G (ix2 (tok s p) ⟨8192 + h.val, by omega⟩) * G (ix2 (tok s p) ⟨6144 + h.val, by omega⟩)

/-- The convolution's output of channel `h` at position `p` of sequence `s`. -/
def conv (G : (⟨2, ![16384, 9216]⟩ : Shape).Idx → EReal) (W : (⟨3, ![2, 3, 1024]⟩ : Shape).Idx → EReal) (s : Fin 8) (p : Fin 2048) (h : Fin 1024) : EReal :=
  taps (gated G s h) (fun i => W (ix3 1 i h)) (G (ix2 (tok s p) ⟨7168 + h.val, by omega⟩)) p

/-- Equal operands give equal outputs. -/
theorem taps_congr {v v' : Fin 2048 → EReal} {w w' : Fin 3 → EReal} {b b' : EReal} (i : Fin 2048)
    (hv : ∀ k, v k = v' k) (hw : ∀ k, w k = w' k) (hb : b = b') : taps v w b i = taps v' w' b' i := by
  rw [funext hv, funext hw, hb]

/-- The same output as a sequence padded in front by two zeros gives it, each tap read at its offset. -/
theorem padded (X : (⟨2, ![16384, 9216]⟩ : Shape).Idx → EReal) (W : (⟨3, ![2, 3, 1024]⟩ : Shape).Idx → EReal) (i : Fin 16384) (j : Fin 1024) :
    X (ix2 i ⟨6144 + (1024 + j.val), by omega⟩) *
      (W (ix3 1 0 j) * (if h : i.val % 2048 < 2 then 0 else
          X (ix2 ⟨i.val / 2048 * 2048 + (i.val % 2048 - 2), by omega⟩ ⟨6144 + (2048 + j.val), by omega⟩)
            * X (ix2 ⟨i.val / 2048 * 2048 + (i.val % 2048 - 2), by omega⟩ ⟨6144 + j.val, by omega⟩))
        + W (ix3 1 1 j) * (if h : 1 + i.val % 2048 < 2 then 0 else
          X (ix2 ⟨i.val / 2048 * 2048 + (1 + i.val % 2048 - 2), by omega⟩ ⟨6144 + (2048 + j.val), by omega⟩)
            * X (ix2 ⟨i.val / 2048 * 2048 + (1 + i.val % 2048 - 2), by omega⟩ ⟨6144 + j.val, by omega⟩))
        + W (ix3 1 2 j) * (X (ix2 i ⟨6144 + (2048 + j.val), by omega⟩) * X (ix2 i ⟨6144 + j.val, by omega⟩)))
      = conv X W ⟨i.val / 2048, by omega⟩ ⟨i.val % 2048, by omega⟩ j := by
  unfold conv taps gated tok
  have G : ∀ {a a' : Fin 16384} {b b' : Fin 9216}, a.val = a'.val → b.val = b'.val → X (ix2 a b) = X (ix2 a' b') := by
    rintro ⟨_, _⟩ ⟨_, _⟩ ⟨_, _⟩ ⟨_, _⟩ h h'; dsimp only at h h'; subst h; subst h'; rfl
  refine congrArg₂ (fun u v : EReal => u * v) (G ?_ ?_) (congrArg₂ (fun u v : EReal => u + v) (congrArg₂ (fun u v : EReal => u + v)
    (congrArg₂ (fun u v : EReal => u * v) rfl ?_) (congrArg₂ (fun u v : EReal => u * v) rfl ?_))
    (congrArg₂ (fun u v : EReal => u * v) rfl (congrArg₂ (fun u v : EReal => u * v) (G ?_ ?_) (G ?_ rfl))))
  · dsimp only; omega
  · dsimp only; omega
  · by_cases h : i.val % 2048 < 2
    · rw [dif_pos h, if_neg (by dsimp only; omega)]
    · rw [dif_neg h, if_pos (by dsimp only; omega)]
      refine congrArg₂ (fun u v : EReal => u * v) (G ?_ ?_) (G ?_ rfl)
      all_goals first | rfl | (dsimp only; omega)
  · by_cases h : 1 + i.val % 2048 < 2
    · rw [dif_pos h, if_neg (by dsimp only; omega)]
    · rw [dif_neg h, if_pos (by dsimp only; omega)]
      refine congrArg₂ (fun u v : EReal => u * v) (G ?_ ?_) (G ?_ rfl)
      all_goals first | rfl | (dsimp only; omega)
  all_goals first | rfl | (dsimp only; omega)

end Cert.Conv

namespace Cert.KernelConvIdeal.Value
open Cert.KernelConvIdeal Cert.KernelConvIdeal.Gen
variable (m : (ℓ : Loc nD τ sig) → Buf (Elt Ideal) ℓ)

/-- Which block each window holds at a grid point. -/
theorem idx : ∀ t : Fin cfg0.N, win0_0.index t = ![t.val / 4, 24 + t.val % 4] ∧ win0_1.index t = ![t.val / 4, 28 + t.val % 4]
    ∧ win0_2.index t = ![t.val / 4, 32 + t.val % 4] ∧ win0_3.index t = ![0, t.val % 4] ∧ win0_4.index t = ![t.val / 4, t.val % 4]
    ∧ win0_5.index t = ![t.val / 4, 0, t.val % 4] ∧ t.val / 4 < 8 :=
  (by decide +kernel : ∀ t : Fin grid0.N, _)

/-- The sequence of a grid point. -/
def sq (t : Fin cfg0.N) : Fin 8 := ⟨t.val / 4, (idx t).2.2.2.2.2.2⟩
/-- The channel of a block's column. -/
def ch (t : Fin cfg0.N) (h : Fin 256) : Fin 1024 := ⟨t.val % 4 * 256 + h.val, by omega⟩

/-- A row mask picks its operand from row `k` on. -/
theorem mask (k : Nat) (hk : k < 2 ^ 31) (i : Fin 2048) (a : EReal) :
    Scalar.select (IntOp.cmpi CmpIPredicate.sge (BitVec.ofNat 32 i.val) (BitVec.ofNat 32 k)) a 0 = if k ≤ i.val then a else 0 := by
  rw [Idealize.ShloMosaic.WordCmp.cmpi_sge_ofNat (by have := i.isLt; omega) hk]
  by_cases h : k ≤ i.val
  · simp [h, Scalar.select]
  · simp [h, Scalar.select]

/-- Rows moved by `k` positions, where the mask lets them through. -/
theorem moved (f : Fin 2048 → EReal) (u : EReal) (k : Nat) (hk : k < 2048) (i : Fin 2048) :
    (if k ≤ i.val then u * f ⟨(i.val + 2048 - k) % 2048, by omega⟩ else 0) = u * if k ≤ i.val then f ⟨i.val - k, by omega⟩ else 0 := by
  by_cases h : k ≤ i.val
  · rw [if_pos h, if_pos h]
    exact congrArg (fun a => u * f a) (Fin.ext (by have := i.isLt; dsimp only; omega))
  · rw [if_neg h, if_neg h, mul_zero]

/-- What one block's computation leaves at an entry. -/
theorem pay_at (v0 v1 b : S2048x256.Idx → EReal) (w : S3x256.Idx → EReal) (i : Fin 2048) (j : Fin 256) :
    k0_pay2 (F := Ideal) v0 v1 w b (ix2 i j)
      = Cert.Conv.taps (fun p => v0 (ix2 p j) * v1 (ix2 p j)) (fun k => w (ix2 k j)) (b (ix2 i j)) i := by
  pointwise [k0_pay1, k0_pay2]
  unfold Cert.Conv.taps
  rw [mask 1 (by omega), mask 2 (by omega)]
  refine congrArg (fun a => b (ix2 i j) * a) (congrArg₂ (fun u v : EReal => u + v) (congrArg₂ (fun u v : EReal => u + v) ?_ ?_) rfl)
  · exact moved (fun p => v0 (ix2 p j) * v1 (ix2 p j)) (w (ix2 0 j)) 2 (by omega) i
  · exact moved (fun p => v0 (ix2 p j) * v1 (ix2 p j)) (w (ix2 1 j)) 1 (by omega) i

/-- What one block's computation leaves of the state. -/
theorem pay3_at (v0 v1 : S2048x256.Idx → EReal) (i : Fin 2) (j : Fin 256) :
    k0_pay3 (F := Ideal) v0 v1 (ix3 0 i j) = v0 (ix2 ⟨2046 + i.val, by omega⟩ j) * v1 (ix2 ⟨2046 + i.val, by omega⟩ j) := by
  pointwise [k0_pay1, k0_pay3]

/-- The first part's block. -/
theorem k0 (c : Dev nD) (t : Fin cfg0.N) (r : Fin 2048) (d : Fin 256) :
    iblk m c 0 t (ix2 r d) = m ((c : Thread nD τ).loc main_arg0) (ix2 (Cert.Conv.tok (sq t) r) ⟨6144 + (ch t d).val, by have := (ch t d).isLt; omega⟩) := by
  blk_ext [iblk, V, Cert.Conv.tok, sq, ch, idx t]
/-- The output gate's block. -/
theorem k1 (c : Dev nD) (t : Fin cfg0.N) (r : Fin 2048) (d : Fin 256) :
    iblk m c 1 t (ix2 r d) = m ((c : Thread nD τ).loc main_arg0) (ix2 (Cert.Conv.tok (sq t) r) ⟨7168 + (ch t d).val, by have := (ch t d).isLt; omega⟩) := by
  blk_ext [iblk, V, Cert.Conv.tok, sq, ch, idx t]
/-- The input gate's block. -/
theorem k2 (c : Dev nD) (t : Fin cfg0.N) (r : Fin 2048) (d : Fin 256) :
    iblk m c 2 t (ix2 r d) = m ((c : Thread nD τ).loc main_arg0) (ix2 (Cert.Conv.tok (sq t) r) ⟨8192 + (ch t d).val, by have := (ch t d).isLt; omega⟩) := by
  blk_ext [iblk, V, Cert.Conv.tok, sq, ch, idx t]

theorem e3 (t : Fin cfg0.N) (d : Fin 3) (h : Fin 256) :
    ((View.whole main_v1).slice (win0_3.rect t)).emb (ix2 d h) = ix2 d (ch t h) := by
  blk_ext [idx t, ch]
/-- The taps' block. -/
theorem k3 (c : Dev nD) (t : Fin cfg0.N) (d : Fin 3) (h : Fin 256) :
    iblk m c 3 t (ix2 d h) = m ((c : Thread nD τ).loc main_arg1) (ix3 1 d (ch t h)) := by
  blk_simp [iblk, idx t]
  entry_read
  rw [e3]
  pointwise

/-- The output array. -/
theorem conv_out (c : Dev nD) : (dats m 0 c).arrAt 4 cfg0.N = fun y : S16384x1024.Idx =>
    Cert.Conv.conv (m ((c : Thread nD τ).loc main_arg0)) (m ((c : Thread nD τ).loc main_arg1))
      ⟨(y 0 : Fin 16384).val / 2048, by have : (y 0 : Fin 16384).val < 16384 := (y 0).isLt; omega⟩ ⟨(y 0 : Fin 16384).val % 2048, by omega⟩ (y 1) := by
  refine (dats m 0 c).arrAt_eq_of_covers 4 _ (by decide +kernel) fun t hf y => ?_
  blk_simp [idx t]
  rw [after0_4]
  unfold out0_4
  frame_out
  refine (congrArg (k0_pay2 (F := Ideal) (iblk m c 2 t) (iblk m c 0 t) (iblk m c 3 t) (iblk m c 1 t)) (eq_ix2 y)).trans
    ((pay_at _ _ _ _ (y 0) (y 1)).trans ?_)
  refine (Cert.Conv.taps_congr (y 0)
    (fun k => congrArg₂ (fun u w : EReal => u * w) (k2 m c t k (y 1)) (k0 m c t k (y 1)))
    (fun k => k3 m c t k (y 1)) (k1 m c t (y 0) (y 1))).trans ?_
  have hy : (y 0 : Fin 2048).val < 2048 := (y 0).isLt
  have key : ∀ {s s' : Fin 8} {p p' : Fin 2048} {h h' : Fin 1024}, s = s' → p = p' → h = h' →
      Cert.Conv.conv (m ((c : Thread nD τ).loc main_arg0)) (m ((c : Thread nD τ).loc main_arg1)) s p h
        = Cert.Conv.conv (m ((c : Thread nD τ).loc main_arg0)) (m ((c : Thread nD τ).loc main_arg1)) s' p' h' := by
    rintro _ _ _ _ _ _ rfl rfl rfl; rfl
  refine key (s := sq t) (p := y 0) (h := ch t (y 1)) (Fin.ext ?_) (Fin.ext ?_) (Fin.ext ?_)
  · show t.val / 4 = (t.val / 4 * 2048 + (y 0 : Fin 2048).val) / 2048
    omega
  · show (y 0 : Fin 2048).val = (t.val / 4 * 2048 + (y 0 : Fin 2048).val) % 2048
    omega
  · blk_simp [ch, idx t]

/-- The state array. -/
theorem state_out (c : Dev nD) : (dats m 0 c).arrAt 5 cfg0.N = fun y : S8x2x1024.Idx =>
    Cert.Conv.gated (m ((c : Thread nD τ).loc main_arg0)) (y 0) (y 2) ⟨2046 + (y 1 : Fin 2).val, by have : (y 1 : Fin 2).val < 2 := (y 1).isLt; omega⟩ := by
  refine (dats m 0 c).arrAt_eq_of_covers 5 _ (by decide +kernel) fun t hf y => ?_
  blk_simp [idx t]
  rw [after0_5]
  unfold out0_5
  frame_out
  have e : y = ix3 0 (y 1) (y 2) := (eq_ix3 y).trans (congrArg (fun a => ix3 a (y 1) (y 2)) (Fin.ext (Nat.lt_one_iff.mp (y 0).isLt)))
  refine (congrArg (k0_pay3 (F := Ideal) (iblk m c 2 t) (iblk m c 0 t)) e).trans ((pay3_at _ _ (y 1) (y 2)).trans ?_)
  refine (congrArg₂ (fun u w : EReal => u * w) (k2 m c t _ (y 2)) (k0 m c t _ (y 2))).trans ?_
  have key : ∀ {s s' : Fin 8} {p p' : Fin 2048} {h h' : Fin 1024}, s = s' → h = h' → p = p' →
      Cert.Conv.gated (m ((c : Thread nD τ).loc main_arg0)) s h p
        = Cert.Conv.gated (m ((c : Thread nD τ).loc main_arg0)) s' h' p' := by
    rintro _ _ _ _ _ _ rfl rfl rfl; rfl
  refine key (s := sq t) (p := ⟨2046 + (y 1 : Fin 2).val, by have : (y 1 : Fin 2).val < 2 := (y 1).isLt; omega⟩) (h := ch t (y 2)) (Fin.ext ?_) (Fin.ext ?_) (Fin.ext ?_)
  all_goals blk_simp [sq, ch, idx t]

end Cert.KernelConvIdeal.Value

namespace Cert.Conv

/-- The reference's frame: it declares no semaphore. -/
theorem frame_ref : Cert.quiescent_ReferenceConvIdeal := fun m ρ _ =>
  (θ_run Cert.ReferenceConvIdeal.defs _ _).mono (fun r h => ⟨fun c => (h c).2.2,
      Idealize.ShloMosaic.sem_eq_zero_of_no_sems (by decide) r.2⟩)
    (Cert.ReferenceConvIdeal.Value.run (F := Ideal) m ρ)

/-- Over the extended reals the call and the reference end with the same outputs and the same state. -/
theorem algebraic : Cert.algebraic_KernelConvIdeal_ReferenceConvIdeal := by
  intro m g m' g' _ hagree
  refine ⟨_, _, Cert.KernelConvIdeal.Value.run_blocks m g,
    (θ_run Cert.ReferenceConvIdeal.defs _ _).mono (fun r h c => ⟨(h c).1.trans ?_, (h c).2.1.trans ?_, (h c).2.2⟩)
      (Cert.ReferenceConvIdeal.Value.run m' g')⟩
  · clear h
    obtain ⟨e0, e1⟩ := hagree c
    refine Eq.trans ?_ (Cert.KernelConvIdeal.Value.conv_out m c).symm
    unfold Cert.ReferenceConvIdeal.Value.res_main_v32
    rw [e0, e1]
    funext y
    obtain ⟨i, j, rfl⟩ : ∃ (i : Fin 16384) (j : Fin 1024), y = ix2 i j := ⟨y 0, y 1, eq_ix2 y⟩
    pointwise
    exact padded _ _ i j
  · clear h
    obtain ⟨e0, e1⟩ := hagree c
    refine Eq.trans ?_ (Cert.KernelConvIdeal.Value.state_out m c).symm
    rw [e0]
    funext y
    obtain ⟨i, k, j, rfl⟩ : ∃ (i : Fin 8) (k : Fin 2) (j : Fin 1024), y = ix3 i k j := ⟨y 0, y 1, y 2, eq_ix3 y⟩
    pointwise
    unfold gated tok
    rw [dif_neg (by omega)]
    refine congrArg₂ (fun u v : EReal => u * v) (congrArg₂ (fun a b => m ((c.tc : Thread Cert.KernelConvIdeal.nD Cert.KernelConvIdeal.τ).loc Cert.KernelConvIdeal.main_arg0) (ix2 a b)) (Fin.ext ?_) (Fin.ext ?_))
      (congrArg₂ (fun a b => m ((c.tc : Thread Cert.KernelConvIdeal.nD Cert.KernelConvIdeal.τ).loc Cert.KernelConvIdeal.main_arg0) (ix2 a b)) (Fin.ext ?_) rfl)
    all_goals first | rfl | (dsimp only; omega)

end Cert.Conv
end
-- ==== Proof.Query.lean ====
module

public import proofs.«01_k».proof.Proof.Gen.KernelQueryIdeal.Value
public import proofs.«01_k».proof.Proof.Gen.ReferenceQueryIdeal.Run
public import Idealize.ShloMosaic.Lib.Pipeline.ReadBack
public import Idealize.ShloMosaic.Lib.Pipeline.ValueKit
public import Idealize.ShloMosaic.Lib.WholeRead
public import Idealize.ShloMosaic.Lib.IdealHost
public import Idealize.ShloMosaic.Lib.Claim
public import proofs.«01_k».proof.Proof.Sums
public import Idealize.ShloMosaic.Lib.StableHlo.RunRead
public import proofs.«01_k».proof.Defs
public import proofs.«01_k».proof.Proof.Gen.ReferenceQueryIdeal

@[expose] public section
set_option backward.proofsInPublic true
set_option maxRecDepth 16384
noncomputable section
open Idealize.ShloMosaic Idealize.ShloMosaic.TcCoe Idealize.SL.Sem
open Idealize.ShloMosaic.Pipeline (Dat)

/-! # The query projection with its rotation

The call makes 2048 of the projection's 13920 columns, the queries of the compressed, selected and window branches and those
of the indexer-selected one, eight heads of 128 lanes each, and rotates the first 32 lanes of every head by the token's
position: lane `l < 16` and lane `l + 16` turn together by the position times the `l`-th frequency. The kernel walks blocks
of 1024 tokens by one group of eight heads. It turns the lanes of a whole head round by 16 either way and adds the three
parts under tables of 128 lanes, which hold one and zero where nothing turns. -/

namespace Cert.Query

/-- The column of the projection's weights that result column `e` is made with. -/
def col (e : Nat) : Fin 13920 := ⟨(if e < 1024 then e else 1560 + e) % 13920, by omega⟩

/-- Column `e` of token `n`, before the rotation. -/
def lane (X : (⟨2, ![16384, 2048]⟩ : Shape).Idx → EReal) (W : (⟨2, ![2048, 13920]⟩ : Shape).Idx → EReal)
    (n : Fin 16384) (e : Nat) : EReal :=
  ∑ k : Fin 2048, X (ix2 n k) * W (ix2 k (col e))

/-- The angle of the `i`-th frequency at position `p`. -/
def angle (p i : Nat) : EReal :=
  FloatOps.sitofp (F := Ideal) FTy.f32 (BitVec.ofNat 32 p) * Ideal.exp (FloatOps.sitofp (F := Ideal) FTy.f32 (BitVec.ofNat 32 i) * Ideal.ofBits FTy.f32 3209819443#32)

/-- Lane `l` of a head whose lanes hold `f`, at position `p`, rotated. -/
def rot (f : Nat → EReal) (p l : Nat) : EReal :=
  if l < 16 then f l * Ideal.cos (angle p l) - f (l + 16) * Ideal.sin (angle p l)
  else if l < 32 then f l * Ideal.cos (angle p (l - 16)) + f (l - 16) * Ideal.sin (angle p (l - 16))
  else f l

/-- Column `e` of token `n`, rotated. -/
def query (X : (⟨2, ![16384, 2048]⟩ : Shape).Idx → EReal) (W : (⟨2, ![2048, 13920]⟩ : Shape).Idx → EReal)
    (n : Fin 16384) (e : Fin 2048) : EReal :=
  rot (fun l => lane X W n (e.val / 128 * 128 + l)) (n.val % 2048) (e.val % 128)

/-- The cosine's table. -/
def tabC (p l : Nat) : EReal := if l < 32 then Ideal.cos (angle p (l % 16)) else 1
/-- The table of the lanes from above. -/
def tabA (p l : Nat) : EReal := if l < 16 then -Ideal.sin (angle p (l % 16)) else 0
/-- The table of the lanes from below. -/
def tabB (p l : Nat) : EReal := if 16 ≤ l ∧ l < 32 then Ideal.sin (angle p (l % 16)) else 0

/-- A sum over the tokens' entries is a column, when its weights' column is that one's. -/
theorem lane_of (X : (⟨2, ![16384, 2048]⟩ : Shape).Idx → EReal) (W : (⟨2, ![2048, 13920]⟩ : Shape).Idx → EReal) (n : Fin 16384)
    (c : Fin 13920) (e : Nat) (h : c.val = if e < 1024 then e else 1560 + e) : (∑ k : Fin 2048, X (ix2 n k) * W (ix2 k c)) = lane X W n e := by
  unfold lane
  have hc : c = col e := Fin.ext (h.trans (Nat.mod_eq_of_lt (h ▸ c.isLt)).symm)
  rw [hc]

/-- The rotated lane from its parts, below 16. -/
theorem low {f : Nat → EReal} {u v : EReal} {p i l : Nat} (h : l < 16) (hu : u = f l) (hv : v = f (l + 16)) (hi : i = l) :
    u * Ideal.cos (angle p i) - v * Ideal.sin (angle p i) = rot f p l := by
  unfold rot
  rw [if_pos h, hu, hv, hi]

/-- The rotated lane from its parts, from 16 to 31. -/
theorem high {f : Nat → EReal} {u v : EReal} {p i l : Nat} (h : ¬ l < 16) (h' : l < 32) (hu : u = f l) (hv : v = f (l - 16)) (hi : i = l - 16) :
    u * Ideal.cos (angle p i) + v * Ideal.sin (angle p i) = rot f p l := by
  unfold rot
  rw [if_neg h, if_pos h', hu, hv, hi]

/-- The lane as it was, from 32 on. -/
theorem rest {f : Nat → EReal} {u : EReal} {p l : Nat} (h : ¬ l < 32) (hu : u = f l) : u = rot f p l := by
  unfold rot
  rw [if_neg (by omega), if_neg h, hu]

/-- The three parts under their tables are the rotated lane. -/
theorem parts (f : Nat → EReal) (p l : Nat) (hl : l < 128) :
    f l * tabC p l + f ((l + 128 - 112) % 128) * tabA p l + f ((l + 128 - 16) % 128) * tabB p l = rot f p l := by
  unfold tabC tabA tabB rot
  by_cases h0 : l < 16
  · rw [if_pos (by omega), if_pos h0, if_neg (by omega), if_pos h0, show (l + 128 - 112) % 128 = l + 16 by omega, show l % 16 = l by omega,
      mul_zero, add_zero, mul_neg, sub_eq_add_neg]
  · by_cases h1 : l < 32
    · rw [if_pos h1, if_neg h0, if_pos (by omega), if_neg h0, if_pos h1, show (l + 128 - 16) % 128 = l - 16 by omega,
        show l % 16 = l - 16 by omega, mul_zero, add_zero]
    · rw [if_neg h1, if_neg h0, if_neg (by omega), if_neg h0, if_neg h1, mul_zero, mul_zero, mul_one, add_zero, add_zero]

end Cert.Query

namespace Cert.KernelQueryIdeal.Value
open Cert.KernelQueryIdeal Cert.KernelQueryIdeal.Gen Idealize.ShloMosaic.StableHlo
variable (m : (ℓ : Loc nD τ sig) → Buf (Elt Ideal) ℓ)

/-- Which block each window holds at a grid point. -/
theorem idx : ∀ t : Fin cfg0.N, win0_0.index t = ![t.val / 2, 0] ∧ win0_1.index t = ![0, t.val % 2]
    ∧ win0_2.index t = ![t.val / 2 % 2, 0] ∧ win0_3.index t = ![t.val / 2 % 2, 0] ∧ win0_4.index t = ![t.val / 2 % 2, 0]
    ∧ win0_5.index t = ![t.val / 2, t.val % 2] ∧ t.val / 2 < 16 :=
  (by decide +kernel : ∀ t : Fin grid0.N, _)

/-! ## The tables -/

/-- A lane's place in the literals. -/
theorem row (l : Fin 128) : S128.rowMajor (ix1 l) = l :=
  Fin.ext ((by decide +kernel : ∀ l : Fin 128, (S128.rowMajor (ix1 l)).val = l.val) l)
/-- The literal of the lanes' frequencies. -/
theorem lit2_at : ∀ l : Fin 128, lit2 l = BitVec.ofNat 32 (l.val % 16) := by decide +kernel
/-- The literal of the lanes below 16. -/
theorem lit0_at : ∀ l : Fin 128, lit0 l = (if l.val < 16 then 1#1 else 0#1) := by decide +kernel
/-- The literal of the lanes from 16 to 31. -/
theorem lit1_at : ∀ l : Fin 128, lit1 l = (if 16 ≤ l.val ∧ l.val < 32 then 1#1 else 0#1) := by decide +kernel

/-- The angles the host code makes. -/
def ang : FVec Ideal S2048x16 .f32 :=
  mulf (broadcastInDim S2048x16 ![0, 1] bcast_S2048x1_S2048x16_0_1
      (broadcastInDim S2048x1 ![0] bcast_S2048_S2048x1_0 (sitofp FTy.f32 (iotaInDim S2048 32 0))))
    (broadcastInDim S2048x16 ![0, 1] bcast_S1x16_S2048x16_0_1 (broadcastInDim S1x16 ![1] bcast_S16_S1x16_1
      (Host.exp (mulf (sitofp FTy.f32 (iotaInDim S16 32 0)) (broadcastInDim S16 ![] bcast_S_S16 (constant S_ FTy.f32 3209819443#32))))))

/-- The frequency of every lane. -/
def freq : IVec S128x1 32 :=
  broadcastInDim S128x1 ![0] bcast_S128_S128x1_0 (select (constantI S128 1 0#1)
    (addi (fun i => lit2 (S128.rowMajor i)) (broadcastInDim S128 ![] bcast_S_S128 (constantI S_ 32 16#32))) fun i => lit2 (S128.rowMajor i))

/-- A table: `x` where the mask holds, the constant elsewhere. -/
def tab (mask : IVec S1x128 1) (x : FVec Ideal S2048x128 .f32) (k : BitVec 32) : FVec Ideal S2048x128 .f32 :=
  select (broadcastInDim S2048x128 ![0, 1] bcast_S1x128_S2048x128_0_1 mask) x (broadcastInDim S2048x128 ![] bcast_S_S2048x128 (constant S_ FTy.f32 k))

/-- Entry `(p, i)` of the angles. -/
theorem ang_at (p : Fin 2048) (i : Fin 16) : ang (ix2 p i) = Cert.Query.angle p i := by
  unfold Cert.Query.angle
  pointwise [ang]

/-- The frequency of lane `l` is the one of `l` modulo 16. -/
theorem freq_at (l : Fin 128) : freq (ix2 l 0) = BitVec.ofNat 32 (l.val % 16) := by
  pointwise [freq]
  rw [row, lit2_at]

/-- A gather of columns reads the column its index names. -/
theorem gather_at (x : FVec Ideal S2048x16 .f32) (p : Fin 2048) (l : Fin 128) :
    Host.gather gather_S2048x16_S128x1_S2048x128_0_1_n_n_1_1_20481 x freq (ix2 p l) = x (ix2 p ⟨l.val % 16, by omega⟩) := by
  unfold Host.gather
  refine congrArg x (funext fun a => Fin.ext ?_)
  match a with
  | ⟨0, _⟩ =>
    show gather_S2048x16_S128x1_S2048x128_0_1_n_n_1_1_20481.start (ix2 p l) freq 0 + gather_S2048x16_S128x1_S2048x128_0_1_n_n_1_1_20481.batchCoord (ix2 p l) 0
      + gather_S2048x16_S128x1_S2048x128_0_1_n_n_1_1_20481.offCoord (ix2 p l) 0 = p.val
    rw [GatherDims.batchCoord_eq_zero _ _ _ List.not_mem_nil]
    unfold GatherDims.start GatherDims.offCoord
    rw [dif_neg (by decide), dif_pos (by decide)]
    show 0 + 0 + p.val = p.val
    omega
  | ⟨1, _⟩ =>
    show gather_S2048x16_S128x1_S2048x128_0_1_n_n_1_1_20481.start (ix2 p l) freq 1 + gather_S2048x16_S128x1_S2048x128_0_1_n_n_1_1_20481.batchCoord (ix2 p l) 1
      + gather_S2048x16_S128x1_S2048x128_0_1_n_n_1_1_20481.offCoord (ix2 p l) 1 = l.val % 16
    rw [GatherDims.batchCoord_eq_zero _ _ _ List.not_mem_nil, GatherDims.offCoord_eq_zero _ _ _ (by decide)]
    unfold GatherDims.start
    rw [dif_pos (by decide)]
    have hs : gather_S2048x16_S128x1_S2048x128_0_1_n_n_1_1_20481.siIdx (ix2 p l)
        ⟨List.idxOf (1 : Fin 2) gather_S2048x16_S128x1_S2048x128_0_1_n_n_1_1_20481.startIndexMap, List.idxOf_lt_length_iff.2 (List.mem_singleton.mpr rfl)⟩ = ix2 l (0 : Fin 1) := by
      funext b; refine Fin.ext ?_
      match b with
      | ⟨0, _⟩ => rfl
      | ⟨1, _⟩ => rfl
    rw [hs, freq_at]
    show min (BitVec.ofNat 32 (l.val % 16)).toInt.toNat 15 + 0 + 0 = l.val % 16
    have : ∀ l : Fin 128, min (BitVec.ofNat 32 (l.val % 16)).toInt.toNat 15 + 0 + 0 = l.val % 16 := by decide +kernel
    exact this l

set_option maxHeartbeats 4000000 in
/-- The first table, as the host code makes it. -/
theorem tab2_eq (c : Dev nD) : V m c main_v21 = tab (ori (broadcastInDim S1x128 ![1] bcast_S128_S1x128_1 fun i => lit0 (S128.rowMajor i))
    (broadcastInDim S1x128 ![1] bcast_S128_S1x128_1 fun i => lit1 (S128.rowMajor i)))
    (Host.gather gather_S2048x16_S128x1_S2048x128_0_1_n_n_1_1_20481 (Host.cos ang) freq) 1065353216#32 := by
  unfold V
  after_reads_simp
  rfl
set_option maxHeartbeats 4000000 in
/-- The second table, as the host code makes it. -/
theorem tab3_eq (c : Dev nD) : V m c main_v28 = tab (broadcastInDim S1x128 ![1] bcast_S128_S1x128_1 fun i => lit0 (S128.rowMajor i))
    (Host.negf (Host.gather gather_S2048x16_S128x1_S2048x128_0_1_n_n_1_1_20481 (Host.sin ang) freq)) 0#32 := by
  unfold V
  after_reads_simp
  rfl
set_option maxHeartbeats 4000000 in
/-- The third table, as the host code makes it. -/
theorem tab4_eq (c : Dev nD) : V m c main_v34 = tab (broadcastInDim S1x128 ![1] bcast_S128_S1x128_1 fun i => lit1 (S128.rowMajor i))
    (Host.gather gather_S2048x16_S128x1_S2048x128_0_1_n_n_1_1_20481 (Host.sin ang) freq) 0#32 := by
  unfold V
  after_reads_simp
  rfl

/-- The first table's entries: the cosine on the lanes that turn, one elsewhere. -/
theorem tab2_at (c : Dev nD) (p : Fin 2048) (l : Fin 128) : V m c main_v21 (ix2 p l) = Cert.Query.tabC p l := by
  rw [tab2_eq]
  have hg := gather_at (Host.cos ang) p l
  revert hg
  generalize Host.gather gather_S2048x16_S128x1_S2048x128_0_1_n_n_1_1_20481 (Host.cos ang) freq = g
  intro hg
  pointwise [tab]
  rw [row, lit0_at, lit1_at, hg]
  have e : Host.cos ang (ix2 p ⟨l.val % 16, by omega⟩) = Ideal.cos (Cert.Query.angle p (l.val % 16)) :=
    congrArg Ideal.cos (ang_at p ⟨l.val % 16, by omega⟩)
  rw [e]
  unfold Cert.Query.tabC
  split_ifs <;> first | rfl | (exfalso; omega)
/-- The second table's entries. -/
theorem tab3_at (c : Dev nD) (p : Fin 2048) (l : Fin 128) : V m c main_v28 (ix2 p l) = Cert.Query.tabA p l := by
  rw [tab3_eq]
  have hg := gather_at (Host.sin ang) p l
  revert hg
  generalize Host.gather gather_S2048x16_S128x1_S2048x128_0_1_n_n_1_1_20481 (Host.sin ang) freq = g
  intro hg
  pointwise [tab]
  rw [row, lit0_at, hg]
  have e : Host.sin ang (ix2 p ⟨l.val % 16, by omega⟩) = Ideal.sin (Cert.Query.angle p (l.val % 16)) :=
    congrArg Ideal.sin (ang_at p ⟨l.val % 16, by omega⟩)
  rw [e]
  unfold Cert.Query.tabA
  split_ifs <;> rfl
/-- The third table's entries. -/
theorem tab4_at (c : Dev nD) (p : Fin 2048) (l : Fin 128) : V m c main_v34 (ix2 p l) = Cert.Query.tabB p l := by
  rw [tab4_eq]
  have hg := gather_at (Host.sin ang) p l
  revert hg
  generalize Host.gather gather_S2048x16_S128x1_S2048x128_0_1_n_n_1_1_20481 (Host.sin ang) freq = g
  intro hg
  pointwise [tab]
  rw [row, lit1_at, hg]
  have e : Host.sin ang (ix2 p ⟨l.val % 16, by omega⟩) = Ideal.sin (Cert.Query.angle p (l.val % 16)) :=
    congrArg Ideal.sin (ang_at p ⟨l.val % 16, by omega⟩)
  rw [e]
  unfold Cert.Query.tabB
  split_ifs <;> rfl

/-! ## The blocks -/

/-- The weights the call is given: the two groups of columns side by side. -/
theorem entry (c : Dev nD) : V m c main_v50 = truncf (F := Ideal) .bf16 (concatenate S2048x2048 1
    [⟨S2048x1024, extractStridedSlice S2048x1024 ![0, 0] (m ((c : Thread nD τ).loc main_arg1)) slices_S2048x13920_S2048x1024_0_0⟩,
     ⟨S2048x1024, extractStridedSlice S2048x1024 ![0, 2584] (m ((c : Thread nD τ).loc main_arg1)) slices_S2048x13920_S2048x1024_0_2584⟩]
    concatenates_S2048x1024_S2048x1024_S2048x2048_d1) bitsLt_bf16_f32 := by
  unfold V
  after_reads_simp
  rfl
/-- The tokens' block. -/
theorem k0 (c : Dev nD) (t : Fin cfg0.N) (r : Fin 1024) (d : Fin 2048) :
    iblk m c 0 t (ix2 r d) = m ((c : Thread nD τ).loc main_arg0) (ix2 ⟨t.val / 2 * 1024 + r.val, by have := (idx t).2.2.2.2.2.2; omega⟩ d) := by
  blk_ext [iblk, V, idx t]

/-- Where an entry of the weights' block lies. -/
theorem e1 (t : Fin cfg0.N) (d : Fin 2048) (h : Fin 1024) :
    ((View.whole main_v50).slice (win0_1.rect t)).emb (ix2 d h) = ix2 d ⟨t.val % 2 * 1024 + h.val, by omega⟩ := by
  blk_ext [idx t]
/-- Where an entry of the first table's block lies. -/
theorem e2 (t : Fin cfg0.N) (r : Fin 1024) (l : Fin 128) :
    ((View.whole main_v21).slice (win0_2.rect t)).emb (ix2 r l) = ix2 ⟨t.val / 2 % 2 * 1024 + r.val, by omega⟩ l := by
  blk_ext [idx t]
/-- The same for the second table. -/
theorem e3 (t : Fin cfg0.N) (r : Fin 1024) (l : Fin 128) :
    ((View.whole main_v28).slice (win0_3.rect t)).emb (ix2 r l) = ix2 ⟨t.val / 2 % 2 * 1024 + r.val, by omega⟩ l := by
  blk_ext [idx t]
/-- The same for the third table. -/
theorem e4 (t : Fin cfg0.N) (r : Fin 1024) (l : Fin 128) :
    ((View.whole main_v34).slice (win0_4.rect t)).emb (ix2 r l) = ix2 ⟨t.val / 2 % 2 * 1024 + r.val, by omega⟩ l := by
  blk_ext [idx t]
/-- The weights' block: columns of the projection's weights. -/
theorem k1 (c : Dev nD) (t : Fin cfg0.N) (d : Fin 2048) (h : Fin 1024) :
    iblk m c 1 t (ix2 d h) = m ((c : Thread nD τ).loc main_arg1) (ix2 d (Cert.Query.col (t.val % 2 * 1024 + h.val))) := by
  blk_simp [iblk, idx t]
  rw [entry, e1]
  show _ = m ((c : Thread nD τ).loc main_arg1) (ix2 d (Cert.Query.col (⟨t.val % 2 * 1024 + h.val, by omega⟩ : Fin 2048).val))
  generalize (⟨t.val % 2 * 1024 + h.val, by omega⟩ : Fin 2048) = j
  pointwise
  unfold Cert.Query.col
  split_ifs <;> exact congrArg (fun a => m ((c : Thread nD τ).loc main_arg1) (ix2 d a)) (Fin.ext (by dsimp only; omega))
/-- The tables' blocks: rows by the token's position. -/
theorem k2 (c : Dev nD) (t : Fin cfg0.N) (r : Fin 1024) (l : Fin 128) :
    iblk m c 2 t (ix2 r l) = Cert.Query.tabC (t.val / 2 % 2 * 1024 + r.val) l := by
  blk_simp [iblk, idx t]
  rw [e2]
  exact tab2_at m c _ l
/-- The second table's block. -/
theorem k3 (c : Dev nD) (t : Fin cfg0.N) (r : Fin 1024) (l : Fin 128) :
    iblk m c 3 t (ix2 r l) = Cert.Query.tabA (t.val / 2 % 2 * 1024 + r.val) l := by
  blk_simp [iblk, idx t]
  rw [e3]
  exact tab3_at m c _ l
/-- The third table's block. -/
theorem k4 (c : Dev nD) (t : Fin cfg0.N) (r : Fin 1024) (l : Fin 128) :
    iblk m c 4 t (ix2 r l) = Cert.Query.tabB (t.val / 2 % 2 * 1024 + r.val) l := by
  blk_simp [iblk, idx t]
  rw [e4]
  exact tab4_at m c _ l

/-! ## The eight heads of a block -/

/-- A column of a block's product. -/
def col (x : Vec Ideal S1024x2048 .bf16) (w : Vec Ideal S2048x1024 .bf16) (r e : Fin 1024) : EReal := ∑ k : Fin 2048, x (ix2 r k) * w (ix2 k e)

/-- What the first store leaves at an entry. -/
theorem pay6_at (x : Vec Ideal S1024x2048 .bf16) (w : Vec Ideal S2048x1024 .bf16) (a b d : Vec Ideal S1024x128 .f32) (r : Fin 1024) (l : Fin 128) :
    k0_pay6 x w a b d (ix2 r l) = col x w r ⟨l.val, by omega⟩ * a (ix2 r l) + col x w r ⟨(l.val + 128 - 112) % 128, by omega⟩ * b (ix2 r l)
      + col x w r ⟨(l.val + 128 - 16) % 128, by omega⟩ * d (ix2 r l) := by
  unfold col
  pointwise [k0_pay6, k0_pay2, k0_pay3, k0_pay4, k0_pay5]
/-- What the second store leaves at an entry. -/
theorem pay7_at (x : Vec Ideal S1024x2048 .bf16) (w : Vec Ideal S2048x1024 .bf16) (a b d : Vec Ideal S1024x128 .f32) (r : Fin 1024) (l : Fin 128) :
    k0_pay7 x w a b d (ix2 r l) = col x w r ⟨128 + l.val, by omega⟩ * a (ix2 r l) + col x w r ⟨128 + (l.val + 128 - 112) % 128, by omega⟩ * b (ix2 r l)
      + col x w r ⟨128 + (l.val + 128 - 16) % 128, by omega⟩ * d (ix2 r l) := by
  unfold col
  pointwise [k0_pay7, k0_pay2, k0_pay3, k0_pay4, k0_pay5]
/-- What the third store leaves at an entry. -/
theorem pay11_at (x : Vec Ideal S1024x2048 .bf16) (w : Vec Ideal S2048x1024 .bf16) (a b d : Vec Ideal S1024x128 .f32) (r : Fin 1024) (l : Fin 128) :
    k0_pay11 (k0_pay9 x w a b) (k0_pay10 x w d) (ix2 r l) = col x w r ⟨256 + l.val, by omega⟩ * a (ix2 r l) + col x w r ⟨256 + (l.val + 128 - 112) % 128, by omega⟩ * b (ix2 r l)
      + col x w r ⟨256 + (l.val + 128 - 16) % 128, by omega⟩ * d (ix2 r l) := by
  unfold col
  pointwise [k0_pay11, k0_pay9, k0_pay10, k0_pay8, k0_pay2, k0_pay3, k0_pay4, k0_pay5]
/-- What the fourth store leaves at an entry. -/
theorem pay12_at (x : Vec Ideal S1024x2048 .bf16) (w : Vec Ideal S2048x1024 .bf16) (a b d : Vec Ideal S1024x128 .f32) (r : Fin 1024) (l : Fin 128) :
    k0_pay12 (k0_pay2 x w) (k0_pay3 a) (k0_pay4 b) (k0_pay5 d) (ix2 r l) = col x w r ⟨384 + l.val, by omega⟩ * a (ix2 r l) + col x w r ⟨384 + (l.val + 128 - 112) % 128, by omega⟩ * b (ix2 r l)
      + col x w r ⟨384 + (l.val + 128 - 16) % 128, by omega⟩ * d (ix2 r l) := by
  unfold col
  pointwise [k0_pay12, k0_pay2, k0_pay3, k0_pay4, k0_pay5]
/-- What the fifth store leaves at an entry. -/
theorem pay13_at (x : Vec Ideal S1024x2048 .bf16) (w : Vec Ideal S2048x1024 .bf16) (a b d : Vec Ideal S1024x128 .f32) (r : Fin 1024) (l : Fin 128) :
    k0_pay13 (k0_pay2 x w) (k0_pay3 a) (k0_pay4 b) (k0_pay5 d) (ix2 r l) = col x w r ⟨512 + l.val, by omega⟩ * a (ix2 r l) + col x w r ⟨512 + (l.val + 128 - 112) % 128, by omega⟩ * b (ix2 r l)
      + col x w r ⟨512 + (l.val + 128 - 16) % 128, by omega⟩ * d (ix2 r l) := by
  unfold col
  pointwise [k0_pay13, k0_pay2, k0_pay3, k0_pay4, k0_pay5]
/-- What the sixth store leaves at an entry. -/
theorem pay14_at (x : Vec Ideal S1024x2048 .bf16) (w : Vec Ideal S2048x1024 .bf16) (a b d : Vec Ideal S1024x128 .f32) (r : Fin 1024) (l : Fin 128) :
    k0_pay14 (k0_pay2 x w) (k0_pay3 a) (k0_pay4 b) (k0_pay5 d) (ix2 r l) = col x w r ⟨640 + l.val, by omega⟩ * a (ix2 r l) + col x w r ⟨640 + (l.val + 128 - 112) % 128, by omega⟩ * b (ix2 r l)
      + col x w r ⟨640 + (l.val + 128 - 16) % 128, by omega⟩ * d (ix2 r l) := by
  unfold col
  pointwise [k0_pay14, k0_pay2, k0_pay3, k0_pay4, k0_pay5]
/-- What the seventh store leaves at an entry. -/
theorem pay15_at (x : Vec Ideal S1024x2048 .bf16) (w : Vec Ideal S2048x1024 .bf16) (a b d : Vec Ideal S1024x128 .f32) (r : Fin 1024) (l : Fin 128) :
    k0_pay15 (k0_pay2 x w) (k0_pay3 a) (k0_pay4 b) (k0_pay5 d) (ix2 r l) = col x w r ⟨768 + l.val, by omega⟩ * a (ix2 r l) + col x w r ⟨768 + (l.val + 128 - 112) % 128, by omega⟩ * b (ix2 r l)
      + col x w r ⟨768 + (l.val + 128 - 16) % 128, by omega⟩ * d (ix2 r l) := by
  unfold col
  pointwise [k0_pay15, k0_pay2, k0_pay3, k0_pay4, k0_pay5]
/-- What the eighth store leaves at an entry. -/
theorem pay1_at (x : Vec Ideal S1024x2048 .bf16) (w : Vec Ideal S2048x1024 .bf16) (a b d : Vec Ideal S1024x128 .f32) (r : Fin 1024) (l : Fin 128) :
    k0_pay1 (k0_pay2 x w) (k0_pay3 a) (k0_pay4 b) (k0_pay5 d) (ix2 r l) = col x w r ⟨896 + l.val, by omega⟩ * a (ix2 r l) + col x w r ⟨896 + (l.val + 128 - 112) % 128, by omega⟩ * b (ix2 r l)
      + col x w r ⟨896 + (l.val + 128 - 16) % 128, by omega⟩ * d (ix2 r l) := by
  unfold col
  pointwise [k0_pay1, k0_pay2, k0_pay3, k0_pay4, k0_pay5]

/-- Three columns of a head, under the tables, are the rotated column. -/
theorem head (c : Dev nD) (t : Fin cfg0.N) (r : Fin 1024) (l : Fin 128) (q : Nat) (hq : q < 8) (e0 e1 e2 : Fin 1024)
    (h0 : e0.val = q * 128 + l.val) (h1 : e1.val = q * 128 + (l.val + 128 - 112) % 128) (h2 : e2.val = q * 128 + (l.val + 128 - 16) % 128)
    (n : Fin 16384) (j : Fin 2048) (hn : n.val = t.val / 2 * 1024 + r.val) (hj : j.val = t.val % 2 * 1024 + (q * 128 + l.val)) :
    col (iblk m c 0 t) (iblk m c 1 t) r e0 * iblk m c 2 t (ix2 r l) + col (iblk m c 0 t) (iblk m c 1 t) r e1 * iblk m c 3 t (ix2 r l)
      + col (iblk m c 0 t) (iblk m c 1 t) r e2 * iblk m c 4 t (ix2 r l)
      = Cert.Query.query (m ((c : Thread nD τ).loc main_arg0)) (m ((c : Thread nD τ).loc main_arg1)) n j := by
  have hc : ∀ (e : Fin 1024) (z : Nat), e.val = q * 128 + z → z < 128 → col (iblk m c 0 t) (iblk m c 1 t) r e
      = Cert.Query.lane (m ((c : Thread nD τ).loc main_arg0)) (m ((c : Thread nD τ).loc main_arg1)) n (j.val / 128 * 128 + z) := fun e z he hz => by
    unfold col Cert.Query.lane
    refine Finset.sum_congr rfl fun k _ => ?_
    rw [k0, k1]
    refine congrArg₂ (fun u w : EReal => u * w) (congrArg (fun a => m ((c : Thread nD τ).loc main_arg0) (ix2 a k)) (Fin.ext hn.symm)) ?_
    exact congrArg (fun a => m ((c : Thread nD τ).loc main_arg1) (ix2 k (Cert.Query.col a))) (by rw [he]; omega)
  rw [hc e0 _ h0 l.isLt, hc e1 _ h1 (by omega), hc e2 _ h2 (by omega), k2, k3, k4]
  unfold Cert.Query.query
  rw [show n.val % 2048 = t.val / 2 % 2 * 1024 + r.val by omega, show j.val % 128 = l.val by omega]
  exact Cert.Query.parts (fun z => Cert.Query.lane (m ((c : Thread nD τ).loc main_arg0)) (m ((c : Thread nD τ).loc main_arg1)) n (j.val / 128 * 128 + z)) _ _ l.isLt

/-- The row of an entry of the result's block. -/
theorem place0 (t : Fin cfg0.N) (y : ((cfg0.win 5).xblock (cfg0.grid.coords t)).Idx) (r : Fin 1024) (h : (y 0).val = r.val) :
    ((win0_5.blk t).view.emb y 0).val = t.val / 2 * 1024 + r.val := by
  blk_simp [idx t]
  omega
/-- The same for the column. -/
theorem place1 (t : Fin cfg0.N) (y : ((cfg0.win 5).xblock (cfg0.grid.coords t)).Idx) (e : Nat) (h : (y 1).val = e) :
    ((win0_5.blk t).view.emb y 1).val = t.val % 2 * 1024 + e := by
  blk_simp [idx t]
  omega

set_option maxHeartbeats 4000000 in
/-- The result array: every entry a rotated column of the projection. -/
theorem query_out (c : Dev nD) : (dats m 0 c).arrAt 5 cfg0.N = fun y : S16384x2048.Idx =>
    Cert.Query.query (m ((c : Thread nD τ).loc main_arg0)) (m ((c : Thread nD τ).loc main_arg1)) (y 0) (y 1) := by
  refine (dats m 0 c).arrAt_eq_of_covers 5 _ (by decide +kernel) fun t hf y => ?_
  blk_simp [idx t]
  rw [after0_5]
  unfold_out out0_5
  canon_tiles x h using cover0_5 ..
  all_goals (obtain ⟨r, l, rfl⟩ : ∃ (r : Fin 1024) (l : Fin 128), x = ix2 r l := ⟨x 0, x 1, eq_ix2 x⟩)
  all_goals simp (disch := decide) only [View.ld_unit_lit']
  · rw [pay1_at]
    exact head m c t r l 7 (by omega) _ _ _ rfl rfl rfl _ _ (place0 t y r h0) (place1 t y _ h1)
  · rw [pay15_at]
    exact head m c t r l 6 (by omega) _ _ _ rfl rfl rfl _ _ (place0 t y r h0) (place1 t y _ h1)
  · rw [pay14_at]
    exact head m c t r l 5 (by omega) _ _ _ rfl rfl rfl _ _ (place0 t y r h0) (place1 t y _ h1)
  · rw [pay13_at]
    exact head m c t r l 4 (by omega) _ _ _ rfl rfl rfl _ _ (place0 t y r h0) (place1 t y _ h1)
  · rw [pay12_at]
    exact head m c t r l 3 (by omega) _ _ _ rfl rfl rfl _ _ (place0 t y r h0) (place1 t y _ h1)
  · rw [pay11_at]
    exact head m c t r l 2 (by omega) _ _ _ rfl rfl rfl _ _ (place0 t y r h0) (place1 t y _ h1)
  · rw [pay7_at]
    exact head m c t r l 1 (by omega) _ _ _ rfl rfl rfl _ _ (place0 t y r h0) (place1 t y _ h1)
  · rw [pay6_at]
    exact head m c t r l 0 (by omega) _ _ _ (Nat.zero_add _).symm (Nat.zero_add _).symm (Nat.zero_add _).symm _ _ (place0 t y r h0) (place1 t y _ (h1.trans (Nat.zero_add _).symm))
end Cert.KernelQueryIdeal.Value

namespace Cert.Query

/-- The reference's frame: it declares no semaphore. -/
theorem frame_ref : Cert.quiescent_ReferenceQueryIdeal := fun m ρ _ =>
  (θ_run Cert.ReferenceQueryIdeal.defs _ _).mono (fun r h => ⟨fun c => (h c).2,
      Idealize.ShloMosaic.sem_eq_zero_of_no_sems (by decide) r.2⟩)
    (Cert.ReferenceQueryIdeal.Value.run (F := Ideal) m ρ)

set_option maxHeartbeats 4000000 in
/-- Over the extended reals the call and the reference end with the same rotated queries. -/
theorem algebraic : Cert.algebraic_KernelQueryIdeal_ReferenceQueryIdeal := by
  intro m g m' g' _ hagree
  refine ⟨_, Cert.KernelQueryIdeal.Value.run_blocks m g,
    (θ_run Cert.ReferenceQueryIdeal.defs _ _).mono (fun r h c => ⟨(h c).1.trans ?_, (h c).2⟩)
      (Cert.ReferenceQueryIdeal.Value.run m' g')⟩
  obtain ⟨e0, e1⟩ := hagree c
  refine Eq.trans ?_ (Cert.KernelQueryIdeal.Value.query_out m c).symm
  unfold Cert.ReferenceQueryIdeal.Value.res_main_v66
  rw [e0, e1]
  funext y
  obtain ⟨i, j, rfl⟩ : ∃ (i : Fin 16384) (j : Fin 2048), y = ix2 i j := ⟨y 0, y 1, eq_ix2 y⟩
  pointwise
  unfold query
  by_cases h : j.val < 1024
  · rw [dif_pos h]
    by_cases h0 : j.val % 128 < 16
    · rw [dif_pos h0]
      exact low (by omega) (lane_of _ _ _ _ _ (by dsimp only; split_ifs <;> omega)) (lane_of _ _ _ _ _ (by dsimp only; split_ifs <;> omega)) (by omega)
    · rw [dif_neg h0]
      by_cases h1 : j.val % 128 - 16 < 16
      · rw [dif_pos h1]
        exact high (by omega) (by omega) (lane_of _ _ _ _ _ (by dsimp only; split_ifs <;> omega)) (lane_of _ _ _ _ _ (by dsimp only; split_ifs <;> omega)) (by omega)
      · rw [dif_neg h1]
        exact rest (by omega) (lane_of _ _ _ _ _ (by dsimp only; split_ifs <;> omega))
  · rw [dif_neg h]
    by_cases h0 : (j.val - 1024) % 128 < 16
    · rw [dif_pos h0]
      exact low (by omega) (lane_of _ _ _ _ _ (by dsimp only; split_ifs <;> omega)) (lane_of _ _ _ _ _ (by dsimp only; split_ifs <;> omega)) (by omega)
    · rw [dif_neg h0]
      by_cases h1 : (j.val - 1024) % 128 - 16 < 16
      · rw [dif_pos h1]
        exact high (by omega) (by omega) (lane_of _ _ _ _ _ (by dsimp only; split_ifs <;> omega)) (lane_of _ _ _ _ _ (by dsimp only; split_ifs <;> omega)) (by omega)
      · rw [dif_neg h1]
        exact rest (by omega) (lane_of _ _ _ _ _ (by dsimp only; split_ifs <;> omega))

end Cert.Query
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Value
public import proofs.«01_k».proof.Proof.Gen.ReferenceIdeal.Run
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelUp
public import proofs.«01_k».proof.Proof.Gen.KernelUp.Frame
public import proofs.«01_k».proof.Proof.Gen.KernelUpIdeal
public import proofs.«01_k».proof.Proof.Gen.KernelUpIdeal.Value
public import proofs.«01_k».proof.Proof.Gen.ReferenceUpIdeal
public import proofs.«01_k».proof.Proof.Gen.ReferenceUpIdeal.Run
public import proofs.«01_k».proof.Proof.Gen.KernelDown
public import proofs.«01_k».proof.Proof.Gen.KernelDown.Frame
public import proofs.«01_k».proof.Proof.Gen.KernelDownIdeal
public import proofs.«01_k».proof.Proof.Gen.KernelDownIdeal.Value
public import proofs.«01_k».proof.Proof.Gen.ReferenceDownIdeal
public import proofs.«01_k».proof.Proof.Gen.ReferenceDownIdeal.Run
public import proofs.«01_k».proof.Proof.Gen.KernelProj
public import proofs.«01_k».proof.Proof.Gen.KernelProj.Frame
public import proofs.«01_k».proof.Proof.Gen.KernelProjIdeal
public import proofs.«01_k».proof.Proof.Gen.KernelProjIdeal.Value
public import proofs.«01_k».proof.Proof.Gen.ReferenceProjIdeal
public import proofs.«01_k».proof.Proof.Gen.ReferenceProjIdeal.Run
public import proofs.«01_k».proof.Proof.Gen.KernelMerge
public import proofs.«01_k».proof.Proof.Gen.KernelMerge.Frame
public import proofs.«01_k».proof.Proof.Gen.KernelMergeIdeal
public import proofs.«01_k».proof.Proof.Gen.KernelMergeIdeal.Value
public import proofs.«01_k».proof.Proof.Gen.ReferenceMergeIdeal
public import proofs.«01_k».proof.Proof.Gen.ReferenceMergeIdeal.Run
public import proofs.«01_k».proof.Proof.Gen.KernelOut
public import proofs.«01_k».proof.Proof.Gen.KernelOut.Frame
public import proofs.«01_k».proof.Proof.Gen.KernelOutIdeal
public import proofs.«01_k».proof.Proof.Gen.KernelOutIdeal.Value
public import proofs.«01_k».proof.Proof.Gen.ReferenceOutIdeal
public import proofs.«01_k».proof.Proof.Gen.ReferenceOutIdeal.Run
public import proofs.«01_k».proof.Proof.Gen.KernelConv
public import proofs.«01_k».proof.Proof.Gen.KernelConv.Frame
public import proofs.«01_k».proof.Proof.Gen.KernelConvIdeal
public import proofs.«01_k».proof.Proof.Gen.KernelConvIdeal.Value
public import proofs.«01_k».proof.Proof.Gen.ReferenceConvIdeal
public import proofs.«01_k».proof.Proof.Gen.ReferenceConvIdeal.Run
public import proofs.«01_k».proof.Proof.Gen.KernelQuery
public import proofs.«01_k».proof.Proof.Gen.KernelQuery.Frame
public import proofs.«01_k».proof.Proof.Gen.KernelQueryIdeal
public import proofs.«01_k».proof.Proof.Gen.KernelQueryIdeal.Value
public import proofs.«01_k».proof.Proof.Gen.ReferenceQueryIdeal
public import proofs.«01_k».proof.Proof.Gen.ReferenceQueryIdeal.Run
public import proofs.«01_k».proof.Proof.RefAt
public import proofs.«01_k».proof.Proof.Results
public import proofs.«01_k».proof.Proof.GateUp
public import proofs.«01_k».proof.Proof.Down
public import proofs.«01_k».proof.Proof.Proj
public import proofs.«01_k».proof.Proof.Merge
public import proofs.«01_k».proof.Proof.OutProj
public import proofs.«01_k».proof.Proof.Conv
public import proofs.«01_k».proof.Proof.Query
public import Idealize.ShloMosaic.Lib.Claim
public import Idealize.ShloMosaic.Adequacy
public import Idealize.ShloMosaic.Init

@[expose] public section

noncomputable section

namespace Cert.Proof

open Idealize.ShloMosaic Idealize.ShloMosaic.TcCoe Idealize.SL.Sem

/-- The reference's frame: its generated run read at the arguments; it declares no semaphore. -/
theorem frame_r : Cert.quiescent_ReferenceIdeal := fun m ρ _ =>
  (θ_run Cert.ReferenceIdeal.defs _ _).mono (fun r h => ⟨fun c => (h c).2.2,
      Idealize.ShloMosaic.sem_eq_zero_of_no_sems (by decide) r.2⟩)
    (Cert.ReferenceIdeal.Value.run (F := Ideal) m ρ)

/-- Over the extended reals, from equal arguments, the kernel's two results — the gated compressed attention and
    the block scores — are the reference's: both are the specification's `attend` and `blockScore`. -/
theorem algebraic : Cert.algebraic_KernelIdeal_ReferenceIdeal := by
  intro m g m' g' _ hagree
  refine ⟨fun c => (Cert.KernelIdeal.Gen.dats m 0 c).arrAt 7 Cert.KernelIdeal.cfg0.N,
    fun c => (Cert.KernelIdeal.Gen.dats m 0 c).arrAt 8 Cert.KernelIdeal.cfg0.N,
    Cert.KernelIdeal.Value.run_blocks m g,
    (θ_run Cert.ReferenceIdeal.defs _ _).mono (fun r h c => ⟨(h c).1.trans ?_, (h c).2.1.trans ?_, (h c).2.2⟩)
      (Cert.ReferenceIdeal.Value.run m' g')⟩
  · obtain ⟨e0, e1, e2, e3, e4, e5⟩ := hagree c
    refine Eq.trans ?_ (Cert.KernelIdeal.Value.attend_out m c).symm
    funext y
    refine (congrArg (Cert.ReferenceIdeal.Value.res_main_v95 m' c) (eq_ix2 y)).trans
      ((Cert.Cmp.ref_attend m' c (y 0) (y 1)).trans ?_)
    rw [e0, e1, e2, e3, e4, e5]
  · obtain ⟨e0, e1, e2, e3, e4, e5⟩ := hagree c
    refine Eq.trans ?_ (Cert.KernelIdeal.Value.score_out m c).symm
    funext y
    refine (congrArg (Cert.ReferenceIdeal.Value.res_main_v97 m' c) (eq_ix3 y)).trans
      ((Cert.Cmp.ref_scores m' c (y 0) (y 1) (y 2)).trans ?_)
    rw [e0, e1, e3, e4, e5]

/-- All parts, call by call: the frames of each kernel are generated and each reference's is its run; the mask constant of the
    compressed attention is named as negative infinity, and no other call has an operation replaced; the results agree. -/
theorem claim : Cert.Claim :=
  ⟨Cert.Kernel.Gen.facts, Cert.KernelIdeal.Gen.facts, Cert.ReferenceIdeal.Gen.facts,
    Cert.KernelUp.Gen.facts, Cert.KernelUpIdeal.Gen.facts, Cert.ReferenceUpIdeal.Gen.facts,
    Cert.KernelDown.Gen.facts, Cert.KernelDownIdeal.Gen.facts, Cert.ReferenceDownIdeal.Gen.facts,
    Cert.KernelProj.Gen.facts, Cert.KernelProjIdeal.Gen.facts, Cert.ReferenceProjIdeal.Gen.facts,
    Cert.KernelMerge.Gen.facts, Cert.KernelMergeIdeal.Gen.facts, Cert.ReferenceMergeIdeal.Gen.facts,
    Cert.KernelOut.Gen.facts, Cert.KernelOutIdeal.Gen.facts, Cert.ReferenceOutIdeal.Gen.facts,
    Cert.KernelConv.Gen.facts, Cert.KernelConvIdeal.Gen.facts, Cert.ReferenceConvIdeal.Gen.facts,
    Cert.KernelQuery.Gen.facts, Cert.KernelQueryIdeal.Gen.facts, Cert.ReferenceQueryIdeal.Gen.facts,
    fun m ρ _ => Cert.Kernel.Gen.frame m ρ, fun m ρ _ => Cert.KernelIdeal.Gen.frame m ρ, frame_r,
    fun m ρ _ => Cert.KernelUp.Gen.frame m ρ, fun m ρ _ => Cert.KernelUpIdeal.Gen.frame m ρ, Cert.GateUp.frame_ref,
    fun m ρ _ => Cert.KernelDown.Gen.frame m ρ, fun m ρ _ => Cert.KernelDownIdeal.Gen.frame m ρ, Cert.Down.frame_ref,
    fun m ρ _ => Cert.KernelProj.Gen.frame m ρ, fun m ρ _ => Cert.KernelProjIdeal.Gen.frame m ρ, Cert.Proj.frame_ref,
    fun m ρ _ => Cert.KernelMerge.Gen.frame m ρ, fun m ρ _ => Cert.KernelMergeIdeal.Gen.frame m ρ, Cert.Merge.frame_ref,
    fun m ρ _ => Cert.KernelOut.Gen.frame m ρ, fun m ρ _ => Cert.KernelOutIdeal.Gen.frame m ρ, Cert.OutProj.frame_ref,
    fun m ρ _ => Cert.KernelConv.Gen.frame m ρ, fun m ρ _ => Cert.KernelConvIdeal.Gen.frame m ρ, Cert.Conv.frame_ref,
    fun m ρ _ => Cert.KernelQuery.Gen.frame m ρ, fun m ρ _ => Cert.KernelQueryIdeal.Gen.frame m ρ, Cert.Query.frame_ref,
    IdealRules.named_const.statement Cert.KernelIdeal.κ "mask" .f32 0xF149F2CA#32 ⊥ rfl, algebraic,
    trivial, Cert.GateUp.algebraic,
    trivial, Cert.Down.algebraic,
    trivial, Cert.Proj.algebraic,
    trivial, Cert.Merge.algebraic,
    trivial, Cert.OutProj.algebraic,
    trivial, Cert.Conv.algebraic,
    trivial, Cert.Query.algebraic⟩

end Cert.Proof

end
